-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_numbers_and_ones [hPre_numbers_and_ones : Cert.Pre_numbers_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.1 = (fun _ => 1#1)
    ∧ (Cert.Pre_numbers_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_numbers_and_ones [hPre_numbers_and_ones : Cert.Pre_numbers_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.1 = (fun _ => 1#1)
    ∧ (Cert.Pre_numbers_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_numbers_and_ones [hKernelIdeal : Cert.KernelIdeal.Facts] [hPre_numbers_and_ones : Cert.Pre_numbers_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_numbers_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_numbers_and_ones [hReferenceIdeal : Cert.ReferenceIdeal.Facts] [hPre_numbers_and_ones : Cert.Pre_numbers_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_numbers_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_numbers_and_ones [hKernelIdeal : Cert.KernelIdeal.Facts] [hReferenceIdeal : Cert.ReferenceIdeal.Facts] [hPre_numbers_and_ones : Cert.Pre_numbers_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_numbers_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_numbers_and_ones : Cert.Pre_numbers_and_ones.Facts),
    quiescent_Kernel (hKernel := hKernel)
    ∧ quiescent_KernelIdeal (hKernelIdeal := hKernelIdeal)
    ∧ quiescent_KernelIdeal_pre_numbers_and_ones (hKernelIdeal := hKernelIdeal) (hPre_numbers_and_ones := hPre_numbers_and_ones)
    ∧ quiescent_ReferenceIdeal (hReferenceIdeal := hReferenceIdeal)
    ∧ quiescent_ReferenceIdeal_pre_numbers_and_ones (hReferenceIdeal := hReferenceIdeal) (hPre_numbers_and_ones := hPre_numbers_and_ones)
    ∧ preserves_Kernel_KernelIdeal
    ∧ algebraic_KernelIdeal_ReferenceIdeal_pre_numbers_and_ones (hKernelIdeal := hKernelIdeal) (hReferenceIdeal := hReferenceIdeal) (hPre_numbers_and_ones := hPre_numbers_and_ones)
-- ==== Pre_numbers_and_ones.lean ====
abbrev S8x4096x512 : Shape := ⟨3, ![8, 4096, 512]⟩
abbrev S8x2048x512 : Shape := ⟨3, ![8, 2048, 512]⟩
abbrev S8x512x512 : Shape := ⟨3, ![8, 512, 512]⟩
abbrev S8x4096 : Shape := ⟨2, ![8, 4096]⟩
abbrev S8x2048 : Shape := ⟨2, ![8, 2048]⟩
abbrev S512x64 : Shape := ⟨2, ![512, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S8x4096x512 : S_.BroadcastsInDim S8x4096x512 (![] : Fin 0 → Fin S8x4096x512.rank)
  bcast_S_S8x2048x512 : S_.BroadcastsInDim S8x2048x512 (![] : Fin 0 → Fin S8x2048x512.rank)
  bcast_S_S8x512x512 : S_.BroadcastsInDim S8x512x512 (![] : Fin 0 → Fin S8x512x512.rank)
  bcast_S_S512x64 : S_.BroadcastsInDim S512x64 (![] : Fin 0 → Fin S512x64.rank)
  bcast_S_S64 : S_.BroadcastsInDim S64 (![] : Fin 0 → Fin S64.rank)
  bcast_S_S64x128 : S_.BroadcastsInDim S64x128 (![] : Fin 0 → Fin S64x128.rank)
  bcast_S_S128 : S_.BroadcastsInDim S128 (![] : Fin 0 → Fin S128.rank)
  bcast_S_S128x256 : S_.BroadcastsInDim S128x256 (![] : Fin 0 → Fin S128x256.rank)
  bcast_S_S256 : S_.BroadcastsInDim S256 (![] : Fin 0 → Fin S256.rank)
  bcast_S_S256x512 : S_.BroadcastsInDim S256x512 (![] : Fin 0 → Fin S256x512.rank)
  bcast_S_S512 : S_.BroadcastsInDim S512 (![] : Fin 0 → Fin S512.rank)
  bcast_S_S8x4096 : S_.BroadcastsInDim S8x4096 (![] : Fin 0 → Fin S8x4096.rank)

variable [Facts]

def fn_part3 {F : FTy → Type} [FloatOps F] (main_arg4 : IVec S8x4096 32) (main_arg5 : IVec S8x4096 32) (main_arg12 : FVec F S256 .f32) (main_arg13 : FVec F S256x512 .f32) (main_arg14 : FVec F S512 .f32) (main_arg18 : FVec F S256 .f32) (main_v6 : IVec S8x4096x512 1) (main_v9 : IVec S8x2048x512 1) (main_v12 : IVec S8x512x512 1) (main_v15 : IVec S512x64 1) (main_v18 : IVec S64 1) (main_v33 : IVec S64x128 1) (main_v48 : IVec S128 1) (main_v55 : IVec S128x256 1) : IVec S8x4096x512 1 × IVec S8x2048x512 1 × IVec S8x512x512 1 × IVec S512x64 1 × IVec S64 1 × IVec S64x128 1 × IVec S128 1 × IVec S128x256 1 × IVec S256 1 × IVec S256x512 1 × IVec S512 1 × IVec S8x4096 1 :=
  let main_v56 : FVec F S256 .f32 := subf main_arg12 main_arg12
  let main_cst_15 : FVec F S_ .f32 := constant S_ .f32 0x00000000#32
  let main_v57 : FVec F S256 .f32 := broadcastInDim S256 ![] bcast_S_S256 main_cst_15
  let main_v58 : IVec S256 1 := cmpf .oeq main_v56 main_v57
  let main_v59 : FVec F S256 .f32 := subf main_arg18 main_arg18
  let main_cst_16 : FVec F S_ .f32 := constant S_ .f32 0x00000000#32
  let main_v60 : FVec F S256 .f32 := broadcastInDim S256 ![] bcast_S_S256 main_cst_16
  let main_v61 : IVec S256 1 := cmpf .oeq main_v59 main_v60
  let main_v62 : IVec S256 1 := andi main_v58 main_v61
  let main_v63 : FVec F S256x512 .f32 := subf main_arg13 main_arg13
  let main_cst_17 : FVec F S_ .f32 := constant S_ .f32 0x00000000#32
  let main_v64 : FVec F S256x512 .f32 := broadcastInDim S256x512 ![] bcast_S_S256x512 main_cst_17
  let main_v65 : IVec S256x512 1 := cmpf .oeq main_v63 main_v64
  let main_v66 : FVec F S512 .f32 := subf main_arg14 main_arg14
  let main_cst_18 : FVec F S_ .f32 := constant S_ .f32 0x00000000#32
  let main_v67 : FVec F S512 .f32 := broadcastInDim S512 ![] bcast_S_S512 main_cst_18
  let main_v68 : IVec S512 1 := cmpf .oeq main_v66 main_v67
  let main_c : IVec S_ 32 := constantI S_ 32 1#32
  let main_v69 : IVec S8x4096 32 := broadcastInDim S8x4096 ![] bcast_S_S8x4096 main_c
  let main_v70 : IVec S8x4096 1 := cmpi .eq main_arg4 main_v69
  let main_c_19 : IVec S_ 32 := constantI S_ 32 1#32
  let main_v71 : IVec S8x4096 32 := broadcastInDim S8x4096 ![] bcast_S_S8x4096 main_c_19
  let main_v72 : IVec S8x4096 1 := cmpi .eq main_arg5 main_v71
  let main_v73 : IVec S8x4096 1 := andi main_v70 main_v72
  (main_v6, main_v9, main_v12, main_v15, main_v18, main_v33, main_v48, main_v55, main_v62, main_v65, main_v68, main_v73)

def fn_part2 {F : FTy → Type} [FloatOps F] (main_arg4 : IVec S8x4096 32) (main_arg5 : IVec S8x4096 32) (main_arg11 : FVec F S128x256 .f32) (main_arg12 : FVec F S256 .f32) (main_arg13 : FVec F S256x512 .f32) (main_arg14 : FVec F S512 .f32) (main_arg16 : FVec F S128 .f32) (main_arg17 : FVec F S128x256 .f32) (main_arg18 : FVec F S256 .f32) (main_arg20 : FVec F S128 .f32) (main_arg22 : FVec F S128 .f32) (main_v6 : IVec S8x4096x512 1) (main_v9 : IVec S8x2048x512 1) (main_v12 : IVec S8x512x512 1) (main_v15 : IVec S512x64 1) (main_v18 : IVec S64 1) (main_v33 : IVec S64x128 1) (main_v36 : IVec S128 1) : IVec S8x4096x512 1 × IVec S8x2048x512 1 × IVec S8x512x512 1 × IVec S512x64 1 × IVec S64 1 × IVec S64x128 1 × IVec S128 1 × IVec S128x256 1 × IVec S256 1 × IVec S256x512 1 × IVec S512 1 × IVec S8x4096 1 :=
  let main_v37 : FVec F S128 .f32 := subf main_arg16 main_arg16
  let main_cst_10 : FVec F S_ .f32 := constant S_ .f32 0x00000000#32
  let main_v38 : FVec F S128 .f32 := broadcastInDim S128 ![] bcast_S_S128 main_cst_10
  let main_v39 : IVec S128 1 := cmpf .oeq main_v37 main_v38
  let main_v40 : FVec F S128 .f32 := subf main_arg20 main_arg20
  let main_cst_11 : FVec F S_ .f32 := constant S_ .f32 0x00000000#32
  let main_v41 : FVec F S128 .f32 := broadcastInDim S128 ![] bcast_S_S128 main_cst_11
  let main_v42 : IVec S128 1 := cmpf .oeq main_v40 main_v41
  let main_v43 : FVec F S128 .f32 := subf main_arg22 main_arg22
  let main_cst_12 : FVec F S_ .f32 := constant S_ .f32 0x00000000#32
  let main_v44 : FVec F S128 .f32 := broadcastInDim S128 ![] bcast_S_S128 main_cst_12
  let main_v45 : IVec S128 1 := cmpf .oeq main_v43 main_v44
  let main_v46 : IVec S128 1 := andi main_v36 main_v39
  let main_v47 : IVec S128 1 := andi main_v46 main_v42
  let main_v48 : IVec S128 1 := andi main_v47 main_v45
  let main_v49 : FVec F S128x256 .f32 := subf main_arg11 main_arg11
  let main_cst_13 : FVec F S_ .f32 := constant S_ .f32 0x00000000#32
  let main_v50 : FVec F S128x256 .f32 := broadcastInDim S128x256 ![] bcast_S_S128x256 main_cst_13
  let main_v51 : IVec S128x256 1 := cmpf .oeq main_v49 main_v50
  let main_v52 : FVec F S128x256 .f32 := subf main_arg17 main_arg17
  let main_cst_14 : FVec F S_ .f32 := constant S_ .f32 0x00000000#32
  let main_v53 : FVec F S128x256 .f32 := broadcastInDim S128x256 ![] bcast_S_S128x256 main_cst_14
  let main_v54 : IVec S128x256 1 := cmpf .oeq main_v52 main_v53
  let main_v55 : IVec S128x256 1 := andi main_v51 main_v54
  fn_part3 (F := F) main_arg4 main_arg5 main_arg12 main_arg13 main_arg14 main_arg18 main_v6 main_v9 main_v12 main_v15 main_v18 main_v33 main_v48 main_v55

def fn_part1 {F : FTy → Type} [FloatOps F] (main_arg4 : IVec S8x4096 32) (main_arg5 : IVec S8x4096 32) (main_arg9 : FVec F S64x128 .f32) (main_arg10 : FVec F S128 .f32) (main_arg11 : FVec F S128x256 .f32) (main_arg12 : FVec F S256 .f32) (main_arg13 : FVec F S256x512 .f32) (main_arg14 : FVec F S512 .f32) (main_arg15 : FVec F S64x128 .f32) (main_arg16 : FVec F S128 .f32) (main_arg17 : FVec F S128x256 .f32) (main_arg18 : FVec F S256 .f32) (main_arg19 : FVec F S64x128 .f32) (main_arg20 : FVec F S128 .f32) (main_arg21 : FVec F S64x128 .f32) (main_arg22 : FVec F S128 .f32) (main_v6 : IVec S8x4096x512 1) (main_v9 : IVec S8x2048x512 1) (main_v12 : IVec S8x512x512 1) (main_v15 : IVec S512x64 1) (main_v16 : FVec F S64 .f32) (main_v17 : FVec F S64 .f32) : IVec S8x4096x512 1 × IVec S8x2048x512 1 × IVec S8x512x512 1 × IVec S512x64 1 × IVec S64 1 × IVec S64x128 1 × IVec S128 1 × IVec S128x256 1 × IVec S256 1 × IVec S256x512 1 × IVec S512 1 × IVec S8x4096 1 :=
  let main_v18 : IVec S64 1 := cmpf .oeq main_v16 main_v17
  let main_v19 : FVec F S64x128 .f32 := subf main_arg9 main_arg9
  let main_cst_5 : FVec F S_ .f32 := constant S_ .f32 0x00000000#32
  let main_v20 : FVec F S64x128 .f32 := broadcastInDim S64x128 ![] bcast_S_S64x128 main_cst_5
  let main_v21 : IVec S64x128 1 := cmpf .oeq main_v19 main_v20
  let main_v22 : FVec F S64x128 .f32 := subf main_arg15 main_arg15
  let main_cst_6 : FVec F S_ .f32 := constant S_ .f32 0x00000000#32
  let main_v23 : FVec F S64x128 .f32 := broadcastInDim S64x128 ![] bcast_S_S64x128 main_cst_6
  let main_v24 : IVec S64x128 1 := cmpf .oeq main_v22 main_v23
  let main_v25 : FVec F S64x128 .f32 := subf main_arg19 main_arg19
  let main_cst_7 : FVec F S_ .f32 := constant S_ .f32 0x00000000#32
  let main_v26 : FVec F S64x128 .f32 := broadcastInDim S64x128 ![] bcast_S_S64x128 main_cst_7
  let main_v27 : IVec S64x128 1 := cmpf .oeq main_v25 main_v26
  let main_v28 : FVec F S64x128 .f32 := subf main_arg21 main_arg21
  let main_cst_8 : FVec F S_ .f32 := constant S_ .f32 0x00000000#32
  let main_v29 : FVec F S64x128 .f32 := broadcastInDim S64x128 ![] bcast_S_S64x128 main_cst_8
  let main_v30 : IVec S64x128 1 := cmpf .oeq main_v28 main_v29
  let main_v31 : IVec S64x128 1 := andi main_v21 main_v24
  let main_v32 : IVec S64x128 1 := andi main_v31 main_v27
  let main_v33 : IVec S64x128 1 := andi main_v32 main_v30
  let main_v34 : FVec F S128 .f32 := subf main_arg10 main_arg10
  let main_cst_9 : FVec F S_ .f32 := constant S_ .f32 0x00000000#32
  let main_v35 : FVec F S128 .f32 := broadcastInDim S128 ![] bcast_S_S128 main_cst_9
  let main_v36 : IVec S128 1 := cmpf .oeq main_v34 main_v35
  fn_part2 (F := F) main_arg4 main_arg5 main_arg11 main_arg12 main_arg13 main_arg14 main_arg16 main_arg17 main_arg18 main_arg20 main_arg22 main_v6 main_v9 main_v12 main_v15 main_v18 main_v33 main_v36

def fn {F : FTy → Type} [FloatOps F] (main_arg0 : FVec F S8x4096x512 .f32) (main_arg1 : FVec F S8x4096x512 .f32) (main_arg2 : FVec F S8x2048x512 .f32) (main_arg3 : FVec F S8x512x512 .f32) (main_arg4 : IVec S8x4096 32) (main_arg5 : IVec S8x4096 32) (main_arg6 : IVec S8x2048 32) (main_arg7 : FVec F S512x64 .f32) (main_arg8 : FVec F S64 .f32) (main_arg9 : FVec F S64x128 .f32) (main_arg10 : FVec F S128 .f32) (main_arg11 : FVec F S128x256 .f32) (main_arg12 : FVec F S256 .f32) (main_arg13 : FVec F S256x512 .f32) (main_arg14 : FVec F S512 .f32) (main_arg15 : FVec F S64x128 .f32) (main_arg16 : FVec F S128 .f32) (main_arg17 : FVec F S128x256 .f32) (main_arg18 : FVec F S256 .f32) (main_arg19 : FVec F S64x128 .f32) (main_arg20 : FVec F S128 .f32) (main_arg21 : FVec F S64x128 .f32) (main_arg22 : FVec F S128 .f32) (main_arg23 : FVec F S1024x1024 .f32) (main_arg24 : FVec F S1024 .f32) : IVec S8x4096x512 1 × IVec S8x2048x512 1 × IVec S8x512x512 1 × IVec S512x64 1 × IVec S64 1 × IVec S64x128 1 × IVec S128 1 × IVec S128x256 1 × IVec S256 1 × IVec S256x512 1 × IVec S512 1 × IVec S8x4096 1 :=
  let main_v0 : FVec F S8x4096x512 .f32 := subf main_arg0 main_arg0
  let main_cst : FVec F S_ .f32 := constant S_ .f32 0x00000000#32
  let main_v1 : FVec F S8x4096x512 .f32 := broadcastInDim S8x4096x512 ![] bcast_S_S8x4096x512 main_cst
  let main_v2 : IVec S8x4096x512 1 := cmpf .oeq main_v0 main_v1
  let main_v3 : FVec F S8x4096x512 .f32 := subf main_arg1 main_arg1
  let main_cst_0 : FVec F S_ .f32 := constant S_ .f32 0x00000000#32
  let main_v4 : FVec F S8x4096x512 .f32 := broadcastInDim S8x4096x512 ![] bcast_S_S8x4096x512 main_cst_0
  let main_v5 : IVec S8x4096x512 1 := cmpf .oeq main_v3 main_v4
  let main_v6 : IVec S8x4096x512 1 := andi main_v2 main_v5
  let main_v7 : FVec F S8x2048x512 .f32 := subf main_arg2 main_arg2
  let main_cst_1 : FVec F S_ .f32 := constant S_ .f32 0x00000000#32
  let main_v8 : FVec F S8x2048x512 .f32 := broadcastInDim S8x2048x512 ![] bcast_S_S8x2048x512 main_cst_1
  let main_v9 : IVec S8x2048x512 1 := cmpf .oeq main_v7 main_v8
  let main_v10 : FVec F S8x512x512 .f32 := subf main_arg3 main_arg3
  let main_cst_2 : FVec F S_ .f32 := constant S_ .f32 0x00000000#32
  let main_v11 : FVec F S8x512x512 .f32 := broadcastInDim S8x512x512 ![] bcast_S_S8x512x512 main_cst_2
  let main_v12 : IVec S8x512x512 1 := cmpf .oeq main_v10 main_v11
  let main_v13 : FVec F S512x64 .f32 := subf main_arg7 main_arg7
  let main_cst_3 : FVec F S_ .f32 := constant S_ .f32 0x00000000#32
  let main_v14 : FVec F S512x64 .f32 := broadcastInDim S512x64 ![] bcast_S_S512x64 main_cst_3
  let main_v15 : IVec S512x64 1 := cmpf .oeq main_v13 main_v14
  let main_v16 : FVec F S64 .f32 := subf main_arg8 main_arg8
  let main_cst_4 : FVec F S_ .f32 := constant S_ .f32 0x00000000#32
  let main_v17 : FVec F S64 .f32 := broadcastInDim S64 ![] bcast_S_S64 main_cst_4
  fn_part1 (F := F) main_arg4 main_arg5 main_arg9 main_arg10 main_arg11 main_arg12 main_arg13 main_arg14 main_arg15 main_arg16 main_arg17 main_arg18 main_arg19 main_arg20 main_arg21 main_arg22 main_v6 main_v9 main_v12 main_v15 main_v16 main_v17
-- ==== Kernel.lean ====
abbrev S8x4096x512 : Shape := ⟨3, ![8, 4096, 512]⟩
abbrev S8x2048x512 : Shape := ⟨3, ![8, 2048, 512]⟩
abbrev S8x512x512 : Shape := ⟨3, ![8, 512, 512]⟩
abbrev S8x4096 : Shape := ⟨2, ![8, 4096]⟩
abbrev S8x2048 : Shape := ⟨2, ![8, 2048]⟩
abbrev S512x64 : Shape := ⟨2, ![512, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S32768x512 : Shape := ⟨2, ![32768, 512]⟩
abbrev S16384x512 : Shape := ⟨2, ![16384, 512]⟩
abbrev S4096x512 : Shape := ⟨2, ![4096, 512]⟩
abbrev S1x64 : Shape := ⟨2, ![1, 64]⟩
abbrev S1x128 : Shape := ⟨2, ![1, 128]⟩
abbrev S1x256 : Shape := ⟨2, ![1, 256]⟩
abbrev S1x512 : Shape := ⟨2, ![1, 512]⟩
abbrev S1x1024 : Shape := ⟨2, ![1, 1024]⟩
abbrev S8x512 : Shape := ⟨2, ![8, 512]⟩
abbrev S32768x128 : Shape := ⟨2, ![32768, 128]⟩
abbrev S32768x256 : Shape := ⟨2, ![32768, 256]⟩
abbrev S256x256 : Shape := ⟨2, ![256, 256]⟩
abbrev S8x256 : Shape := ⟨2, ![8, 256]⟩
abbrev S4096x64 : Shape := ⟨2, ![4096, 64]⟩
abbrev S4096x128 : Shape := ⟨2, ![4096, 128]⟩
abbrev S4096x256 : Shape := ⟨2, ![4096, 256]⟩
abbrev S8x1 : Shape := ⟨2, ![8, 1]⟩
abbrev S128x128 : Shape := ⟨2, ![128, 128]⟩
abbrev S8x128 : Shape := ⟨2, ![8, 128]⟩
abbrev S2048x512 : Shape := ⟨2, ![2048, 512]⟩
abbrev S64x64 : Shape := ⟨2, ![64, 64]⟩
abbrev S8x64 : Shape := ⟨2, ![8, 64]⟩
abbrev S2048x64 : Shape := ⟨2, ![2048, 64]⟩
abbrev S4096x1024 : Shape := ⟨2, ![4096, 1024]⟩
abbrev S512x512 : Shape := ⟨2, ![512, 512]⟩
abbrev S512x1024 : Shape := ⟨2, ![512, 1024]⟩
abbrev S8x1024 : Shape := ⟨2, ![8, 1024]⟩
abbrev S512x128 : Shape := ⟨2, ![512, 128]⟩
abbrev S8x896 : Shape := ⟨2, ![8, 896]⟩
abbrev S896x1024 : Shape := ⟨2, ![896, 1024]⟩
abbrev S128x1024 : Shape := ⟨2, ![128, 1024]⟩
abbrev S8x512x1024 : Shape := ⟨3, ![8, 512, 1024]⟩

abbrev nBuf : Space → Nat
  | .hbm => 43
  | .vmem => 70
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x2048x512, .f32⟩
  | .hbm, ⟨3, _⟩ => ⟨S8x512x512, .f32⟩
  | .hbm, ⟨4, _⟩ => ⟨S8x4096, .i32⟩
  | .hbm, ⟨5, _⟩ => ⟨S8x4096, .i32⟩
  | .hbm, ⟨6, _⟩ => ⟨S8x2048, .i32⟩
  | .hbm, ⟨7, _⟩ => ⟨S512x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x256, .f32⟩
  | .hbm, ⟨12, _⟩ => ⟨S256, .f32⟩
  | .hbm, ⟨13, _⟩ => ⟨S256x512, .f32⟩
  | .hbm, ⟨14, _⟩ => ⟨S512, .f32⟩
  | .hbm, ⟨15, _⟩ => ⟨S64x128, .f32⟩
  | .hbm, ⟨16, _⟩ => ⟨S128, .f32⟩
  | .hbm, ⟨17, _⟩ => ⟨S128x256, .f32⟩
  | .hbm, ⟨18, _⟩ => ⟨S256, .f32⟩
  | .hbm, ⟨19, _⟩ => ⟨S64x128, .f32⟩
  | .hbm, ⟨20, _⟩ => ⟨S128, .f32⟩
  | .hbm, ⟨21, _⟩ => ⟨S64x128, .f32⟩
  | .hbm, ⟨22, _⟩ => ⟨S128, .f32⟩
  | .hbm, ⟨23, _⟩ => ⟨S1024x1024, .f32⟩
  | .hbm, ⟨24, _⟩ => ⟨S1024, .f32⟩
  | .hbm, ⟨25, _⟩ => ⟨S32768x512, .f32⟩
  | .hbm, ⟨26, _⟩ => ⟨S32768x512, .f32⟩
  | .hbm, ⟨27, _⟩ => ⟨S16384x512, .f32⟩
  | .hbm, ⟨28, _⟩ => ⟨S4096x512, .f32⟩
  | .hbm, ⟨29, _⟩ => ⟨S1x64, .f32⟩
  | .hbm, ⟨30, _⟩ => ⟨S1x128, .f32⟩
  | .hbm, ⟨31, _⟩ => ⟨S1x256, .f32⟩
  | .hbm, ⟨32, _⟩ => ⟨S1x512, .f32⟩
  | .hbm, ⟨33, _⟩ => ⟨S1x128, .f32⟩
  | .hbm, ⟨34, _⟩ => ⟨S1x256, .f32⟩
  | .hbm, ⟨35, _⟩ => ⟨S1x128, .f32⟩
  | .hbm, ⟨36, _⟩ => ⟨S1x128, .f32⟩
  | .hbm, ⟨37, _⟩ => ⟨S1x1024, .f32⟩
  | .hbm, ⟨38, _⟩ => ⟨S8x512, .f32⟩
  | .hbm, ⟨39, _⟩ => ⟨S8x256, .f32⟩
  | .hbm, ⟨40, _⟩ => ⟨S8x128, .f32⟩
  | .hbm, ⟨41, _⟩ => ⟨S4096x1024, .f32⟩
  | .hbm, ⟨42, _⟩ => ⟨S8x512x1024, .f32⟩
  | .local _ .vmem, ⟨0, _⟩ => ⟨S4096x512, .f32⟩
  | .local _ .vmem, ⟨1, _⟩ => ⟨S4096x512, .f32⟩
  | .local _ .vmem, ⟨2, _⟩ => ⟨S512x64, .f32⟩
  | .local _ .vmem, ⟨3, _⟩ => ⟨S1x64, .f32⟩
  | .local _ .vmem, ⟨4, _⟩ => ⟨S64x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S256x512, .f32⟩
  | .local _ .vmem, ⟨9, _⟩ => ⟨S1x512, .f32⟩
  | .local _ .vmem, ⟨10, _⟩ => ⟨S8x512, .f32⟩
  | .local _ .vmem, ⟨11, _⟩ => ⟨S32768x128, .bf16⟩
  | .local _ .vmem, ⟨12, _⟩ => ⟨S32768x256, .bf16⟩
  | .local _ .vmem, ⟨13, _⟩ => ⟨S1x128, .f32⟩
  | .local _ .vmem, ⟨14, _⟩ => ⟨S1x128, .f32⟩
  | .local _ .vmem, ⟨15, _⟩ => ⟨S1x256, .f32⟩
  | .local _ .vmem, ⟨16, _⟩ => ⟨S1x256, .f32⟩
  | .local _ .vmem, ⟨17, _⟩ => ⟨S1x128, .f32⟩
  | .local _ .vmem, ⟨18, _⟩ => ⟨S1x128, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S8x256, .f32⟩
  | .local _ .vmem, ⟨24, _⟩ => ⟨S4096x512, .f32⟩
  | .local _ .vmem, ⟨25, _⟩ => ⟨S4096x512, .f32⟩
  | .local _ .vmem, ⟨26, _⟩ => ⟨S512x64, .f32⟩
  | .local _ .vmem, ⟨27, _⟩ => ⟨S1x64, .f32⟩
  | .local _ .vmem, ⟨28, _⟩ => ⟨S64x128, .f32⟩
  | .local _ .vmem, ⟨29, _⟩ => ⟨S1x128, .f32⟩
  | .local _ .vmem, ⟨30, _⟩ => ⟨S128x256, .f32⟩
  | .local _ .vmem, ⟨31, _⟩ => ⟨S1x256, .f32⟩
  | .local _ .vmem, ⟨32, _⟩ => ⟨S8x256, .f32⟩
  | .local _ .vmem, ⟨33, _⟩ => ⟨S32768x128, .bf16⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S128x128, .f32⟩
  | .local _ .vmem, ⟨40, _⟩ => ⟨S8x128, .f32⟩
  | .local _ .vmem, ⟨41, _⟩ => ⟨S2048x512, .f32⟩
  | .local _ .vmem, ⟨42, _⟩ => ⟨S2048x512, .f32⟩
  | .local _ .vmem, ⟨43, _⟩ => ⟨S512x64, .f32⟩
  | .local _ .vmem, ⟨44, _⟩ => ⟨S1x64, .f32⟩
  | .local _ .vmem, ⟨45, _⟩ => ⟨S64x128, .f32⟩
  | .local _ .vmem, ⟨46, _⟩ => ⟨S1x128, .f32⟩
  | .local _ .vmem, ⟨47, _⟩ => ⟨S8x128, .f32⟩
  | .local _ .vmem, ⟨48, _⟩ => ⟨S1x64, .f32⟩
  | .local _ .vmem, ⟨49, _⟩ => ⟨S64x64, .f32⟩
  | .local _ .vmem, ⟨50, _⟩ => ⟨S8x64, .f32⟩
  | .local _ .vmem, ⟨51, _⟩ => ⟨S512x512, .f32⟩
  | .local _ .vmem, ⟨52, _⟩ => ⟨S512x512, .f32⟩
  | .local _ .vmem, ⟨53, _⟩ => ⟨S512x64, .f32⟩
  | .local _ .vmem, ⟨54, _⟩ => ⟨S1x64, .f32⟩
  | .local _ .vmem, ⟨55, _⟩ => ⟨S64x128, .f32⟩
  | .local _ .vmem, ⟨56, _⟩ => ⟨S1x128, .f32⟩
  | .local _ .vmem, ⟨57, _⟩ => ⟨S1024x1024, .f32⟩
  | .local _ .vmem, ⟨58, _⟩ => ⟨S1x1024, .f32⟩
  | .local _ .vmem, ⟨59, _⟩ => ⟨S8x128, .f32⟩
  | .local _ .vmem, ⟨60, _⟩ => ⟨S8x256, .f32⟩
  | .local _ .vmem, ⟨61, _⟩ => ⟨S8x512, .f32⟩
  | .local _ .vmem, ⟨62, _⟩ => ⟨S512x1024, .f32⟩
  | .local _ .vmem, ⟨63, _⟩ => ⟨S512x1024, .f32⟩
  | .local _ .vmem, ⟨64, _⟩ => ⟨S4096x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S8x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc1_scratch5 : Ref sig .tc := ⟨.vmem, 38, rfl⟩
abbrev cc1_scratch6 : Ref sig .tc := ⟨.vmem, 39, rfl⟩
abbrev cc1_scratch7 : Ref sig .tc := ⟨.vmem, 40, rfl⟩
abbrev cc2_stg0_0 : Ref sig .tc := ⟨.vmem, 41, rfl⟩
abbrev cc2_stg0_1 : Ref sig .tc := ⟨.vmem, 42, rfl⟩
abbrev cc2_stg1_0 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_scratch0 : Ref sig .tc := ⟨.vmem, 48, rfl⟩
abbrev cc2_scratch1 : Ref sig .tc := ⟨.vmem, 49, rfl⟩
abbrev cc2_scratch2 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg9_0 : Ref sig .tc := ⟨.vmem, 61, rfl⟩
abbrev cc3_stg10_0 : Ref sig .tc := ⟨.vmem, 62, rfl⟩
abbrev cc3_stg10_1 : Ref sig .tc := ⟨.vmem, 63, rfl⟩
abbrev cc3_scratch0 : Ref sig .tc := ⟨.vmem, 64, rfl⟩
abbrev cc3_scratch1 : Ref sig .tc := ⟨.vmem, 65, rfl⟩
abbrev cc3_scratch2 : Ref sig .tc := ⟨.vmem, 66, rfl⟩
abbrev cc3_scratch3 : Ref sig .tc := ⟨.vmem, 67, rfl⟩
abbrev cc3_scratch4 : Ref sig .tc := ⟨.vmem, 68, rfl⟩
abbrev cc3_scratch5 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem10_1 : DmaSem sig := 39

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c4096_i32 : BitVec 32 := 4096#32
  let v0 : BitVec 32 := Scalar.muli arg1 c4096_i32
  let v28 : Index := Scalar.indexCast v0
  let c0_15 : Index := 0#32
  ![v28.toNat, 0]
def k0_cond3 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c4096_i32 : BitVec 32 := 4096#32
  let v0 : BitVec 32 := Scalar.muli arg1 c4096_i32
  let v13 : Index := Scalar.indexCast v0
  let c0 : Index := 0#32
  ![v13.toNat, 0]
def k0_off3 (i : grid0.Coords) : Fin 2 → Nat :=
  let arg1 : BitVec 32 := BitVec.ofNat 32 (i 1).val
  let c4096_i32 : BitVec 32 := 4096#32
  let v0 : BitVec 32 := Scalar.muli arg1 c4096_i32
  let v33 : Index := Scalar.indexCast v0
  let c0_14 : Index := 0#32
  ![v33.toNat, 0]
def k0_cond5 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off4 (i : grid0.Coords) : Fin 2 → Nat :=
  let arg1 : BitVec 32 := BitVec.ofNat 32 (i 1).val
  let c4096_i32 : BitVec 32 := 4096#32
  let v0 : BitVec 32 := Scalar.muli arg1 c4096_i32
  let v13 : Index := Scalar.indexCast v0
  let c0 : Index := 0#32
  ![v13.toNat, 0]
def k0_cond7 (i : grid0.Coords) : BitVec 1 :=
  let arg1 : BitVec 32 := BitVec.ofNat 32 (i 1).val
  let c7_i32 : BitVec 32 := 7#32
  let v69 : BitVec 1 := Scalar.cmpi .eq arg1 c7_i32
  let v70 : BitVec 32 := Scalar.extui v69
  let c0_i32_30 : BitVec 32 := 0#32
  let v71 : BitVec 1 := Scalar.cmpi .ne v70 c0_i32_30
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![2, 8], ![false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_off1 (i : grid1.Coords) : Fin 2 → Nat :=
  let arg1 : BitVec 32 := BitVec.ofNat 32 (i 1).val
  let c4096_i32 : BitVec 32 := 4096#32
  let v0 : BitVec 32 := Scalar.muli arg1 c4096_i32
  let v25 : Index := Scalar.indexCast v0
  let c0_14 : Index := 0#32
  ![v25.toNat, 0]
def k1_cond3 (i : grid1.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k1_off2 (i : grid1.Coords) : Fin 2 → Nat :=
  let arg1 : BitVec 32 := BitVec.ofNat 32 (i 1).val
  let c4096_i32 : BitVec 32 := 4096#32
  let v0 : BitVec 32 := Scalar.muli arg1 c4096_i32
  let v10 : Index := Scalar.indexCast v0
  let c0 : Index := 0#32
  ![v10.toNat, 0]
def k1_cond5 (i : grid1.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_29 : BitVec 32 := 0#32
  let v68 : BitVec 1 := Scalar.cmpi .ne v67 c0_i32_29
  v68

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_26 : BitVec 32 := 0#32
  let v58 : BitVec 1 := Scalar.cmpi .ne v57 c0_i32_26
  v58

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨2, ![2, 8], ![false, false]⟩

def k3_cond1 (i : grid3.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k3_off1 (i : grid3.Coords) : Fin 2 → Nat :=
  let arg1 : BitVec 32 := BitVec.ofNat 32 (i 1).val
  let c512_i32 : BitVec 32 := 512#32
  let v0 : BitVec 32 := Scalar.muli arg1 c512_i32
  let v24 : Index := Scalar.indexCast v0
  let c0_14 : Index := 0#32
  ![v24.toNat, 0]
def k3_cond3 (i : grid3.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k3_off2 (i : grid3.Coords) : Fin 2 → Nat :=
  let arg1 : BitVec 32 := BitVec.ofNat 32 (i 1).val
  let c512_i32 : BitVec 32 := 512#32
  let v0 : BitVec 32 := Scalar.muli arg1 c512_i32
  let v10 : Index := Scalar.indexCast v0
  let c0 : Index := 0#32
  ![v10.toNat, 0]
def k3_off3 (i : grid3.Coords) : Fin 2 → Nat :=
  let arg1 : BitVec 32 := BitVec.ofNat 32 (i 1).val
  let v20 : Index := Scalar.indexCast arg1
  let c0_10 : Index := 0#32
  ![v20.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S512x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1024x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S8x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S8x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S8x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S512x1024 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]
-- ==== ReferenceIdeal.lean ====
abbrev S8x4096x512 : Shape := ⟨3, ![8, 4096, 512]⟩
abbrev S8x2048x512 : Shape := ⟨3, ![8, 2048, 512]⟩
abbrev S8x512x512 : Shape := ⟨3, ![8, 512, 512]⟩
abbrev S8x4096 : Shape := ⟨2, ![8, 4096]⟩
abbrev S8x2048 : Shape := ⟨2, ![8, 2048]⟩
abbrev S512x64 : Shape := ⟨2, ![512, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1024x1024 : Shape := ⟨2, ![1024, 1024]⟩
abbrev S1024 : Shape := ⟨1, ![1024]⟩
abbrev S8x4096x64 : Shape := ⟨3, ![8, 4096, 64]⟩
abbrev S1x1x64 : Shape := ⟨3, ![1, 1, 64]⟩
abbrev S8x4096x128 : Shape := ⟨3, ![8, 4096, 128]⟩
abbrev S1x1x128 : Shape := ⟨3, ![1, 1, 128]⟩
abbrev S32768x128 : Shape := ⟨2, ![32768, 128]⟩
abbrev S_ : Shape := ⟨0, ![]⟩
abbrev S1x128 : Shape := ⟨2, ![1, 128]⟩
abbrev S8x4096x4096 : Shape := ⟨3, ![8, 4096, 4096]⟩
abbrev S8x1x4096 : Shape := ⟨3, ![8, 1, 4096]⟩
abbrev S8x4096x1 : Shape := ⟨3, ![8, 4096, 1]⟩
abbrev S8x4096x256 : Shape := ⟨3, ![8, 4096, 256]⟩
abbrev S1x1x256 : Shape := ⟨3, ![1, 1, 256]⟩
abbrev S32768x256 : Shape := ⟨2, ![32768, 256]⟩
abbrev S1x256 : Shape := ⟨2, ![1, 256]⟩
abbrev S1x1x512 : Shape := ⟨3, ![1, 1, 512]⟩
abbrev S32768x512 : Shape := ⟨2, ![32768, 512]⟩
abbrev S1x512 : Shape := ⟨2, ![1, 512]⟩
abbrev S8x512 : Shape := ⟨2, ![8, 512]⟩
abbrev S8x1x512 : Shape := ⟨3, ![8, 1, 512]⟩
abbrev S8x256 : Shape := ⟨2, ![8, 256]⟩
abbrev S8x1x256 : Shape := ⟨3, ![8, 1, 256]⟩
abbrev S8x2048x64 : Shape := ⟨3, ![8, 2048, 64]⟩
abbrev S8x2048x128 : Shape := ⟨3, ![8, 2048, 128]⟩
abbrev S16384x128 : Shape := ⟨2, ![16384, 128]⟩
abbrev S8x128 : Shape := ⟨2, ![8, 128]⟩
abbrev S8x1x128 : Shape := ⟨3, ![8, 1, 128]⟩
abbrev S8x512x64 : Shape := ⟨3, ![8, 512, 64]⟩
abbrev S8x512x128 : Shape := ⟨3, ![8, 512, 128]⟩
abbrev S4096x128 : Shape := ⟨2, ![4096, 128]⟩
abbrev S8x512x256 : Shape := ⟨3, ![8, 512, 256]⟩
abbrev S8x512x1024 : Shape := ⟨3, ![8, 512, 1024]⟩
abbrev S1x1x1024 : Shape := ⟨3, ![1, 1, 1024]⟩

abbrev nBuf : Space → Nat
  | .hbm => 474
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x2048x512, .f32⟩
  | 3 => ⟨S8x512x512, .f32⟩
  | 4 => ⟨S8x4096, .i32⟩
  | 5 => ⟨S8x4096, .i32⟩
  | 6 => ⟨S8x2048, .i32⟩
  | 7 => ⟨S512x64, .f32⟩
  | 8 => ⟨S64, .f32⟩
  | 9 => ⟨S64x128, .f32⟩
  | 10 => ⟨S128, .f32⟩
  | 11 => ⟨S128x256, .f32⟩
  | 12 => ⟨S256, .f32⟩
  | 13 => ⟨S256x512, .f32⟩
  | 14 => ⟨S512, .f32⟩
  | 15 => ⟨S64x128, .f32⟩
  | 16 => ⟨S128, .f32⟩
  | 17 => ⟨S128x256, .f32⟩
  | 18 => ⟨S256, .f32⟩
  | 19 => ⟨S64x128, .f32⟩
  | 20 => ⟨S128, .f32⟩
  | 21 => ⟨S64x128, .f32⟩
  | 22 => ⟨S128, .f32⟩
  | 23 => ⟨S1024x1024, .f32⟩
  | 24 => ⟨S1024, .f32⟩
  | 25 => ⟨S8x4096x64, .f32⟩
  | 26 => ⟨S1x1x64, .f32⟩
  | 27 => ⟨S8x4096x64, .f32⟩
  | 28 => ⟨S8x4096x64, .f32⟩
  | 29 => ⟨S8x4096x128, .f32⟩
  | 30 => ⟨S1x1x128, .f32⟩
  | 31 => ⟨S8x4096x128, .f32⟩
  | 32 => ⟨S8x4096x128, .f32⟩
  | 33 => ⟨S32768x128, .f32⟩
  | 34 => ⟨S_, .f32⟩
  | 35 => ⟨S128, .f32⟩
  | 36 => ⟨S_, .f32⟩
  | 37 => ⟨S128, .f32⟩
  | 38 => ⟨S128, .f32⟩
  | 39 => ⟨S_, .i32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S32768x128, .f32⟩
  | 47 => ⟨S32768x128, .f32⟩
  | 48 => ⟨S32768x128, .f32⟩
  | 49 => ⟨S_, .f32⟩
  | 50 => ⟨S_, .f32⟩
  | 51 => ⟨S_, .f32⟩
  | 52 => ⟨S_, .f32⟩
  | 53 => ⟨S128, .f32⟩
  | 54 => ⟨S128, .f32⟩
  | 55 => ⟨S128, .f32⟩
  | 56 => ⟨S_, .f32⟩
  | 57 => ⟨S_, .i1⟩
  | 58 => ⟨S_, .f32⟩
  | 59 => ⟨S_, .f32⟩
  | 60 => ⟨S128, .f32⟩
  | 61 => ⟨S128, .f32⟩
  | 62 => ⟨S1x128, .f32⟩
  | 63 => ⟨S32768x128, .f32⟩
  | 64 => ⟨S32768x128, .f32⟩
  | 65 => ⟨S_, .f32⟩
  | 66 => ⟨S128, .f32⟩
  | 67 => ⟨S128, .f32⟩
  | 68 => ⟨S128, .f32⟩
  | 69 => ⟨S1x128, .f32⟩
  | 70 => ⟨S32768x128, .f32⟩
  | 71 => ⟨S32768x128, .f32⟩
  | 72 => ⟨S8x4096x128, .f32⟩
  | 73 => ⟨S_, .f32⟩
  | 74 => ⟨S8x4096x128, .f32⟩
  | 75 => ⟨S8x4096x128, .f32⟩
  | 76 => ⟨S_, .i32⟩
  | 77 => ⟨S_, .i32⟩
  | 78 => ⟨S8x4096, .i32⟩
  | 79 => ⟨S8x4096x4096, .i32⟩
  | 80 => ⟨S8x1x4096, .i32⟩
  | 81 => ⟨S8x4096x4096, .i32⟩
  | 82 => ⟨S8x4096x4096, .i1⟩
  | 83 => ⟨S8x4096x4096, .i32⟩
  | 84 => ⟨S_, .i32⟩
  | 85 => ⟨S8x4096, .i32⟩
  | 86 => ⟨S_, .i32⟩
  | 87 => ⟨S8x4096, .i32⟩
  | 88 => ⟨S8x4096, .i32⟩
  | 89 => ⟨S8x1x4096, .i32⟩
  | 90 => ⟨S8x4096x4096, .i32⟩
  | 91 => ⟨S8x4096x4096, .i32⟩
  | 92 => ⟨S8x4096x4096, .i1⟩
  | 93 => ⟨S_, .f32⟩
  | 94 => ⟨S_, .f32⟩
  | 95 => ⟨S8x4096x4096, .f32⟩
  | 96 => ⟨S8x4096x4096, .f32⟩
  | 97 => ⟨S8x4096x4096, .f32⟩
  | 98 => ⟨S8x4096x128, .f32⟩
  | 99 => ⟨S_, .i32⟩
  | 100 => ⟨S8x4096, .i32⟩
  | 101 => ⟨S8x4096, .i32⟩
  | 102 => ⟨S8x4096, .f32⟩
  | 103 => ⟨S8x4096x1, .f32⟩
  | 104 => ⟨S8x4096x128, .f32⟩
  | 105 => ⟨S8x4096x128, .f32⟩
  | 106 => ⟨S8x4096x256, .f32⟩
  | 107 => ⟨S1x1x256, .f32⟩
  | 108 => ⟨S8x4096x256, .f32⟩
  | 109 => ⟨S8x4096x256, .f32⟩
  | 110 => ⟨S32768x256, .f32⟩
  | 111 => ⟨S_, .f32⟩
  | 112 => ⟨S256, .f32⟩
  | 113 => ⟨S_, .f32⟩
  | 114 => ⟨S256, .f32⟩
  | 115 => ⟨S256, .f32⟩
  | 116 => ⟨S_, .i32⟩
  | 117 => ⟨S_, .f32⟩
  | 118 => ⟨S256, .f32⟩
  | 119 => ⟨S1x256, .f32⟩
  | 120 => ⟨S_, .f32⟩
  | 121 => ⟨S1x256, .f32⟩
  | 122 => ⟨S1x256, .f32⟩
  | 123 => ⟨S32768x256, .f32⟩
  | 124 => ⟨S32768x256, .f32⟩
  | 125 => ⟨S32768x256, .f32⟩
  | 126 => ⟨S_, .f32⟩
  | 127 => ⟨S_, .f32⟩
  | _ => ⟨S8x4096x512, .f32⟩

abbrev hbmTy0_1 (i : Nat) : BufTy := match i % 128 with
  | 0 => ⟨S_, .f32⟩
  | 1 => ⟨S_, .f32⟩
  | 2 => ⟨S256, .f32⟩
  | 3 => ⟨S256, .f32⟩
  | 4 => ⟨S256, .f32⟩
  | 5 => ⟨S_, .f32⟩
  | 6 => ⟨S_, .i1⟩
  | 7 => ⟨S_, .f32⟩
  | 8 => ⟨S_, .f32⟩
  | 9 => ⟨S256, .f32⟩
  | 10 => ⟨S256, .f32⟩
  | 11 => ⟨S1x256, .f32⟩
  | 12 => ⟨S32768x256, .f32⟩
  | 13 => ⟨S32768x256, .f32⟩
  | 14 => ⟨S_, .f32⟩
  | 15 => ⟨S256, .f32⟩
  | 16 => ⟨S256, .f32⟩
  | 17 => ⟨S256, .f32⟩
  | 18 => ⟨S1x256, .f32⟩
  | 19 => ⟨S32768x256, .f32⟩
  | 20 => ⟨S32768x256, .f32⟩
  | 21 => ⟨S8x4096x256, .f32⟩
  | 22 => ⟨S_, .f32⟩
  | 23 => ⟨S8x4096x256, .f32⟩
  | 24 => ⟨S8x4096x256, .f32⟩
  | 25 => ⟨S_, .i32⟩
  | 26 => ⟨S_, .i32⟩
  | 27 => ⟨S8x4096, .i32⟩
  | 28 => ⟨S8x4096x4096, .i32⟩
  | 29 => ⟨S8x1x4096, .i32⟩
  | 30 => ⟨S8x4096x4096, .i32⟩
  | 31 => ⟨S8x4096x4096, .i1⟩
  | 32 => ⟨S8x4096x4096, .i32⟩
  | 33 => ⟨S_, .i32⟩
  | 34 => ⟨S8x4096, .i32⟩
  | 35 => ⟨S_, .i32⟩
  | 36 => ⟨S8x4096, .i32⟩
  | 37 => ⟨S8x4096, .i32⟩
  | 38 => ⟨S8x1x4096, .i32⟩
  | 39 => ⟨S8x4096x4096, .i32⟩
  | 40 => ⟨S8x4096x4096, .i32⟩
  | 41 => ⟨S8x4096x4096, .i1⟩
  | 42 => ⟨S_, .f32⟩
  | 43 => ⟨S_, .f32⟩
  | 44 => ⟨S8x4096x4096, .f32⟩
  | 45 => ⟨S8x4096x4096, .f32⟩
  | 46 => ⟨S8x4096x4096, .f32⟩
  | 47 => ⟨S8x4096x256, .f32⟩
  | 48 => ⟨S_, .i32⟩
  | 49 => ⟨S8x4096, .i32⟩
  | 50 => ⟨S8x4096, .i32⟩
  | 51 => ⟨S8x4096, .f32⟩
  | 52 => ⟨S8x4096x1, .f32⟩
  | 53 => ⟨S8x4096x256, .f32⟩
  | 54 => ⟨S8x4096x256, .f32⟩
  | 55 => ⟨S8x4096x512, .f32⟩
  | 56 => ⟨S1x1x512, .f32⟩
  | 57 => ⟨S8x4096x512, .f32⟩
  | 58 => ⟨S8x4096x512, .f32⟩
  | 59 => ⟨S32768x512, .f32⟩
  | 60 => ⟨S_, .f32⟩
  | 61 => ⟨S512, .f32⟩
  | 62 => ⟨S_, .f32⟩
  | 63 => ⟨S512, .f32⟩
  | 64 => ⟨S512, .f32⟩
  | 65 => ⟨S_, .i32⟩
  | 66 => ⟨S_, .f32⟩
  | 67 => ⟨S512, .f32⟩
  | 68 => ⟨S1x512, .f32⟩
  | 69 => ⟨S_, .f32⟩
  | 70 => ⟨S1x512, .f32⟩
  | 71 => ⟨S1x512, .f32⟩
  | 72 => ⟨S32768x512, .f32⟩
  | 73 => ⟨S32768x512, .f32⟩
  | 74 => ⟨S32768x512, .f32⟩
  | 75 => ⟨S_, .f32⟩
  | 76 => ⟨S_, .f32⟩
  | 77 => ⟨S_, .f32⟩
  | 78 => ⟨S_, .f32⟩
  | 79 => ⟨S512, .f32⟩
  | 80 => ⟨S512, .f32⟩
  | 81 => ⟨S512, .f32⟩
  | 82 => ⟨S_, .f32⟩
  | 83 => ⟨S_, .i1⟩
  | 84 => ⟨S_, .f32⟩
  | 85 => ⟨S_, .f32⟩
  | 86 => ⟨S512, .f32⟩
  | 87 => ⟨S512, .f32⟩
  | 88 => ⟨S1x512, .f32⟩
  | 89 => ⟨S32768x512, .f32⟩
  | 90 => ⟨S32768x512, .f32⟩
  | 91 => ⟨S_, .f32⟩
  | 92 => ⟨S512, .f32⟩
  | 93 => ⟨S512, .f32⟩
  | 94 => ⟨S512, .f32⟩
  | 95 => ⟨S1x512, .f32⟩
  | 96 => ⟨S32768x512, .f32⟩
  | 97 => ⟨S32768x512, .f32⟩
  | 98 => ⟨S8x4096x512, .f32⟩
  | 99 => ⟨S_, .f32⟩
  | 100 => ⟨S8x512, .f32⟩
  | 101 => ⟨S8x1x512, .f32⟩
  | 102 => ⟨S_, .f32⟩
  | 103 => ⟨S8x1x512, .f32⟩
  | 104 => ⟨S8x1x512, .f32⟩
  | 105 => ⟨S8x4096x64, .f32⟩
  | 106 => ⟨S1x1x64, .f32⟩
  | 107 => ⟨S8x4096x64, .f32⟩
  | 108 => ⟨S8x4096x64, .f32⟩
  | 109 => ⟨S8x4096x128, .f32⟩
  | 110 => ⟨S1x1x128, .f32⟩
  | 111 => ⟨S8x4096x128, .f32⟩
  | 112 => ⟨S8x4096x128, .f32⟩
  | 113 => ⟨S32768x128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S32768x128, .f32⟩
  | 127 => ⟨S32768x128, .f32⟩
  | _ => ⟨S8x4096x512, .f32⟩

abbrev hbmTy0_2 (i : Nat) : BufTy := match i % 128 with
  | 0 => ⟨S32768x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S32768x128, .f32⟩
  | 16 => ⟨S32768x128, .f32⟩
  | 17 => ⟨S_, .f32⟩
  | 18 => ⟨S128, .f32⟩
  | 19 => ⟨S128, .f32⟩
  | 20 => ⟨S128, .f32⟩
  | 21 => ⟨S1x128, .f32⟩
  | 22 => ⟨S32768x128, .f32⟩
  | 23 => ⟨S32768x128, .f32⟩
  | 24 => ⟨S8x4096x128, .f32⟩
  | 25 => ⟨S_, .f32⟩
  | 26 => ⟨S8x4096x128, .f32⟩
  | 27 => ⟨S8x4096x128, .f32⟩
  | 28 => ⟨S_, .i32⟩
  | 29 => ⟨S_, .i32⟩
  | 30 => ⟨S8x4096, .i32⟩
  | 31 => ⟨S8x4096x4096, .i32⟩
  | 32 => ⟨S8x1x4096, .i32⟩
  | 33 => ⟨S8x4096x4096, .i32⟩
  | 34 => ⟨S8x4096x4096, .i1⟩
  | 35 => ⟨S8x4096x4096, .i32⟩
  | 36 => ⟨S_, .i32⟩
  | 37 => ⟨S8x4096, .i32⟩
  | 38 => ⟨S_, .i32⟩
  | 39 => ⟨S8x4096, .i32⟩
  | 40 => ⟨S8x4096, .i32⟩
  | 41 => ⟨S8x1x4096, .i32⟩
  | 42 => ⟨S8x4096x4096, .i32⟩
  | 43 => ⟨S8x4096x4096, .i32⟩
  | 44 => ⟨S8x4096x4096, .i1⟩
  | 45 => ⟨S_, .f32⟩
  | 46 => ⟨S_, .f32⟩
  | 47 => ⟨S8x4096x4096, .f32⟩
  | 48 => ⟨S8x4096x4096, .f32⟩
  | 49 => ⟨S8x4096x4096, .f32⟩
  | 50 => ⟨S8x4096x128, .f32⟩
  | 51 => ⟨S_, .i32⟩
  | 52 => ⟨S8x4096, .i32⟩
  | 53 => ⟨S8x4096, .i32⟩
  | 54 => ⟨S8x4096, .f32⟩
  | 55 => ⟨S8x4096x1, .f32⟩
  | 56 => ⟨S8x4096x128, .f32⟩
  | 57 => ⟨S8x4096x128, .f32⟩
  | 58 => ⟨S8x4096x256, .f32⟩
  | 59 => ⟨S1x1x256, .f32⟩
  | 60 => ⟨S8x4096x256, .f32⟩
  | 61 => ⟨S8x4096x256, .f32⟩
  | 62 => ⟨S32768x256, .f32⟩
  | 63 => ⟨S_, .f32⟩
  | 64 => ⟨S256, .f32⟩
  | 65 => ⟨S_, .f32⟩
  | 66 => ⟨S256, .f32⟩
  | 67 => ⟨S256, .f32⟩
  | 68 => ⟨S_, .i32⟩
  | 69 => ⟨S_, .f32⟩
  | 70 => ⟨S256, .f32⟩
  | 71 => ⟨S1x256, .f32⟩
  | 72 => ⟨S_, .f32⟩
  | 73 => ⟨S1x256, .f32⟩
  | 74 => ⟨S1x256, .f32⟩
  | 75 => ⟨S32768x256, .f32⟩
  | 76 => ⟨S32768x256, .f32⟩
  | 77 => ⟨S32768x256, .f32⟩
  | 78 => ⟨S_, .f32⟩
  | 79 => ⟨S_, .f32⟩
  | 80 => ⟨S_, .f32⟩
  | 81 => ⟨S_, .f32⟩
  | 82 => ⟨S256, .f32⟩
  | 83 => ⟨S256, .f32⟩
  | 84 => ⟨S256, .f32⟩
  | 85 => ⟨S_, .f32⟩
  | 86 => ⟨S_, .i1⟩
  | 87 => ⟨S_, .f32⟩
  | 88 => ⟨S_, .f32⟩
  | 89 => ⟨S256, .f32⟩
  | 90 => ⟨S256, .f32⟩
  | 91 => ⟨S1x256, .f32⟩
  | 92 => ⟨S32768x256, .f32⟩
  | 93 => ⟨S32768x256, .f32⟩
  | 94 => ⟨S_, .f32⟩
  | 95 => ⟨S256, .f32⟩
  | 96 => ⟨S256, .f32⟩
  | 97 => ⟨S256, .f32⟩
  | 98 => ⟨S1x256, .f32⟩
  | 99 => ⟨S32768x256, .f32⟩
  | 100 => ⟨S32768x256, .f32⟩
  | 101 => ⟨S8x4096x256, .f32⟩
  | 102 => ⟨S_, .f32⟩
  | 103 => ⟨S8x256, .f32⟩
  | 104 => ⟨S8x1x256, .f32⟩
  | 105 => ⟨S_, .f32⟩
  | 106 => ⟨S8x1x256, .f32⟩
  | 107 => ⟨S8x1x256, .f32⟩
  | 108 => ⟨S8x2048x64, .f32⟩
  | 109 => ⟨S1x1x64, .f32⟩
  | 110 => ⟨S8x2048x64, .f32⟩
  | 111 => ⟨S8x2048x64, .f32⟩
  | 112 => ⟨S8x2048x128, .f32⟩
  | 113 => ⟨S1x1x128, .f32⟩
  | 114 => ⟨S8x2048x128, .f32⟩
  | 115 => ⟨S8x2048x128, .f32⟩
  | 116 => ⟨S16384x128, .f32⟩
  | 117 => ⟨S_, .f32⟩
  | 118 => ⟨S128, .f32⟩
  | 119 => ⟨S_, .f32⟩
  | 120 => ⟨S128, .f32⟩
  | 121 => ⟨S128, .f32⟩
  | 122 => ⟨S_, .i32⟩
  | 123 => ⟨S_, .f32⟩
  | 124 => ⟨S128, .f32⟩
  | 125 => ⟨S1x128, .f32⟩
  | 126 => ⟨S_, .f32⟩
  | 127 => ⟨S1x128, .f32⟩
  | _ => ⟨S8x4096x512, .f32⟩

abbrev hbmTy0_3 (i : Nat) : BufTy := match i % 128 with
  | 0 => ⟨S1x128, .f32⟩
  | 1 => ⟨S16384x128, .f32⟩
  | 2 => ⟨S16384x128, .f32⟩
  | 3 => ⟨S16384x128, .f32⟩
  | 4 => ⟨S_, .f32⟩
  | 5 => ⟨S_, .f32⟩
  | 6 => ⟨S_, .f32⟩
  | 7 => ⟨S_, .f32⟩
  | 8 => ⟨S128, .f32⟩
  | 9 => ⟨S128, .f32⟩
  | 10 => ⟨S128, .f32⟩
  | 11 => ⟨S_, .f32⟩
  | 12 => ⟨S_, .i1⟩
  | 13 => ⟨S_, .f32⟩
  | 14 => ⟨S_, .f32⟩
  | 15 => ⟨S128, .f32⟩
  | 16 => ⟨S128, .f32⟩
  | 17 => ⟨S1x128, .f32⟩
  | 18 => ⟨S16384x128, .f32⟩
  | 19 => ⟨S16384x128, .f32⟩
  | 20 => ⟨S_, .f32⟩
  | 21 => ⟨S128, .f32⟩
  | 22 => ⟨S128, .f32⟩
  | 23 => ⟨S128, .f32⟩
  | 24 => ⟨S1x128, .f32⟩
  | 25 => ⟨S16384x128, .f32⟩
  | 26 => ⟨S16384x128, .f32⟩
  | 27 => ⟨S8x2048x128, .f32⟩
  | 28 => ⟨S_, .f32⟩
  | 29 => ⟨S8x128, .f32⟩
  | 30 => ⟨S8x1x128, .f32⟩
  | 31 => ⟨S_, .f32⟩
  | 32 => ⟨S8x1x128, .f32⟩
  | 33 => ⟨S8x1x128, .f32⟩
  | 34 => ⟨S8x512x64, .f32⟩
  | 35 => ⟨S1x1x64, .f32⟩
  | 36 => ⟨S8x512x64, .f32⟩
  | 37 => ⟨S8x512x64, .f32⟩
  | 38 => ⟨S8x512x128, .f32⟩
  | 39 => ⟨S1x1x128, .f32⟩
  | 40 => ⟨S8x512x128, .f32⟩
  | 41 => ⟨S8x512x128, .f32⟩
  | 42 => ⟨S4096x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S4096x128, .f32⟩
  | 56 => ⟨S4096x128, .f32⟩
  | 57 => ⟨S4096x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S4096x128, .f32⟩
  | 73 => ⟨S4096x128, .f32⟩
  | 74 => ⟨S_, .f32⟩
  | 75 => ⟨S128, .f32⟩
  | 76 => ⟨S128, .f32⟩
  | 77 => ⟨S128, .f32⟩
  | 78 => ⟨S1x128, .f32⟩
  | 79 => ⟨S4096x128, .f32⟩
  | 80 => ⟨S4096x128, .f32⟩
  | 81 => ⟨S8x512x128, .f32⟩
  | 82 => ⟨S8x512x128, .f32⟩
  | 83 => ⟨S8x512x256, .f32⟩
  | 84 => ⟨S8x512x512, .f32⟩
  | 85 => ⟨S8x512x1024, .f32⟩
  | 86 => ⟨S8x512x1024, .f32⟩
  | 87 => ⟨S1x1x1024, .f32⟩
  | 88 => ⟨S8x512x1024, .f32⟩
  | 89 => ⟨S8x512x1024, .f32⟩
  | _ => ⟨S8x4096x512, .f32⟩

abbrev hbmTy (i : Nat) : BufTy := match i / 128 with
  | 0 => hbmTy0_0 i
  | 1 => hbmTy0_1 i
  | 2 => hbmTy0_2 i
  | 3 => hbmTy0_3 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_cst_1 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_call1_cst : Ref sig .tc := ⟨.hbm, 73, rfl⟩
abbrev main_call1_v0 : Ref sig .tc := ⟨.hbm, 74, rfl⟩
abbrev main_v23 : Ref sig .tc := ⟨.hbm, 75, rfl⟩
abbrev main_call2_call0_c : Ref sig .tc := ⟨.hbm, 76, rfl⟩
abbrev main_call2_call0_v0 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_2 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_4 : Ref sig .tc := ⟨.hbm, 93, rfl⟩
abbrev main_cst_5 : Ref sig .tc := ⟨.hbm, 94, rfl⟩
abbrev main_call3_v0 : Ref sig .tc := ⟨.hbm, 95, rfl⟩
abbrev main_call3_v1 : Ref sig .tc := ⟨.hbm, 96, rfl⟩
abbrev main_v37 : Ref sig .tc := ⟨.hbm, 97, rfl⟩
abbrev main_v38 : Ref sig .tc := ⟨.hbm, 98, rfl⟩
abbrev main_c_6 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_cst_7 : Ref sig .tc := ⟨.hbm, 111, rfl⟩
abbrev main_v50 : Ref sig .tc := ⟨.hbm, 112, rfl⟩
abbrev main_cst_8 : Ref sig .tc := ⟨.hbm, 113, rfl⟩
abbrev main_v51 : Ref sig .tc := ⟨.hbm, 114, rfl⟩
abbrev main_v52 : Ref sig .tc := ⟨.hbm, 115, rfl⟩
abbrev main_c_9 : Ref sig .tc := ⟨.hbm, 116, rfl⟩
abbrev main_call4_cst : Ref sig .tc := ⟨.hbm, 117, rfl⟩
abbrev main_call4_v0 : Ref sig .tc := ⟨.hbm, 118, rfl⟩
abbrev main_call4_v1 : Ref sig .tc := ⟨.hbm, 119, rfl⟩
abbrev main_call4_cst_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_v6 : Ref sig .tc := ⟨.hbm, 125, rfl⟩
abbrev main_call4_v7 : Ref sig .tc := ⟨.hbm, 126, rfl⟩
abbrev main_call4_cst_1 : Ref sig .tc := ⟨.hbm, 127, rfl⟩
abbrev main_call4_v8 : Ref sig .tc := ⟨.hbm, 128, rfl⟩
abbrev main_call4_cst_2 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_cst_3 : Ref sig .tc := ⟨.hbm, 133, rfl⟩
abbrev main_call4_v12 : Ref sig .tc := ⟨.hbm, 134, rfl⟩
abbrev main_call4_cst_4 : Ref sig .tc := ⟨.hbm, 135, rfl⟩
abbrev main_call4_call0_v0 : Ref sig .tc := ⟨.hbm, 136, rfl⟩
abbrev main_call4_call0_v1 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_cst_10 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_call5_cst : Ref sig .tc := ⟨.hbm, 150, rfl⟩
abbrev main_call5_v0 : Ref sig .tc := ⟨.hbm, 151, rfl⟩
abbrev main_v64 : Ref sig .tc := ⟨.hbm, 152, rfl⟩
abbrev main_call6_call0_c : Ref sig .tc := ⟨.hbm, 153, rfl⟩
abbrev main_call6_call0_v0 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_c_11 : Ref sig .tc := ⟨.hbm, 161, rfl⟩
abbrev main_v71 : Ref sig .tc := ⟨.hbm, 162, rfl⟩
abbrev main_c_12 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_cst_13 : Ref sig .tc := ⟨.hbm, 170, rfl⟩
abbrev main_cst_14 : Ref sig .tc := ⟨.hbm, 171, rfl⟩
abbrev main_call7_v0 : Ref sig .tc := ⟨.hbm, 172, rfl⟩
abbrev main_call7_v1 : Ref sig .tc := ⟨.hbm, 173, rfl⟩
abbrev main_v78 : Ref sig .tc := ⟨.hbm, 174, rfl⟩
abbrev main_v79 : Ref sig .tc := ⟨.hbm, 175, rfl⟩
abbrev main_c_15 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_cst_16 : Ref sig .tc := ⟨.hbm, 188, rfl⟩
abbrev main_v91 : Ref sig .tc := ⟨.hbm, 189, rfl⟩
abbrev main_cst_17 : Ref sig .tc := ⟨.hbm, 190, rfl⟩
abbrev main_v92 : Ref sig .tc := ⟨.hbm, 191, rfl⟩
abbrev main_v93 : Ref sig .tc := ⟨.hbm, 192, rfl⟩
abbrev main_c_18 : Ref sig .tc := ⟨.hbm, 193, rfl⟩
abbrev main_call8_cst : Ref sig .tc := ⟨.hbm, 194, rfl⟩
abbrev main_call8_v0 : Ref sig .tc := ⟨.hbm, 195, rfl⟩
abbrev main_call8_v1 : Ref sig .tc := ⟨.hbm, 196, rfl⟩
abbrev main_call8_cst_0 : Ref sig .tc := ⟨.hbm, 197, rfl⟩
abbrev main_call8_v2 : Ref sig .tc := ⟨.hbm, 198, rfl⟩
abbrev main_call8_v3 : Ref sig .tc := ⟨.hbm, 199, rfl⟩
abbrev main_call8_v4 : Ref sig .tc := ⟨.hbm, 200, rfl⟩
abbrev main_call8_v5 : Ref sig .tc := ⟨.hbm, 201, rfl⟩
abbrev main_call8_v6 : Ref sig .tc := ⟨.hbm, 202, rfl⟩
abbrev main_call8_v7 : Ref sig .tc := ⟨.hbm, 203, rfl⟩
abbrev main_call8_cst_1 : Ref sig .tc := ⟨.hbm, 204, rfl⟩
abbrev main_call8_v8 : Ref sig .tc := ⟨.hbm, 205, rfl⟩
abbrev main_call8_cst_2 : Ref sig .tc := ⟨.hbm, 206, rfl⟩
abbrev main_call8_v9 : Ref sig .tc := ⟨.hbm, 207, rfl⟩
abbrev main_call8_v10 : Ref sig .tc := ⟨.hbm, 208, rfl⟩
abbrev main_call8_v11 : Ref sig .tc := ⟨.hbm, 209, rfl⟩
abbrev main_call8_cst_3 : Ref sig .tc := ⟨.hbm, 210, rfl⟩
abbrev main_call8_v12 : Ref sig .tc := ⟨.hbm, 211, rfl⟩
abbrev main_call8_cst_4 : Ref sig .tc := ⟨.hbm, 212, rfl⟩
abbrev main_call8_call0_v0 : Ref sig .tc := ⟨.hbm, 213, rfl⟩
abbrev main_call8_call0_v1 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_cst_19 : Ref sig .tc := ⟨.hbm, 219, rfl⟩
abbrev main_v98 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_cst_20 : Ref sig .tc := ⟨.hbm, 227, rfl⟩
abbrev main_v105 : Ref sig .tc := ⟨.hbm, 228, rfl⟩
abbrev main_v106 : Ref sig .tc := ⟨.hbm, 229, rfl⟩
abbrev main_cst_21 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_cst_22 : Ref sig .tc := ⟨.hbm, 242, rfl⟩
abbrev main_v118 : Ref sig .tc := ⟨.hbm, 243, rfl⟩
abbrev main_cst_23 : Ref sig .tc := ⟨.hbm, 244, rfl⟩
abbrev main_v119 : Ref sig .tc := ⟨.hbm, 245, rfl⟩
abbrev main_v120 : Ref sig .tc := ⟨.hbm, 246, rfl⟩
abbrev main_c_24 : Ref sig .tc := ⟨.hbm, 247, rfl⟩
abbrev main_call9_cst : Ref sig .tc := ⟨.hbm, 248, rfl⟩
abbrev main_call9_v0 : Ref sig .tc := ⟨.hbm, 249, rfl⟩
abbrev main_call9_v1 : Ref sig .tc := ⟨.hbm, 250, rfl⟩
abbrev main_call9_cst_0 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_v5 : Ref sig .tc := ⟨.hbm, 255, rfl⟩
abbrev main_call9_v6 : Ref sig .tc := ⟨.hbm, 256, rfl⟩
abbrev main_call9_v7 : Ref sig .tc := ⟨.hbm, 257, rfl⟩
abbrev main_call9_cst_1 : Ref sig .tc := ⟨.hbm, 258, rfl⟩
abbrev main_call9_v8 : Ref sig .tc := ⟨.hbm, 259, rfl⟩
abbrev main_call9_cst_2 : Ref sig .tc := ⟨.hbm, 260, rfl⟩
abbrev main_call9_v9 : Ref sig .tc := ⟨.hbm, 261, rfl⟩
abbrev main_call9_v10 : Ref sig .tc := ⟨.hbm, 262, rfl⟩
abbrev main_call9_v11 : Ref sig .tc := ⟨.hbm, 263, rfl⟩
abbrev main_call9_cst_3 : Ref sig .tc := ⟨.hbm, 264, rfl⟩
abbrev main_call9_v12 : Ref sig .tc := ⟨.hbm, 265, rfl⟩
abbrev main_call9_cst_4 : Ref sig .tc := ⟨.hbm, 266, rfl⟩
abbrev main_call9_call0_v0 : Ref sig .tc := ⟨.hbm, 267, rfl⟩
abbrev main_call9_call0_v1 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_cst_25 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_v131 : Ref sig .tc := ⟨.hbm, 280, rfl⟩
abbrev main_call10_cst : Ref sig .tc := ⟨.hbm, 281, rfl⟩
abbrev main_call10_v0 : Ref sig .tc := ⟨.hbm, 282, rfl⟩
abbrev main_v132 : Ref sig .tc := ⟨.hbm, 283, rfl⟩
abbrev main_call11_call0_c : Ref sig .tc := ⟨.hbm, 284, rfl⟩
abbrev main_call11_call0_v0 : Ref sig .tc := ⟨.hbm, 285, rfl⟩
abbrev main_v133 : Ref sig .tc := ⟨.hbm, 286, rfl⟩
abbrev main_v134 : Ref sig .tc := ⟨.hbm, 287, rfl⟩
abbrev main_v135 : Ref sig .tc := ⟨.hbm, 288, rfl⟩
abbrev main_v136 : Ref sig .tc := ⟨.hbm, 289, rfl⟩
abbrev main_v137 : Ref sig .tc := ⟨.hbm, 290, rfl⟩
abbrev main_v138 : Ref sig .tc := ⟨.hbm, 291, rfl⟩
abbrev main_c_26 : Ref sig .tc := ⟨.hbm, 292, rfl⟩
abbrev main_v139 : Ref sig .tc := ⟨.hbm, 293, rfl⟩
abbrev main_c_27 : Ref sig .tc := ⟨.hbm, 294, rfl⟩
abbrev main_v140 : Ref sig .tc := ⟨.hbm, 295, rfl⟩
abbrev main_v141 : Ref sig .tc := ⟨.hbm, 296, rfl⟩
abbrev main_v142 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_cst_28 : Ref sig .tc := ⟨.hbm, 301, rfl⟩
abbrev main_cst_29 : Ref sig .tc := ⟨.hbm, 302, rfl⟩
abbrev main_call12_v0 : Ref sig .tc := ⟨.hbm, 303, rfl⟩
abbrev main_call12_v1 : Ref sig .tc := ⟨.hbm, 304, rfl⟩
abbrev main_v146 : Ref sig .tc := ⟨.hbm, 305, rfl⟩
abbrev main_v147 : Ref sig .tc := ⟨.hbm, 306, rfl⟩
abbrev main_c_30 : Ref sig .tc := ⟨.hbm, 307, rfl⟩
abbrev main_v148 : Ref sig .tc := ⟨.hbm, 308, rfl⟩
abbrev main_v149 : Ref sig .tc := ⟨.hbm, 309, rfl⟩
abbrev main_v150 : Ref sig .tc := ⟨.hbm, 310, rfl⟩
abbrev main_v151 : Ref sig .tc := ⟨.hbm, 311, rfl⟩
abbrev main_v152 : Ref sig .tc := ⟨.hbm, 312, rfl⟩
abbrev main_v153 : Ref sig .tc := ⟨.hbm, 313, rfl⟩
abbrev main_v154 : Ref sig .tc := ⟨.hbm, 314, rfl⟩
abbrev main_v155 : Ref sig .tc := ⟨.hbm, 315, rfl⟩
abbrev main_v156 : Ref sig .tc := ⟨.hbm, 316, rfl⟩
abbrev main_v157 : Ref sig .tc := ⟨.hbm, 317, rfl⟩
abbrev main_v158 : Ref sig .tc := ⟨.hbm, 318, rfl⟩
abbrev main_cst_31 : Ref sig .tc := ⟨.hbm, 319, rfl⟩
abbrev main_v159 : Ref sig .tc := ⟨.hbm, 320, rfl⟩
abbrev main_cst_32 : Ref sig .tc := ⟨.hbm, 321, rfl⟩
abbrev main_v160 : Ref sig .tc := ⟨.hbm, 322, rfl⟩
abbrev main_v161 : Ref sig .tc := ⟨.hbm, 323, rfl⟩
abbrev main_c_33 : Ref sig .tc := ⟨.hbm, 324, rfl⟩
abbrev main_call13_cst : Ref sig .tc := ⟨.hbm, 325, rfl⟩
abbrev main_call13_v0 : Ref sig .tc := ⟨.hbm, 326, rfl⟩
abbrev main_call13_v1 : Ref sig .tc := ⟨.hbm, 327, rfl⟩
abbrev main_call13_cst_0 : Ref sig .tc := ⟨.hbm, 328, rfl⟩
abbrev main_call13_v2 : Ref sig .tc := ⟨.hbm, 329, rfl⟩
abbrev main_call13_v3 : Ref sig .tc := ⟨.hbm, 330, rfl⟩
abbrev main_call13_v4 : Ref sig .tc := ⟨.hbm, 331, rfl⟩
abbrev main_call13_v5 : Ref sig .tc := ⟨.hbm, 332, rfl⟩
abbrev main_call13_v6 : Ref sig .tc := ⟨.hbm, 333, rfl⟩
abbrev main_call13_v7 : Ref sig .tc := ⟨.hbm, 334, rfl⟩
abbrev main_call13_cst_1 : Ref sig .tc := ⟨.hbm, 335, rfl⟩
abbrev main_call13_v8 : Ref sig .tc := ⟨.hbm, 336, rfl⟩
abbrev main_call13_cst_2 : Ref sig .tc := ⟨.hbm, 337, rfl⟩
abbrev main_call13_v9 : Ref sig .tc := ⟨.hbm, 338, rfl⟩
abbrev main_call13_v10 : Ref sig .tc := ⟨.hbm, 339, rfl⟩
abbrev main_call13_v11 : Ref sig .tc := ⟨.hbm, 340, rfl⟩
abbrev main_call13_cst_3 : Ref sig .tc := ⟨.hbm, 341, rfl⟩
abbrev main_call13_v12 : Ref sig .tc := ⟨.hbm, 342, rfl⟩
abbrev main_call13_cst_4 : Ref sig .tc := ⟨.hbm, 343, rfl⟩
abbrev main_call13_call0_v0 : Ref sig .tc := ⟨.hbm, 344, rfl⟩
abbrev main_call13_call0_v1 : Ref sig .tc := ⟨.hbm, 345, rfl⟩
abbrev main_v162 : Ref sig .tc := ⟨.hbm, 346, rfl⟩
abbrev main_v163 : Ref sig .tc := ⟨.hbm, 347, rfl⟩
abbrev main_v164 : Ref sig .tc := ⟨.hbm, 348, rfl⟩
abbrev main_v165 : Ref sig .tc := ⟨.hbm, 349, rfl⟩
abbrev main_cst_34 : Ref sig .tc := ⟨.hbm, 350, rfl⟩
abbrev main_v166 : Ref sig .tc := ⟨.hbm, 351, rfl⟩
abbrev main_v167 : Ref sig .tc := ⟨.hbm, 352, rfl⟩
abbrev main_v168 : Ref sig .tc := ⟨.hbm, 353, rfl⟩
abbrev main_v169 : Ref sig .tc := ⟨.hbm, 354, rfl⟩
abbrev main_v170 : Ref sig .tc := ⟨.hbm, 355, rfl⟩
abbrev main_v171 : Ref sig .tc := ⟨.hbm, 356, rfl⟩
abbrev main_v172 : Ref sig .tc := ⟨.hbm, 357, rfl⟩
abbrev main_cst_35 : Ref sig .tc := ⟨.hbm, 358, rfl⟩
abbrev main_v173 : Ref sig .tc := ⟨.hbm, 359, rfl⟩
abbrev main_v174 : Ref sig .tc := ⟨.hbm, 360, rfl⟩
abbrev main_cst_36 : Ref sig .tc := ⟨.hbm, 361, rfl⟩
abbrev main_v175 : Ref sig .tc := ⟨.hbm, 362, rfl⟩
abbrev main_v176 : Ref sig .tc := ⟨.hbm, 363, rfl⟩
abbrev main_v177 : Ref sig .tc := ⟨.hbm, 364, rfl⟩
abbrev main_v178 : Ref sig .tc := ⟨.hbm, 365, rfl⟩
abbrev main_v179 : Ref sig .tc := ⟨.hbm, 366, rfl⟩
abbrev main_v180 : Ref sig .tc := ⟨.hbm, 367, rfl⟩
abbrev main_v181 : Ref sig .tc := ⟨.hbm, 368, rfl⟩
abbrev main_v182 : Ref sig .tc := ⟨.hbm, 369, rfl⟩
abbrev main_v183 : Ref sig .tc := ⟨.hbm, 370, rfl⟩
abbrev main_v184 : Ref sig .tc := ⟨.hbm, 371, rfl⟩
abbrev main_v185 : Ref sig .tc := ⟨.hbm, 372, rfl⟩
abbrev main_cst_37 : Ref sig .tc := ⟨.hbm, 373, rfl⟩
abbrev main_v186 : Ref sig .tc := ⟨.hbm, 374, rfl⟩
abbrev main_cst_38 : Ref sig .tc := ⟨.hbm, 375, rfl⟩
abbrev main_v187 : Ref sig .tc := ⟨.hbm, 376, rfl⟩
abbrev main_v188 : Ref sig .tc := ⟨.hbm, 377, rfl⟩
abbrev main_c_39 : Ref sig .tc := ⟨.hbm, 378, rfl⟩
abbrev main_call14_cst : Ref sig .tc := ⟨.hbm, 379, rfl⟩
abbrev main_call14_v0 : Ref sig .tc := ⟨.hbm, 380, rfl⟩
abbrev main_call14_v1 : Ref sig .tc := ⟨.hbm, 381, rfl⟩
abbrev main_call14_cst_0 : Ref sig .tc := ⟨.hbm, 382, rfl⟩
abbrev main_call14_v2 : Ref sig .tc := ⟨.hbm, 383, rfl⟩
abbrev main_call14_v3 : Ref sig .tc := ⟨.hbm, 384, rfl⟩
abbrev main_call14_v4 : Ref sig .tc := ⟨.hbm, 385, rfl⟩
abbrev main_call14_v5 : Ref sig .tc := ⟨.hbm, 386, rfl⟩
abbrev main_call14_v6 : Ref sig .tc := ⟨.hbm, 387, rfl⟩
abbrev main_call14_v7 : Ref sig .tc := ⟨.hbm, 388, rfl⟩
abbrev main_call14_cst_1 : Ref sig .tc := ⟨.hbm, 389, rfl⟩
abbrev main_call14_v8 : Ref sig .tc := ⟨.hbm, 390, rfl⟩
abbrev main_call14_cst_2 : Ref sig .tc := ⟨.hbm, 391, rfl⟩
abbrev main_call14_v9 : Ref sig .tc := ⟨.hbm, 392, rfl⟩
abbrev main_call14_v10 : Ref sig .tc := ⟨.hbm, 393, rfl⟩
abbrev main_call14_v11 : Ref sig .tc := ⟨.hbm, 394, rfl⟩
abbrev main_call14_cst_3 : Ref sig .tc := ⟨.hbm, 395, rfl⟩
abbrev main_call14_v12 : Ref sig .tc := ⟨.hbm, 396, rfl⟩
abbrev main_call14_cst_4 : Ref sig .tc := ⟨.hbm, 397, rfl⟩
abbrev main_call14_call0_v0 : Ref sig .tc := ⟨.hbm, 398, rfl⟩
abbrev main_call14_call0_v1 : Ref sig .tc := ⟨.hbm, 399, rfl⟩
abbrev main_v189 : Ref sig .tc := ⟨.hbm, 400, rfl⟩
abbrev main_v190 : Ref sig .tc := ⟨.hbm, 401, rfl⟩
abbrev main_v191 : Ref sig .tc := ⟨.hbm, 402, rfl⟩
abbrev main_v192 : Ref sig .tc := ⟨.hbm, 403, rfl⟩
abbrev main_cst_40 : Ref sig .tc := ⟨.hbm, 404, rfl⟩
abbrev main_v193 : Ref sig .tc := ⟨.hbm, 405, rfl⟩
abbrev main_v194 : Ref sig .tc := ⟨.hbm, 406, rfl⟩
abbrev main_v195 : Ref sig .tc := ⟨.hbm, 407, rfl⟩
abbrev main_v196 : Ref sig .tc := ⟨.hbm, 408, rfl⟩
abbrev main_v197 : Ref sig .tc := ⟨.hbm, 409, rfl⟩
abbrev main_v198 : Ref sig .tc := ⟨.hbm, 410, rfl⟩
abbrev main_v199 : Ref sig .tc := ⟨.hbm, 411, rfl⟩
abbrev main_cst_41 : Ref sig .tc := ⟨.hbm, 412, rfl⟩
abbrev main_v200 : Ref sig .tc := ⟨.hbm, 413, rfl⟩
abbrev main_v201 : Ref sig .tc := ⟨.hbm, 414, rfl⟩
abbrev main_cst_42 : Ref sig .tc := ⟨.hbm, 415, rfl⟩
abbrev main_v202 : Ref sig .tc := ⟨.hbm, 416, rfl⟩
abbrev main_v203 : Ref sig .tc := ⟨.hbm, 417, rfl⟩
abbrev main_v204 : Ref sig .tc := ⟨.hbm, 418, rfl⟩
abbrev main_v205 : Ref sig .tc := ⟨.hbm, 419, rfl⟩
abbrev main_v206 : Ref sig .tc := ⟨.hbm, 420, rfl⟩
abbrev main_v207 : Ref sig .tc := ⟨.hbm, 421, rfl⟩
abbrev main_v208 : Ref sig .tc := ⟨.hbm, 422, rfl⟩
abbrev main_v209 : Ref sig .tc := ⟨.hbm, 423, rfl⟩
abbrev main_v210 : Ref sig .tc := ⟨.hbm, 424, rfl⟩
abbrev main_v211 : Ref sig .tc := ⟨.hbm, 425, rfl⟩
abbrev main_v212 : Ref sig .tc := ⟨.hbm, 426, rfl⟩
abbrev main_cst_43 : Ref sig .tc := ⟨.hbm, 427, rfl⟩
abbrev main_v213 : Ref sig .tc := ⟨.hbm, 428, rfl⟩
abbrev main_cst_44 : Ref sig .tc := ⟨.hbm, 429, rfl⟩
abbrev main_v214 : Ref sig .tc := ⟨.hbm, 430, rfl⟩
abbrev main_v215 : Ref sig .tc := ⟨.hbm, 431, rfl⟩
abbrev main_c_45 : Ref sig .tc := ⟨.hbm, 432, rfl⟩
abbrev main_call15_cst : Ref sig .tc := ⟨.hbm, 433, rfl⟩
abbrev main_call15_v0 : Ref sig .tc := ⟨.hbm, 434, rfl⟩
abbrev main_call15_v1 : Ref sig .tc := ⟨.hbm, 435, rfl⟩
abbrev main_call15_cst_0 : Ref sig .tc := ⟨.hbm, 436, rfl⟩
abbrev main_call15_v2 : Ref sig .tc := ⟨.hbm, 437, rfl⟩
abbrev main_call15_v3 : Ref sig .tc := ⟨.hbm, 438, rfl⟩
abbrev main_call15_v4 : Ref sig .tc := ⟨.hbm, 439, rfl⟩
abbrev main_call15_v5 : Ref sig .tc := ⟨.hbm, 440, rfl⟩
abbrev main_call15_v6 : Ref sig .tc := ⟨.hbm, 441, rfl⟩
abbrev main_call15_v7 : Ref sig .tc := ⟨.hbm, 442, rfl⟩
abbrev main_call15_cst_1 : Ref sig .tc := ⟨.hbm, 443, rfl⟩
abbrev main_call15_v8 : Ref sig .tc := ⟨.hbm, 444, rfl⟩
abbrev main_call15_cst_2 : Ref sig .tc := ⟨.hbm, 445, rfl⟩
abbrev main_call15_v9 : Ref sig .tc := ⟨.hbm, 446, rfl⟩
abbrev main_call15_v10 : Ref sig .tc := ⟨.hbm, 447, rfl⟩
abbrev main_call15_v11 : Ref sig .tc := ⟨.hbm, 448, rfl⟩
abbrev main_call15_cst_3 : Ref sig .tc := ⟨.hbm, 449, rfl⟩
abbrev main_call15_v12 : Ref sig .tc := ⟨.hbm, 450, rfl⟩
abbrev main_call15_cst_4 : Ref sig .tc := ⟨.hbm, 451, rfl⟩
abbrev main_call15_call0_v0 : Ref sig .tc := ⟨.hbm, 452, rfl⟩
abbrev main_call15_call0_v1 : Ref sig .tc := ⟨.hbm, 453, rfl⟩
abbrev main_v216 : Ref sig .tc := ⟨.hbm, 454, rfl⟩
abbrev main_v217 : Ref sig .tc := ⟨.hbm, 455, rfl⟩
abbrev main_v218 : Ref sig .tc := ⟨.hbm, 456, rfl⟩
abbrev main_v219 : Ref sig .tc := ⟨.hbm, 457, rfl⟩
abbrev main_cst_46 : Ref sig .tc := ⟨.hbm, 458, rfl⟩
abbrev main_v220 : Ref sig .tc := ⟨.hbm, 459, rfl⟩
abbrev main_v221 : Ref sig .tc := ⟨.hbm, 460, rfl⟩
abbrev main_v222 : Ref sig .tc := ⟨.hbm, 461, rfl⟩
abbrev main_v223 : Ref sig .tc := ⟨.hbm, 462, rfl⟩
abbrev main_v224 : Ref sig .tc := ⟨.hbm, 463, rfl⟩
abbrev main_v225 : Ref sig .tc := ⟨.hbm, 464, rfl⟩
abbrev main_v226 : Ref sig .tc := ⟨.hbm, 465, rfl⟩
abbrev main_v227 : Ref sig .tc := ⟨.hbm, 466, rfl⟩
abbrev main_v228 : Ref sig .tc := ⟨.hbm, 467, rfl⟩
abbrev main_v229 : Ref sig .tc := ⟨.hbm, 468, rfl⟩
abbrev main_v230 : Ref sig .tc := ⟨.hbm, 469, rfl⟩
abbrev main_v231 : Ref sig .tc := ⟨.hbm, 470, rfl⟩
abbrev main_v232 : Ref sig .tc := ⟨.hbm, 471, rfl⟩
abbrev main_v233 : Ref sig .tc := ⟨.hbm, 472, rfl⟩
abbrev main_v234 : Ref sig .tc := ⟨.hbm, 473, rfl⟩

abbrev nD : Nat := 1
abbrev τ : Topo := Topo.v7x

variable {F : FTy → Type} [FloatOps F]
-- ==== Proof.Transport.lean ====
module
public import proofs.«01_k».proof.Defs
public import proofs.«01_k».proof.Proof.Gen.Kernel
public import proofs.«01_k».proof.Proof.Gen.KernelIdeal
public import Idealize.ShloMosaic.Lib.Tactic
@[expose] public section

noncomputable section

namespace Cert

open Idealize.ShloMosaic Idealize.SL.Sem
/-- The frame of the kernel as printed, told of the idealized kernel's own text at the machine's floats: the two texts are the same. -/
def QK : Prop :=
  letI := Cert.KernelIdeal.Gen.facts

  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

/-- It is the frame claim of the kernel. -/
theorem QKeq : QK = quiescent_Kernel (hKernel := Cert.Kernel.Gen.facts) := by sl_kernel_rfl

end Cert

end
-- ==== Proof.Bands.lean ====
module

public import proofs.«01_k».proof.Proof.Gen.KernelIdeal.Launch
public import Idealize.ShloMosaic.Lib.Pipeline.FrameBody
public import Idealize.ShloMosaic.Lib.Pipeline.Value
public import Idealize.ShloMosaic.Lib.Tactic
public import Idealize.ShloMosaic.Lib.VecWindow

@[expose] public section

noncomputable section

namespace Cert.KernelIdeal.Hop

open Idealize.ShloMosaic

variable {sg : RefSig} {κ : Kind} {sp : Space} {s : Shape} {e : EltTy} {Val : EltTy → Type}

/-- The same part of a block, its offsets written in another way. -/
theorem ld_off (X : s.Idx → Val e) {off off' size : Fin s.rank → ℕ} (ho : off = off') (inb : ∀ a, off a + size a ≤ s.size a)
    (inb' : ∀ a, off' a + size a ≤ s.size a) : View.ld X (Rect.unit off size inb) = View.ld X (Rect.unit off' size inb') := by
  subst ho; rfl

/-- Of the disjoint bands `0 … N-1` the first `n` hold what they should; after band `n` has been stored the first `n + 1` do. -/
theorem bands_put (x : s.Idx → Val e) (off : ℕ → Fin s.rank → ℕ) (size : Fin s.rank → ℕ) (inb : ∀ j a, off j a + size a ≤ s.size a)
    (Z : ℕ → ((a : Fin s.rank) → Fin (size a)) → Val e) (n N : ℕ) (a0 : Fin s.rank)
    (hd : ∀ j j', j < N → j' < N → j ≠ j' → off j a0 + size a0 ≤ off j' a0 ∨ off j' a0 + size a0 ≤ off j a0) (hn : n < N)
    (h : ∀ j, j < n → j < N → View.ld x (Rect.unit (off j) size (inb j)) = Z j) {o : Fin s.rank → ℕ} (ho : o = off n) :
    ∀ j, j < n + 1 → j < N → View.ld (VecWindow.put x o size (Z n)) (Rect.unit (off j) size (inb j)) = Z j := by
  intro j hj hN
  subst ho
  by_cases e : j = n
  · subst e
    exact VecWindow.window_put_same x (off j) size (inb j) (Z j)
  · exact (VecWindow.window_put_of_disjoint x (off n) size (off j) size (inb j) (Z n) a0 (hd j n hN hn e)).trans (h j (by omega) hN)

end Cert.KernelIdeal.Hop

end
-- ==== Proof.Common.lean ====
module

public import proofs.«01_k».proof.Proof.Gen.KernelIdeal.Launch
public import Idealize.ShloMosaic.Lib.Pipeline.FrameBody
public import Idealize.ShloMosaic.Lib.Pipeline.Value
public import Idealize.ShloMosaic.Lib.Tactic
public import Idealize.ShloMosaic.Lib.VecWindow

@[expose] public section

noncomputable section

namespace Cert.KernelIdeal.Hop

open Idealize.ShloMosaic

variable {sg : RefSig} {κ : Kind} {sp : Space} {s : Shape} {e : EltTy} {Val : EltTy → Type}

/-- A load of a whole memref that holds `X` reads `X`. -/
theorem readAt_all {m : Memref sg κ sp s e} (h : m.IsWhole) {off : Fin s.rank → ℕ} (ho : off = fun _ => 0)
    (inb : ∀ a, off a + s.size a ≤ s.size a) (X : s.Idx → Val e) :
    m.view.readAt Val (Rect.unit off s.size inb).toLoadRect (h.unread X) = X := by
  rw [View.readAt_eq_ld, h.read_unread, View.ld_unit_zero ho]

/-- A load of part of a whole memref that holds `X` reads that part of `X`. -/
theorem readAt_part {m : Memref sg κ sp s e} (h : m.IsWhole) (r : Rect s) (X : s.Idx → Val e) :
    m.view.readAt Val r.toLoadRect (h.unread X) = View.ld X r := by
  rw [View.readAt_eq_ld, h.read_unread]

/-- What a memref reads after a last store of the whole of it. -/
theorem read_last [∀ e, Nonempty (Val e)] (v : View sg κ sp s e) (f : v.ty.Contents Val) {off : Fin s.rank → ℕ} (ho : off = fun _ => 0)
    (inb : ∀ a, off a + s.size a ≤ s.size a) (w : s.Idx → Val e) (L : List (View.Piece Val s e)) :
    v.read Val (v.writes Val f ((⟨Rect.unit off s.size inb, w⟩ : View.Piece Val s e) :: L)) = w := by
  rw [View.read_writes_eq_canon _ _ _ fun y => ⟨_, List.mem_cons_self, View.mem_set_unit_zero ho inb y⟩, View.canon_cons_unit_zero ho]

/-- What a load of the whole reads after a last store of the whole. -/
theorem cov_last [∀ e, Nonempty (Val e)] (v : View sg κ sp s e) {off off' : Fin s.rank → ℕ} (ho : off = fun _ => 0) (ho' : off' = fun _ => 0)
    (inb : ∀ a, off a + s.size a ≤ s.size a) (inb' : ∀ a, off' a + s.size a ≤ s.size a) (w : s.Idx → Val e) (L : List (View.Piece Val s e)) :
    v.readCov ((⟨Rect.unit off s.size inb, w⟩ : View.Piece Val s e) :: L) (Rect.unit off' s.size inb').toLoadRect = w := by
  rw [View.readCov_eq_canon_ld _ _ _ fun y => ⟨_, List.mem_cons_self, View.mem_set_unit_zero ho inb y⟩, View.canon_cons_unit_zero ho,
    View.ld_unit_zero ho']

/-- What a load of part reads after a last store of the whole. -/
theorem cov_part [∀ e, Nonempty (Val e)] (v : View sg κ sp s e) {off : Fin s.rank → ℕ} (ho : off = fun _ => 0)
    (inb : ∀ a, off a + s.size a ≤ s.size a) (r : Rect s) (w : s.Idx → Val e) (L : List (View.Piece Val s e)) :
    v.readCov ((⟨Rect.unit off s.size inb, w⟩ : View.Piece Val s e) :: L) r.toLoadRect = View.ld w r := by
  rw [View.readCov_eq_canon_ld _ _ _ fun y => ⟨_, List.mem_cons_self, View.mem_set_unit_zero ho inb y⟩, View.canon_cons_unit_zero ho]

/-- What a memref that held `X` reads after one store to part of it. -/
theorem read_band {m : Memref sg κ sp s e} (h : m.IsWhole) (X : s.Idx → Val e) {off size : Fin s.rank → ℕ}
    (inb : ∀ a, off a + size a ≤ s.size a) (w : (Rect.unit off size inb).shape.Idx → Val e) :
    m.view.read Val (m.view.writes Val (h.unread X) [⟨Rect.unit off size inb, w⟩]) = VecWindow.put X off size w := by
  rw [View.read_writes_cons_put _ _ inb w [] rfl, View.writes_nil, h.read_unread]

theorem congr2 {A B R : Sort*} (f : A → B → R) {a a' : A} {b b' : B} (ha : a = a') (hb : b = b') : f a b = f a' b' := by
  subst ha hb; rfl

theorem congr3 {A B C R : Sort*} (f : A → B → C → R) {a a' : A} {b b' : B} {c c' : C} (ha : a = a') (hb : b = b') (hc : c = c') :
    f a b c = f a' b' c' := by
  subst ha hb hc; rfl

theorem congr4 {A B C D R : Sort*} (f : A → B → C → D → R) {a a' : A} {b b' : B} {c c' : C} {d d' : D} (ha : a = a') (hb : b = b')
    (hc : c = c') (hd : d = d') : f a b c d = f a' b' c' d' := by
  subst ha hb hc hd; rfl

theorem congr5 {A B C D E R : Sort*} (f : A → B → C → D → E → R) {a a' : A} {b b' : B} {c c' : C} {d d' : D} {e e' : E} (ha : a = a')
    (hb : b = b') (hc : c = c') (hd : d = d') (he : e = e') : f a b c d e = f a' b' c' d' e' := by
  subst ha hb hc hd he; rfl

theorem congr6 {A B C D E G R : Sort*} (f : A → B → C → D → E → G → R) {a a' : A} {b b' : B} {c c' : C} {d d' : D} {e e' : E} {g g' : G}
    (ha : a = a') (hb : b = b') (hc : c = c') (hd : d = d') (he : e = e') (hg : g = g') : f a b c d e g = f a' b' c' d' e' g' := by
  subst ha hb hc hd he hg; rfl

theorem zz : (![0, 0] : Fin 2 → ℕ) = fun _ => 0 := by funext a; fin_cases a <;> rfl

end Cert.KernelIdeal.Hop

end
-- ==== Proof.Hop1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Common

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev Mo (F : FTy → Type) := MT nD τ sig Unit (Elt F) ℕ (UR sig nD τ) ℕ

/-- The two conditions of the body, from the grid coordinates: the first block, the last block. -/
abbrev p2_0 (i : grid2.Coords) : Prop := (Scalar.cmpi .ne (Scalar.extui (Scalar.cmpi .eq (BitVec.ofNat 32 (i 0).val) 0#32)) 0#32) = 1#1
abbrev p2_1 (i : grid2.Coords) : Prop := k2_cond2 i = 1#1

/-- What the running batch sums become at block `n`. -/
def bs2 (n : BitVec 32) (cs : Vec F S1x64 .f32) (b : Vec F S8x64 .f32) : Vec F S8x64 .f32 :=
  k2_pay1 n cs b 1#32 (Scalar.divsi n 1#32) (Scalar.extui (Scalar.cmpi .sgt n 0#32)) (Scalar.extui (Scalar.cmpi .slt n 0#32))

section
variable (c : Dev nD) (i : grid2.Coords) (arg1 : Memref sig .tc .vmem S2048x512 .f32) (harg1 : arg1.IsWhole) (arg2 : Memref sig .tc .vmem S512x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S8x128 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S8x64 .f32) (harg9 : arg9.IsWhole)
    (x0 : Vec F S2048x512 .f32) (x1 : Vec F S512x64 .f32) (x2 : Vec F S1x64 .f32) (x3 : Vec F S64x128 .f32) (x4 : Vec F S1x128 .f32) (o : Vec F S8x128 .f32)
   (s0 : Vec F S1x64 .f32) (s1 : Vec F S64x64 .f32) (s2 : Vec F S8x64 .f32)

/-- The operands at given contents. -/
def own2 (o : Vec F S8x128 .f32) (s0 : Vec F S1x64 .f32) (s1 : Vec F S64x64 .f32) (s2 : Vec F S8x64 .f32) : sProp (Mo F) :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (owns (c : Thread nD τ) arg6 fullShare o) ∗ (owns (c : Thread nD τ) arg7 fullShare s0) ∗ owns (c : Thread nD τ) arg8 fullShare s1 ∗ owns (c : Thread nD τ) arg9 fullShare s2)

/-- The body at one block. `g0 g1 g2` are the accumulators after the reset of the first block, `o'` is what
the output block holds afterwards. -/
theorem hop1_body (g0 : Vec F S1x64 .f32) (g1 : Vec F S64x64 .f32) (g2 : Vec F S8x64 .f32) (o' : Vec F S8x128 .f32)
    (hg : (p2_0 i ∧ g0 = k2_pay8 ∧ g1 = k2_pay9 ∧ g2 = k2_pay10) ∨ (¬ p2_0 i ∧ g0 = s0 ∧ g1 = s1 ∧ g2 = s2))
    (ho : (p2_1 i ∧ o' = k2_pay2 (k2_pay6 x3 x4 (k2_pay14 x0 x1 x2 g0) (bs2 (BitVec.ofNat 32 (i 0).val) (k2_pay13 x0 x1 x2) g2)) (k2_pay7 x3 x4 (k2_pay14 x0 x1 x2 g0) (k2_pay12 x0 x1 x2 g1)))
      ∨ (¬ p2_1 i ∧ o' = o)) (E : Set ℕ) (K : PUnit → sProp (Mo F)) :
   iprop(own2 c arg1 arg2 arg3 arg4 arg5 arg6 arg7 arg8 arg9 x0 x1 x2 x3 x4 o s0 s1 s2
     ∗ (own2 c arg1 arg2 arg3 arg4 arg5 arg6 arg7 arg8 arg9 x0 x1 x2 x3 x4 o'
         (k2_pay14 x0 x1 x2 g0) (k2_pay12 x0 x1 x2 g1) (bs2 (BitVec.ofNat 32 (i 0).val) (k2_pay13 x0 x1 x2) g2) -∗ K ⟨⟩))
          ⊢ wp frame (wpE (defs₀ (F := F)) Variants.none c none) E (cc2__hop1_body i arg1 harg1 arg2 harg2 arg3 harg3 arg4 harg4 arg5 harg5 arg6 harg6 arg7 harg7 arg8 harg8 arg9 harg9) K := by
    simp only [cc2__hop1_body_eq_skeleton]; unfold cc2__hop1_body_skel
    simp only [k2_part2_eq_skeleton, k2_part1_eq_skeleton]
    unfold own2 owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, ⟨%fs2, %hs2, HS2⟩⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5; obtain rfl := harg7.eq_unread hs0; obtain rfl := harg8.eq_unread hs1; obtain rfl := harg9.eq_unread hs2
    rcases hg with ⟨hc0, rfl, rfl, rfl⟩ | ⟨hc0, rfl, rfl, rfl⟩ <;> rcases ho with ⟨hc1, rfl⟩ | ⟨hc1, rfl⟩
    all_goals
      sl_exec (disch := first | sl_exact hc0 | sl_exact hc1)
      sl_step
      iapply Hk
      isplitl [H0]; rotate_left; isplitl [H1]; rotate_left; isplitl [H2]; rotate_left; isplitl [H3]; rotate_left; isplitl [H4]; rotate_left
      isplitl [H5]; rotate_left; isplitl [HS0]; rotate_left; isplitl [HS1]; rotate_left
      all_goals (iexists _; isplitr; rotate_left; first | iexact H0 | iexact H1 | iexact H2 | iexact H3 | iexact H4 | iexact H5 | iexact HS0 | iexact HS1 | iexact HS2)
      all_goals ipureintro
      all_goals first | assumption | refine (read_last _ _ (by exact zz) _ _ _).trans ?_
      all_goals repeat' first
        | with_reducible rfl
        | exact readAt_all ‹_› (by exact zz) _ _
        | refine (cov_last _ (by exact zz) (by exact zz) _ _ _ _).trans ?_
        | refine congr2 k2_pay2 ?_ ?_
        | refine congr4 k2_pay6 ?_ ?_ ?_ ?_
        | refine congr4 k2_pay7 ?_ ?_ ?_ ?_
        | refine congr4 k2_pay14 ?_ ?_ ?_ ?_
        | refine congr4 k2_pay12 ?_ ?_ ?_ ?_
        | refine congr3 k2_pay13 ?_ ?_ ?_
        | refine congr2 (bs2 _) ?_ ?_
end
end Cert.KernelIdeal.Hop
-- ==== Proof.RunOf.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.Hop1
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (V : Dev nD → Valuation τ sig (Elt F))

/-! The whole of `main`, given a record of each call. -/

/-- One index at each cell of a TensorCore. -/
def Lt (g : GSem nD τ sig) : Finset Unit := if g.1.2 = .tc then {()} else ∅

theorem Lt_ne (g : GSem nD τ sig) (h : g.1.2 ≠ .tc) : Lt g = ∅ := if_neg h

/-- What a core holds beside the buffers between two items. -/
abbrev Er (c : Dev nD) : sProp (Mo F) := iprop((∃ Wd, owes (c : Thread nD τ) (0 : CellTallies nD τ sig Unit) Wd) ∗ (∃ r, prngReg c r) ∗ emp)

/-- The type of the proof data of the four calls. -/
abbrev PD (F : FTy → Type) [FloatOps F] : Type := (p : Fin 4) → (c : Dev nD) → Dat τ (Elt F) Unit ℕ (UR sig nD τ) ℕ (cfgs p) c

theorem cutLt (p : Fin 4) : Pipeline.LevelCut (pcfgs (F := F)) adm () Lt (fun _ _ => (0 : ℕ)) p (fun _ => 0) (fun _ => 0) where
  hι c w s := by unfold Lt; rw [if_pos rfl]; exact Finset.mem_singleton_self _
  hιb c w s := le_refl _
  hD c g i h := absurd h (lt_irrefl _)

variable (m : (ℓ : Loc nD τ sig) → Buf (Elt F) ℓ)

/-- The last reshape. -/
def seg_5 (W5 : Dev nD → Valuation τ sig (Elt F)) : HostSeg (Ix := Unit) (Name := ℕ) (U := UR sig nD τ) (Lvl := ℕ) (pcfgs (F := F)) defs₀ Variants.none Lt (fun _ _ => 0) :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) W5 Er

section

variable (pd : PD F) (R0 : RegionSeg (pcfgs (F := F)) adm pd () defs₀ Variants.none Lt (fun _ _ => 0) 0) (R1 : RegionSeg (pcfgs (F := F)) adm pd () defs₀ Variants.none Lt (fun _ _ => 0) 1)
  (R2 : RegionSeg (pcfgs (F := F)) adm pd () defs₀ Variants.none Lt (fun _ _ => 0) 2) (R3 : RegionSeg (pcfgs (F := F)) adm pd () defs₀ Variants.none Lt (fun _ _ => 0) 3)

/-- The items of `main`. -/
abbrev items (W5 : Dev nD → Valuation τ sig (Elt F)) : List (Seg (pcfgs (F := F)) adm pd () defs₀ Variants.none Lt (fun _ _ => 0)) :=
  [.host (seg0 m Variants.none Lt (fun _ _ => 0) (fun _ => Er)), .region R0, .region R1, .region R2, .region R3, .host (seg_5 W5)]

set_option backward.isDefEq.respectTransparency.types false in
/-- From any memory with zero counters every execution ends, every unscoped buffer holding the last contents, every counter at zero. -/
theorem run_of (ρ : Dev nD → PrngReg) (W2 W3 W4 W5 : Dev nD → Valuation τ sig (Elt F))
    (pre_0 : ∀ c : Dev nD, iprop(StableHlo.held (c : Thread nD τ) (Pipeline.ucRefs τ sig) (V1 m c) ∗ Er c) ⊢ R0.pre c)
    (post_0 : ∀ c : Dev nD, R0.post c ⊢ iprop(StableHlo.held (c : Thread nD τ) (Pipeline.ucRefs τ sig) (W2 c) ∗ Er c))
    (pre_1 : ∀ c : Dev nD, iprop(StableHlo.held (c : Thread nD τ) (Pipeline.ucRefs τ sig) (W2 c) ∗ Er c) ⊢ R1.pre c)
    (post_1 : ∀ c : Dev nD, R1.post c ⊢ iprop(StableHlo.held (c : Thread nD τ) (Pipeline.ucRefs τ sig) (W3 c) ∗ Er c))
    (pre_2 : ∀ c : Dev nD, iprop(StableHlo.held (c : Thread nD τ) (Pipeline.ucRefs τ sig) (W3 c) ∗ Er c) ⊢ R2.pre c)
    (post_2 : ∀ c : Dev nD, R2.post c ⊢ iprop(StableHlo.held (c : Thread nD τ) (Pipeline.ucRefs τ sig) (W4 c) ∗ Er c))
    (pre_3 : ∀ c : Dev nD, iprop(StableHlo.held (c : Thread nD τ) (Pipeline.ucRefs τ sig) (W4 c) ∗ Er c) ⊢ R3.pre c)
    (post_3 : ∀ c : Dev nD, R3.post c ⊢ iprop(StableHlo.held (c : Thread nD τ) (Pipeline.ucRefs τ sig) (W5 c) ∗ Er c)) :
    θ_run defs (onTc (τ := τ) (main (F := F))) ⟨m, fun _ => 0, ρ⟩ (fun r =>
    (∀ (c : Dev nD) (b : Ref sig .tc), b.isScoped = false → r.2.mem ((c.tc : Thread nD τ).loc b) = StableHlo.after hostOps4 (W5 c) (Proc.devRef .tc b)) ∧ r.2.sem = fun _ => 0) := by
  refine Pipeline.θ_run_regions_kit_dev_sems (pcfgs (F := F)) adm pd () cellOf_inj emb₁ defs₀ Variants.none Lt (fun _ _ => 0) m ρ main
    (fun _ => items m pd R0 R1 R2 R3 W5)
    (fun c Q => by
      rewrite [main_chain c, Seg.run_eq_chain,
        show (items m pd R0 R1 R2 R3 W5).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      dsimp (config := { failIfUnchanged := false }) only
      exact .rfl)
    (fun c => by simp only [items, Seg.pipes_host, Seg.pipes_region, Seg.pipes_nil]; decide) (O₀ := 0) Lt_ne (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Er c))
    (Tₙ := fun c => StableHlo.held (c : Thread nD τ) (Pipeline.ucRefs τ sig) (StableHlo.after hostOps4 (W5 c)))
    (hch := fun c => ⟨.rfl, pre_0 c, (post_0 c).trans (pre_1 c), (post_1 c).trans (pre_2 c), (post_2 c).trans (pre_3 c), post_3 c,
      sep_mono .rfl (show Er c ⊢ (iprop(∃ W, owes (c : Thread nD τ) (0 : CellTallies nD τ sig Unit) W) : sProp (Mo F)) from by iintro ⟨HO, -, -⟩; iexact HO)⟩)
    (hinit := ?_)
    (QY := fun c s => ∀ b : Ref sig .tc, b.isScoped = false → s.mem ((c.tc : Thread nD τ).loc b) = StableHlo.after hostOps4 (W5 c) (Proc.devRef .tc b))
    (hfin := fun c s' => ?_) (hQ := fun _ h hz => ⟨h, funext fun g => hz g (.inr (regions_no_unscoped g.2))⟩)
  · iintro Hu
    imodintro
    isplitl [Hu]
    · iapply (show (ownU _ : sProp (Mo F)) ⊢ BI.own (emb₁ (initOf (Pipeline.cells cfgs cellOf_inj) (Pipeline.launchToks cfgs cellOf_inj))) from .rfl)
      iexact Hu
    iapply (show (BI.emp : sProp (Mo F)) ⊢ bigSep Finset.univ (fun _ : Dev nD => (BI.emp : sProp (Mo F))) from by rw [BI.bigSep_emp_const])
    iempintro
  · refine Pipeline.initEach Lt (fun _ _ => 0) fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (StableHlo.after hostOps4 (W5 c)) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    iexact HSI

end

end Cert.KernelIdeal.Hop
-- ==== Proof.Hop3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop1

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block coordinate is the first. -/
abbrev p0_0 (i : grid0.Coords) : Prop := (Scalar.cmpi .ne (Scalar.extui (Scalar.cmpi .eq (BitVec.ofNat 32 (i 1).val) 0#32)) 0#32) = 1#1

/-- What the running batch sums become at a block. -/
def bs0 (i : grid0.Coords) (cs : Vec F S1x256 .f32) (b : Vec F S8x256 .f32) : Vec F S8x256 .f32 :=
  k0_pay3 i cs b 1#32 (Scalar.divsi (BitVec.ofNat 32 (i 1).val) 1#32) (Scalar.extui (Scalar.cmpi .sgt (BitVec.ofNat 32 (i 1).val) 0#32)) (Scalar.cmpi .slt (BitVec.ofNat 32 (i 1).val) 0#32)

section
variable (c : Dev nD) (i : grid0.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S32768x128 .bf16) (harg12 : arg12.IsWhole) (arg13 : Memref sig .tc .vmem S32768x256 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S256x256 .f32) (harg23 : arg23.IsWhole) (arg24 : Memref sig .tc .vmem S8x256 .f32) (harg24 : arg24.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (x7 : Vec F S256x512 .f32) (x8 : Vec F S1x512 .f32) (o : Vec F S8x512 .f32) (z : Vec F S32768x128 .bf16) (y : Vec F S32768x256 .bf16) (s : Vec F S1x128 .f32) (q : Vec F S1x128 .f32) (t : Vec F S1x256 .f32) (r : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32)

/-- The operands at given contents. -/
def own0 (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (x7 : Vec F S256x512 .f32) (x8 : Vec F S1x512 .f32) (o : Vec F S8x512 .f32) (z : Vec F S32768x128 .bf16) (y : Vec F S32768x256 .bf16) (s : Vec F S1x128 .f32) (q : Vec F S1x128 .f32) (t : Vec F S1x256 .f32) (r : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) : sProp (Mo F) :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare z ∗ owns (c : Thread nD τ) arg13 fullShare y ∗ owns (c : Thread nD τ) arg14 fullShare s ∗ owns (c : Thread nD τ) arg15 fullShare q ∗ owns (c : Thread nD τ) arg16 fullShare t ∗ owns (c : Thread nD τ) arg17 fullShare r ∗ owns (c : Thread nD τ) arg18 fullShare a ∗ owns (c : Thread nD τ) arg19 fullShare b ∗ owns (c : Thread nD τ) arg20 fullShare d ∗ owns (c : Thread nD τ) arg21 fullShare e ∗ owns (c : Thread nD τ) arg22 fullShare sh ∗ owns (c : Thread nD τ) arg23 fullShare g ∗ owns (c : Thread nD τ) arg24 fullShare bs)

end

end Cert.KernelIdeal.Hop
-- ==== Proof.Hop3B.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop3

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36

section
variable (c : Dev nD) (i : grid0.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S32768x128 .bf16) (harg12 : arg12.IsWhole) (arg13 : Memref sig .tc .vmem S32768x256 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S256x256 .f32) (harg23 : arg23.IsWhole) (arg24 : Memref sig .tc .vmem S8x256 .f32) (harg24 : arg24.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (x7 : Vec F S256x512 .f32) (x8 : Vec F S1x512 .f32) (o : Vec F S8x512 .f32) (z : Vec F S32768x128 .bf16) (y : Vec F S32768x256 .bf16) (s : Vec F S1x128 .f32) (q : Vec F S1x128 .f32) (t : Vec F S1x256 .f32) (r : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32)

/-- The body in the second phase: the first block works out the first normalisation, every block is normalised, multiplied, stored and added to the second running sums. -/
theorem hop3_bodyB (hA : ¬ k0_cond1 i = 1#1) (hB : k0_cond3 i = 1#1) (hC : ¬ k0_cond5 i = 1#1) (a' b' : Vec F S1x128 .f32) (g0 g1 : Vec F S1x256 .f32)
    (hg : (p0_0 i ∧ a' = k0_pay13 s q ∧ b' = k0_pay14 s q ∧ g0 = k0_pay15 ∧ g1 = k0_pay16) ∨ (¬ p0_0 i ∧ a' = a ∧ b' = b ∧ g0 = t ∧ g1 = r)) (E : Set ℕ) (K : PUnit → sProp (Mo F)) :
    iprop(own0 c arg2 arg3 arg4 arg5 arg6 arg7 arg8 arg9 arg10 arg11 arg12 arg13 arg14 arg15 arg16 arg17 arg18 arg19 arg20 arg21 arg22 arg23 arg24 x0 x1 x2 x3 x4 x5 x6 x7 x8 o z y s q t r a b d e sh g bs
      ∗ (own0 c arg2 arg3 arg4 arg5 arg6 arg7 arg8 arg9 arg10 arg11 arg12 arg13 arg14 arg15 arg16 arg17 arg18 arg19 arg20 arg21 arg22 arg23 arg24 x0 x1 x2 x3 x4 x5 x6 x7 x8 o z (VecWindow.put y (k0_off3 i) S4096x256.size (k0_pay18 (View.ld z (Rect.unit (s := S32768x128) (k0_off2 i) S4096x128.size (k0_off2_inb i hB))) a' b' x5 x6)) s q (k0_pay19 (View.ld z (Rect.unit (s := S32768x128) (k0_off2 i) S4096x128.size (k0_off2_inb i hB))) a' b' x5 x6 g0) (k0_pay2 g1 (k0_pay20 (View.ld z (Rect.unit (s := S32768x128) (k0_off2 i) S4096x128.size (k0_off2_inb i hB))) a' b' x5 x6)) a' b' d e sh g bs -∗ K ⟨⟩))
    ⊢ wp frame (wpE (defs₀ (F := F)) Variants.none c none) E (cc0__hop3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__hop3_body_eq_skeleton]; unfold cc0__hop3_body_skel
  simp only [k0_part1_eq_skeleton, k0_part2_eq_skeleton, k0_part3_eq_skeleton, k0_part4_eq_skeleton]
  unfold own0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
  rcases hg with ⟨hc0, rfl, rfl, rfl, rfl⟩ | ⟨hc0, rfl, rfl, rfl, rfl⟩
  all_goals
    sl_exec (disch := first | sl_exact hA | sl_exact hB | sl_exact hC | sl_exact hc0)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left; isplitl [H15]; rotate_left; isplitl [H16]; rotate_left; isplitl [H17]; rotate_left; isplitl [H18]; rotate_left; isplitl [H19]; rotate_left; isplitl [H20]; rotate_left; isplitl [H21]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15 | iexact H16 | iexact H17 | iexact H18 | iexact H19 | iexact H20 | iexact H21 | iexact H22)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congrArg (VecWindow.put _ _ _) ?_
      | refine congr2 k0_pay13 ?_ ?_
      | refine congr2 k0_pay14 ?_ ?_
      | refine congr2 k0_pay2 ?_ ?_
      | refine congr5 k0_pay18 ?_ ?_ ?_ ?_ ?_
      | refine congr6 k0_pay19 ?_ ?_ ?_ ?_ ?_ ?_
      | refine congr5 k0_pay20 ?_ ?_ ?_ ?_ ?_

end

end Cert.KernelIdeal.Hop
-- ==== Proof.Hop3A.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop3

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36

section
variable (c : Dev nD) (i : grid0.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S32768x128 .bf16) (harg12 : arg12.IsWhole) (arg13 : Memref sig .tc .vmem S32768x256 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S256x256 .f32) (harg23 : arg23.IsWhole) (arg24 : Memref sig .tc .vmem S8x256 .f32) (harg24 : arg24.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (x7 : Vec F S256x512 .f32) (x8 : Vec F S1x512 .f32) (o : Vec F S8x512 .f32) (z : Vec F S32768x128 .bf16) (y : Vec F S32768x256 .bf16) (s : Vec F S1x128 .f32) (q : Vec F S1x128 .f32) (t : Vec F S1x256 .f32) (r : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32)

/-- The body in the first phase: one block of rows is stored and added to the running sums, which the first block resets. -/
theorem hop3_bodyA (hA : k0_cond1 i = 1#1) (hB : ¬ k0_cond3 i = 1#1) (hC : ¬ k0_cond5 i = 1#1) (g0 g1 : Vec F S1x128 .f32)
    (hg : (p0_0 i ∧ g0 = k0_pay5 ∧ g1 = k0_pay6) ∨ (¬ p0_0 i ∧ g0 = s ∧ g1 = q)) (E : Set ℕ) (K : PUnit → sProp (Mo F)) :
    iprop(own0 c arg2 arg3 arg4 arg5 arg6 arg7 arg8 arg9 arg10 arg11 arg12 arg13 arg14 arg15 arg16 arg17 arg18 arg19 arg20 arg21 arg22 arg23 arg24 x0 x1 x2 x3 x4 x5 x6 x7 x8 o z y s q t r a b d e sh g bs
      ∗ (own0 c arg2 arg3 arg4 arg5 arg6 arg7 arg8 arg9 arg10 arg11 arg12 arg13 arg14 arg15 arg16 arg17 arg18 arg19 arg20 arg21 arg22 arg23 arg24 x0 x1 x2 x3 x4 x5 x6 x7 x8 o (VecWindow.put z (k0_off1 i) S4096x128.size (k0_pay8 x0 x1 x2 x3 x4)) y (k0_pay9 x0 x1 x2 x3 x4 g0) (k0_pay1 (k0_pay10 x0 x1 x2 x3 x4 g1)) t r a b d e sh g bs -∗ K ⟨⟩))
    ⊢ wp frame (wpE (defs₀ (F := F)) Variants.none c none) E (cc0__hop3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__hop3_body_eq_skeleton]; unfold cc0__hop3_body_skel
  simp only [k0_part1_eq_skeleton, k0_part2_eq_skeleton, k0_part3_eq_skeleton, k0_part4_eq_skeleton]
  unfold own0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
  rcases hg with ⟨hc0, rfl, rfl⟩ | ⟨hc0, rfl, rfl⟩
  all_goals
    sl_exec (disch := first | sl_exact hA | sl_exact hB | sl_exact hC | sl_exact hc0)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left; isplitl [H15]; rotate_left; isplitl [H16]; rotate_left; isplitl [H17]; rotate_left; isplitl [H18]; rotate_left; isplitl [H19]; rotate_left; isplitl [H20]; rotate_left; isplitl [H21]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15 | iexact H16 | iexact H17 | iexact H18 | iexact H19 | iexact H20 | iexact H21 | iexact H22)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congrArg (VecWindow.put _ _ _) ?_
      | refine congrArg k0_pay1 ?_
      | refine congr5 k0_pay8 ?_ ?_ ?_ ?_ ?_
      | refine congr6 k0_pay9 ?_ ?_ ?_ ?_ ?_ ?_
      | refine congr6 k0_pay10 ?_ ?_ ?_ ?_ ?_ ?_

end

end Cert.KernelIdeal.Hop
-- ==== Proof.Hop3C.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop3

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36

section
variable (c : Dev nD) (i : grid0.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S256x512 .f32) (harg9 : arg9.IsWhole) (arg10 : Memref sig .tc .vmem S1x512 .f32) (harg10 : arg10.IsWhole) (arg11 : Memref sig .tc .vmem S8x512 .f32) (harg11 : arg11.IsWhole) (arg12 : Memref sig .tc .vmem S32768x128 .bf16) (harg12 : arg12.IsWhole) (arg13 : Memref sig .tc .vmem S32768x256 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S256x256 .f32) (harg23 : arg23.IsWhole) (arg24 : Memref sig .tc .vmem S8x256 .f32) (harg24 : arg24.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (x7 : Vec F S256x512 .f32) (x8 : Vec F S1x512 .f32) (o : Vec F S8x512 .f32) (z : Vec F S32768x128 .bf16) (y : Vec F S32768x256 .bf16) (s : Vec F S1x128 .f32) (q : Vec F S1x128 .f32) (t : Vec F S1x256 .f32) (r : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32)

/-- The body in the third phase: the first block works out the second normalisation and resets the sums, every block is normalised and added to them, the last one emits the output. -/
theorem hop3_bodyC (hA : ¬ k0_cond1 i = 1#1) (hB : ¬ k0_cond3 i = 1#1) (hC : k0_cond5 i = 1#1) (d' e' e0 : Vec F S1x256 .f32) (e1 : Vec F S256x256 .f32) (e2 : Vec F S8x256 .f32) (o' : Vec F S8x512 .f32)
    (hg : (p0_0 i ∧ d' = k0_pay28 t r ∧ e' = k0_pay29 t r ∧ e0 = k0_pay30 ∧ e1 = k0_pay31 ∧ e2 = k0_pay32) ∨ (¬ p0_0 i ∧ d' = d ∧ e' = e ∧ e0 = sh ∧ e1 = g ∧ e2 = bs))
    (ho : (k0_cond7 i = 1#1 ∧ o' = k0_pay4 (k0_pay24 x7 x8 (k0_pay36 (View.ld y (Rect.unit (s := S32768x256) (k0_off4 i) S4096x256.size (k0_off4_inb i hC))) d' e' e0) (bs0 i (k0_pay35 (View.ld y (Rect.unit (s := S32768x256) (k0_off4 i) S4096x256.size (k0_off4_inb i hC))) d' e') e2)) (k0_pay25 x7 x8 (k0_pay36 (View.ld y (Rect.unit (s := S32768x256) (k0_off4 i) S4096x256.size (k0_off4_inb i hC))) d' e' e0) (k0_pay34 (View.ld y (Rect.unit (s := S32768x256) (k0_off4 i) S4096x256.size (k0_off4_inb i hC))) d' e' e1))) ∨ (¬ k0_cond7 i = 1#1 ∧ o' = o)) (E : Set ℕ) (K : PUnit → sProp (Mo F)) :
    iprop(own0 c arg2 arg3 arg4 arg5 arg6 arg7 arg8 arg9 arg10 arg11 arg12 arg13 arg14 arg15 arg16 arg17 arg18 arg19 arg20 arg21 arg22 arg23 arg24 x0 x1 x2 x3 x4 x5 x6 x7 x8 o z y s q t r a b d e sh g bs
      ∗ (own0 c arg2 arg3 arg4 arg5 arg6 arg7 arg8 arg9 arg10 arg11 arg12 arg13 arg14 arg15 arg16 arg17 arg18 arg19 arg20 arg21 arg22 arg23 arg24 x0 x1 x2 x3 x4 x5 x6 x7 x8 o' z y s q t r a b d' e' (k0_pay36 (View.ld y (Rect.unit (s := S32768x256) (k0_off4 i) S4096x256.size (k0_off4_inb i hC))) d' e' e0) (k0_pay34 (View.ld y (Rect.unit (s := S32768x256) (k0_off4 i) S4096x256.size (k0_off4_inb i hC))) d' e' e1) (bs0 i (k0_pay35 (View.ld y (Rect.unit (s := S32768x256) (k0_off4 i) S4096x256.size (k0_off4_inb i hC))) d' e') e2) -∗ K ⟨⟩))
    ⊢ wp frame (wpE (defs₀ (F := F)) Variants.none c none) E (cc0__hop3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__hop3_body_eq_skeleton]; unfold cc0__hop3_body_skel
  simp only [k0_part1_eq_skeleton, k0_part2_eq_skeleton, k0_part3_eq_skeleton, k0_part4_eq_skeleton]
  unfold own0 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22
  rcases hg with ⟨hc0, rfl, rfl, rfl, rfl, rfl⟩ | ⟨hc0, rfl, rfl, rfl, rfl, rfl⟩ <;> rcases ho with ⟨hc1, rfl⟩ | ⟨hc1, rfl⟩
  all_goals
    sl_exec (disch := first | sl_exact hA | sl_exact hB | sl_exact hC | sl_exact hc0 | sl_exact hc1)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left; isplitl [H15]; rotate_left; isplitl [H16]; rotate_left; isplitl [H17]; rotate_left; isplitl [H18]; rotate_left; isplitl [H19]; rotate_left; isplitl [H20]; rotate_left; isplitl [H21]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15 | iexact H16 | iexact H17 | iexact H18 | iexact H19 | iexact H20 | iexact H21 | iexact H22)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congr2 k0_pay4 ?_ ?_
      | refine congr4 k0_pay24 ?_ ?_ ?_ ?_
      | refine congr4 k0_pay25 ?_ ?_ ?_ ?_
      | refine congr2 k0_pay28 ?_ ?_
      | refine congr2 k0_pay29 ?_ ?_
      | refine congr4 k0_pay34 ?_ ?_ ?_ ?_
      | refine congr3 k0_pay35 ?_ ?_ ?_
      | refine congr4 k0_pay36 ?_ ?_ ?_ ?_
      | refine congr2 (bs0 i) ?_ ?_

end

end Cert.KernelIdeal.Hop
-- ==== Proof.Reg0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.Hop3B
public import proofs.«01_k».proof.Proof.Hop3A
public import proofs.«01_k».proof.Proof.Hop3C
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Dev nD → Valuation τ sig (Elt F))

/-! The call of the third hop, in three phases of one block per batch: the first product and its sums; its normalisation, the second product and its sums; its
normalisation and the sums of products. The last block emits the output. -/

section conditions

theorem c0 (t : Fin grid0.N) : (grid0.coords t 0).val = t.val / 8 ∧ (grid0.coords t 1).val = t.val % 8 := by
  have ht : t.val < 24 := Nat.lt_of_lt_of_eq t.isLt N_0
  have e0 : (grid0.coords t 0).val = t.val / 8 % 3 := Pipeline.Grid.coords_val t 0 (by decide) rfl
  have e1 : (grid0.coords t 1).val = t.val / 1 % 8 := Pipeline.Grid.coords_val t 1 (by decide) rfl
  omega

theorem hp0_0 (t : Fin grid0.N) : p0_0 (grid0.coords t) ↔ t.val % 8 = 0 := by
  have ht : t.val < 24 := Nat.lt_of_lt_of_eq t.isLt N_0
  simp only [p0_0, (c0 t).2]
  word_cmp

theorem hA0 (t : Fin grid0.N) : k0_cond1 (grid0.coords t) = 1#1 ↔ t.val < 8 := by
  have ht : t.val < 24 := Nat.lt_of_lt_of_eq t.isLt N_0
  simp only [k0_cond1, (c0 t).1]
  word_cmp

theorem hB0 (t : Fin grid0.N) : k0_cond3 (grid0.coords t) = 1#1 ↔ 8 ≤ t.val ∧ t.val < 16 := by
  have ht : t.val < 24 := Nat.lt_of_lt_of_eq t.isLt N_0
  simp only [k0_cond3, (c0 t).1]
  word_cmp

theorem hC0 (t : Fin grid0.N) : k0_cond5 (grid0.coords t) = 1#1 ↔ 16 ≤ t.val := by
  have ht : t.val < 24 := Nat.lt_of_lt_of_eq t.isLt N_0
  simp only [k0_cond5, (c0 t).1]
  word_cmp

theorem hL0 (t : Fin grid0.N) : k0_cond7 (grid0.coords t) = 1#1 ↔ t.val % 8 = 7 := by
  have ht : t.val < 24 := Nat.lt_of_lt_of_eq t.isLt N_0
  simp only [k0_cond7, (c0 t).2]
  word_cmp

theorem off0_1 : ∀ i : grid0.Coords, k0_off1 i = ![4096 * (i 1).val, 0] := by decide
theorem off0_2 : ∀ i : grid0.Coords, k0_off2 i = ![4096 * (i 1).val, 0] := by decide
theorem off0_3 : ∀ i : grid0.Coords, k0_off3 i = ![4096 * (i 1).val, 0] := by decide
theorem off0_4 : ∀ i : grid0.Coords, k0_off4 i = ![4096 * (i 1).val, 0] := by decide

end conditions

/-- The block window `w` stages at point `t`. -/
def ib0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The point at a natural number. -/
def tt0 (n : ℕ) : Fin cfg0.N := ⟨n % 24, Nat.lt_of_lt_of_eq (Nat.mod_lt n (by decide)) N_0.symm⟩

theorem tt0_val (t : Fin cfg0.N) : tt0 t.val = t :=
  Fin.ext (Nat.mod_eq_of_lt (Nat.lt_of_lt_of_eq t.isLt N_0))

/-- Where block `j` of the rows lies in scratch. -/
def bo0 (j : ℕ) : Fin 2 → ℕ := ![4096 * (j % 8), 0]

theorem bo0_inb (j : ℕ) : ∀ a, bo0 j a + S4096x128.size a ≤ S32768x128.size a := by
  intro a; have := Nat.mod_lt j (show 0 < 8 by decide)
  fin_cases a
  · show 4096 * (j % 8) + 4096 ≤ 32768; omega
  · show 0 + 128 ≤ 128; omega

theorem bo0_inb' (j : ℕ) : ∀ a, bo0 j a + S4096x256.size a ≤ S32768x256.size a := by
  intro a; have := Nat.mod_lt j (show 0 < 8 by decide)
  fin_cases a
  · show 4096 * (j % 8) + 4096 ≤ 32768; omega
  · show 0 + 256 ≤ 256; omega

/-- A block of the first product. -/
def z0 (c : Dev nD) (t : Fin cfg0.N) : Vec F S4096x128 .bf16 := k0_pay8 (ib0 V c 0 t) (ib0 V c 1 t) (ib0 V c 2 t) (ib0 V c 3 t) (ib0 V c 4 t)

/-- One block's step of the first running sums. -/
def step0 (c : Dev nD) (t : Fin cfg0.N) (p : Vec F S1x128 .f32 × Vec F S1x128 .f32) : Vec F S1x128 .f32 × Vec F S1x128 .f32 :=
  (k0_pay9 (ib0 V c 0 t) (ib0 V c 1 t) (ib0 V c 2 t) (ib0 V c 3 t) (ib0 V c 4 t) p.1, k0_pay1 (k0_pay10 (ib0 V c 0 t) (ib0 V c 1 t) (ib0 V c 2 t) (ib0 V c 3 t) (ib0 V c 4 t) p.2))

/-- The first running sums after the first `n` blocks. -/
def acc0 (c : Dev nD) : ℕ → Vec F S1x128 .f32 × Vec F S1x128 .f32
  | 0 => (k0_pay5, k0_pay6)
  | n + 1 => step0 V c (tt0 n) (acc0 c n)

/-- The factor and the offset of the first normalisation. -/
def fa0 (c : Dev nD) : Vec F S1x128 .f32 := k0_pay13 (acc0 V c 8).1 (acc0 V c 8).2
def fb0 (c : Dev nD) : Vec F S1x128 .f32 := k0_pay14 (acc0 V c 8).1 (acc0 V c 8).2

/-- A block of the second product. -/
def y0 (c : Dev nD) (t : Fin cfg0.N) (Z : Vec F S4096x128 .bf16) : Vec F S4096x256 .bf16 :=
  k0_pay18 Z (fa0 V c) (fb0 V c) (ib0 V c 5 t) (ib0 V c 6 t)

/-- Block `j` of the second product. -/
def yb0 (c : Dev nD) (j : ℕ) : Vec F S4096x256 .bf16 := y0 V c (tt0 (j + 8)) (z0 V c (tt0 (j % 8)))

/-- One block's step of the second running sums. -/
def stepB0 (c : Dev nD) (t : Fin cfg0.N) (Z : Vec F S4096x128 .bf16) (p : Vec F S1x256 .f32 × Vec F S1x256 .f32) : Vec F S1x256 .f32 × Vec F S1x256 .f32 :=
  (k0_pay19 Z (fa0 V c) (fb0 V c) (ib0 V c 5 t) (ib0 V c 6 t) p.1, k0_pay2 p.2 (k0_pay20 Z (fa0 V c) (fb0 V c) (ib0 V c 5 t) (ib0 V c 6 t)))

/-- The second running sums after the first `n` blocks. -/
def accB0 (c : Dev nD) : ℕ → Vec F S1x256 .f32 × Vec F S1x256 .f32
  | 0 => (k0_pay15, k0_pay16)
  | n + 1 => stepB0 V c (tt0 (n + 8)) (z0 V c (tt0 (n % 8))) (accB0 c n)

/-- The factor and the offset of the second normalisation. -/
def fd0 (c : Dev nD) : Vec F S1x256 .f32 := k0_pay28 (accB0 V c 8).1 (accB0 V c 8).2
def fe0 (c : Dev nD) : Vec F S1x256 .f32 := k0_pay29 (accB0 V c 8).1 (accB0 V c 8).2

/-- One block's step of the third phase: the column sums, the Gram matrix, the batch sums. -/
def stepC0 (c : Dev nD) (t : Fin cfg0.N) (Y : Vec F S4096x256 .bf16) (p : Vec F S1x256 .f32 × Vec F S256x256 .f32 × Vec F S8x256 .f32) :
    Vec F S1x256 .f32 × Vec F S256x256 .f32 × Vec F S8x256 .f32 :=
  (k0_pay36 Y (fd0 V c) (fe0 V c) p.1, k0_pay34 Y (fd0 V c) (fe0 V c) p.2.1,
    bs0 (grid0.coords t) (k0_pay35 Y (fd0 V c) (fe0 V c)) p.2.2)

/-- The sums of the third phase after its first `n` blocks. -/
def accC0 (c : Dev nD) : ℕ → Vec F S1x256 .f32 × Vec F S256x256 .f32 × Vec F S8x256 .f32
  | 0 => (k0_pay30, k0_pay31, k0_pay32)
  | n + 1 => stepC0 V c (tt0 (n + 16)) (yb0 V c (n % 8)) (accC0 c n)

/-- What the call leaves in its output block. -/
def out0 (c : Dev nD) (t : Fin cfg0.N) : Vec F S8x512 .f32 :=
  k0_pay4 (k0_pay24 (ib0 V c 7 t) (ib0 V c 8 t) (accC0 V c 8).1 (accC0 V c 8).2.2)
    (k0_pay25 (ib0 V c 7 t) (ib0 V c 8 t) (accC0 V c 8).1 (accC0 V c 8).2.1)

/-- What the scratch holds before point `n`. -/
structure Inv0 (c : Dev nD) (n : ℕ) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) : Prop where
  hz : ∀ j, j < n → j < 8 → View.ld z (Rect.unit (s := S32768x128) (bo0 j) S4096x128.size (bo0_inb j)) = z0 V c (tt0 j)
  hs : n ≠ 0 → s = (acc0 V c (min n 8)).1 ∧ q = (acc0 V c (min n 8)).2
  ha : 8 < n → a = fa0 V c ∧ b = fb0 V c ∧ t1 = (accB0 V c (min (n - 8) 8)).1 ∧ r1 = (accB0 V c (min (n - 8) 8)).2
  hy : ∀ j, j < n - 8 → j < 8 → View.ld y (Rect.unit (s := S32768x256) (bo0 j) S4096x256.size (bo0_inb' j)) = yb0 V c j
  hd : 16 < n → d = fd0 V c ∧ e = fe0 V c ∧ sh = (accC0 V c (n - 16)).1 ∧ g = (accC0 V c (n - 16)).2.1 ∧ bs = (accC0 V c (n - 16)).2.2

abbrev inv0 (c : Dev nD) (n : ℕ) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) : Prop := Inv0 V c n z y s q t1 r1 a b d e sh g bs

theorem inv0_zero (c : Dev nD) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) : inv0 V c 0 z y s q t1 r1 a b d e sh g bs :=
  ⟨fun j hj => absurd hj (Nat.not_lt_zero j), fun h => absurd rfl h, fun h => absurd h (by decide), fun j hj => absurd hj (by omega), fun h => absurd h (by decide)⟩

/-- What holds between points. -/
def Phi0 (c : Dev nD) (n : ℕ) : sProp (Mo F) :=
  iprop((∃ z y s q t1 r1 a b d e sh g bs, ⌜inv0 V c n z y s q t1 r1 a b d e sh g bs⌝ ∗ owns (c : Thread nD τ) (Memref.whole cc0_scratch0) fullShare z ∗ owns (c : Thread nD τ) (Memref.whole cc0_scratch1) fullShare y ∗ owns (c : Thread nD τ) (Memref.whole cc0_scratch2) fullShare s ∗ owns (c : Thread nD τ) (Memref.whole cc0_scratch3) fullShare q ∗ owns (c : Thread nD τ) (Memref.whole cc0_scratch4) fullShare t1 ∗ owns (c : Thread nD τ) (Memref.whole cc0_scratch5) fullShare r1 ∗ owns (c : Thread nD τ) (Memref.whole cc0_scratch6) fullShare a ∗ owns (c : Thread nD τ) (Memref.whole cc0_scratch7) fullShare b ∗ owns (c : Thread nD τ) (Memref.whole cc0_scratch8) fullShare d ∗ owns (c : Thread nD τ) (Memref.whole cc0_scratch9) fullShare e ∗ owns (c : Thread nD τ) (Memref.whole cc0_scratch10) fullShare sh ∗ owns (c : Thread nD τ) (Memref.whole cc0_scratch11) fullShare g ∗ owns (c : Thread nD τ) (Memref.whole cc0_scratch12) fullShare bs)
    ∗ Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6, cc0_scratch7, cc0_scratch8, cc0_scratch9, cc0_scratch10, cc0_scratch11, cc0_scratch12]
    ∗ (∃ r, prngReg c r))

def dat0 (c : Dev nD) : Dat τ (Elt F) Unit ℕ (UR sig nD τ) ℕ cfg0 c where
  A w := V c (Proc.devRef .tc (Pipeline.arrRef spec0 w))
  after w t := match w with
    | ⟨0, _⟩ => ib0 V c 0 t
    | ⟨1, _⟩ => ib0 V c 1 t
    | ⟨2, _⟩ => ib0 V c 2 t
    | ⟨3, _⟩ => ib0 V c 3 t
    | ⟨4, _⟩ => ib0 V c 4 t
    | ⟨5, _⟩ => ib0 V c 5 t
    | ⟨6, _⟩ => ib0 V c 6 t
    | ⟨7, _⟩ => ib0 V c 7 t
    | ⟨8, _⟩ => ib0 V c 8 t
    | ⟨9, _⟩ => out0 V c t
  Φ t := Phi0 V c t.val
  q _ := fullShare
  owed _ := 0

theorem dat0_A (c : Dev nD) (w : Fin cfg0.W) : (dat0 V c).A w = V c (Proc.devRef .tc (Pipeline.arrRef spec0 w)) := by dsimp only [dat0]

theorem bef0 (c : Dev nD) (w : Fin cfg0.W) (hw : w.val < 9) (t : Fin cfg0.N) (d) : (dat0 V c).before w t d = (dat0 V c).after w t := by
  have key : ∀ (w : Fin cfg0.W) (hw : (cfg0.win w).isOut = false) (hl : ∀ i, cfg0.idle w i = false)
      (hc : ∀ t t' : Fin cfg0.N, (cfg0.win w).index t = (cfg0.win w).index t' → (cfg0.win w).clip (cfg0.grid.coords t) = (cfg0.win w).clip (cfg0.grid.coords t'))
      (hk : ∀ t, (cfg0.win w).cut (cfg0.grid.coords t) ((dat0 V c).after w t) = (dat0 V c).blockOf w t) (d)
      (hf : (dat0 V c).fetched w t d = (dat0 V c).after w t), (dat0 V c).before w t d = (dat0 V c).after w t :=
    fun w hw hl hc hk d hf => ((dat0 V c).before_in_eq_fetched w hw hl hc hk t d).trans hf
  match w, hw with
  | ⟨0, _⟩, _ => exact key 0 rfl (fun _ => rfl) (fun _ _ _ => rfl) (fun _ => rfl) _ rfl
  | ⟨1, _⟩, _ => exact key 1 rfl (fun _ => rfl) (fun _ _ _ => rfl) (fun _ => rfl) _ rfl
  | ⟨2, _⟩, _ => exact key 2 rfl (fun _ => rfl) (fun _ _ _ => rfl) (fun _ => rfl) _ rfl
  | ⟨3, _⟩, _ => exact key 3 rfl (fun _ => rfl) (fun _ _ _ => rfl) (fun _ => rfl) _ rfl
  | ⟨4, _⟩, _ => exact key 4 rfl (fun _ => rfl) (fun _ _ _ => rfl) (fun _ => rfl) _ rfl
  | ⟨5, _⟩, _ => exact key 5 rfl (fun _ => rfl) (fun _ _ _ => rfl) (fun _ => rfl) _ rfl
  | ⟨6, _⟩, _ => exact key 6 rfl (fun _ => rfl) (fun _ _ _ => rfl) (fun _ => rfl) _ rfl
  | ⟨7, _⟩, _ => exact key 7 rfl (fun _ => rfl) (fun _ _ _ => rfl) (fun _ => rfl) _ rfl
  | ⟨8, _⟩, _ => exact key 8 rfl (fun _ => rfl) (fun _ _ _ => rfl) (fun _ => rfl) _ rfl

theorem leaves0_in (c : Dev nD) (w : Fin cfg0.W) (hw : w.val < 9) (t : Fin cfg0.N) :
    (dat0 V c).leavesExact w t = owns (c : Thread nD τ) ((cfg0.win w).stage (cfg0.slots t w)) fullShare ((dat0 V c).after w t) := by
  have hl : cfg0.idle w (cfg0.grid.coords t) = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
  unfold Dat.leavesExact; rw [hl]

/-- The body's operands at point `t`: the inputs at their blocks, the output block at `o`, the scratch at the rest. -/
def stage0 (c : Dev nD) (t : Fin cfg0.N) (o : Vec F S8x512 .f32) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) : sProp (Mo F) :=
  own0 c (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12)
    (ib0 V c 0 t) (ib0 V c 1 t) (ib0 V c 2 t) (ib0 V c 3 t) (ib0 V c 4 t) (ib0 V c 5 t) (ib0 V c 6 t) (ib0 V c 7 t) (ib0 V c 8 t) o z y s q t1 r1 a b d e sh g bs

theorem idle0_9 (c : Dev nD) (t : Fin cfg0.N) (d) (hn : t.val ≠ 23) :
    owns (c : Thread nD τ) (st0_9 t) fullShare ((dat0 V c).before 9 t d) ⊢ ((dat0 V c).leavesExact 9 t : sProp (Mo F)) := by
  have ht : t.val < 24 := Nat.lt_of_lt_of_eq t.isLt N_0
  have hl : cfg0.idle 9 (cfg0.grid.coords t) = true := by
    show (!(k0_cond5 (grid0.coords t) == 1#1 && k0_cond7 (grid0.coords t) == 1#1)) = true
    rw [Bool.not_eq_true', Bool.and_eq_false_iff, beq_eq_false_iff_ne, beq_eq_false_iff_ne, Ne, Ne, hC0 t, hL0 t]; omega
  have hf : (cfg0.win 9).flush t = false := by
    rw [← Bool.not_eq_true, flush0_9 t]; omega
  rw [(dat0 V c).leavesExact_idle 9 t hl hf]
  iintro H; iexists d; iexact H

/-- What the body at point `t` does: what it leaves keeps the invariant, and the output block is what is claimed where it is not idle. -/
def Point0 (c : Dev nD) (t : Fin cfg0.N) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) (o0 : Vec F S8x512 .f32) : Prop := ∃ o' z' y' s' q' t1' r1' a' b' d' e' sh' g' bs',
    (∀ K : PUnit → sProp (Mo F), iprop(stage0 V c t o0 z y s q t1 r1 a b d e sh g bs ∗ (stage0 V c t o' z' y' s' q' t1' r1' a' b' d' e' sh' g' bs' -∗ K ⟨⟩))
      ⊢ wp frame (wpE (defs₀ (F := F)) Variants.none c none) Set.univ (bodyAt0 t) K)
    ∧ inv0 V c (t.val + 1) z' y' s' q' t1' r1' a' b' d' e' sh' g' bs'
    ∧ (owns (c : Thread nD τ) (st0_9 t) fullShare o' ⊢ ((dat0 V c).leavesExact 9 t : sProp (Mo F)))

theorem point0A (c : Dev nD) (t : Fin cfg0.N) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) (od) (hi : inv0 V c t.val z y s q t1 r1 a b d e sh g bs) (h8 : t.val < 8) : Point0 V c t z y s q t1 r1 a b d e sh g bs ((dat0 V c).before 9 t od) := by
  have ht : t.val < 24 := Nat.lt_of_lt_of_eq t.isLt N_0
  obtain ⟨hz, hs, ha, hy, hd⟩ := hi
  have hA := (hA0 t).mpr h8
  have hB : ¬ k0_cond3 (grid0.coords t) = 1#1 := fun h => by have := (hB0 t).mp h; omega
  have hC : ¬ k0_cond5 (grid0.coords t) = 1#1 := fun h => by have := (hC0 t).mp h; omega
  have hg : (p0_0 (grid0.coords t) ∧ (acc0 V c t.val).1 = k0_pay5 ∧ (acc0 V c t.val).2 = k0_pay6)
      ∨ (¬ p0_0 (grid0.coords t) ∧ (acc0 V c t.val).1 = s ∧ (acc0 V c t.val).2 = q) := by
    by_cases h0 : t.val = 0
    · left; rw [h0]; exact ⟨(hp0_0 t).mpr (by omega), rfl, rfl⟩
    · right; have h := hs h0; rw [Nat.min_eq_left (by omega)] at h
      exact ⟨fun h => h0 (by have := (hp0_0 t).mp h; omega), h.1.symm, h.2.symm⟩
  refine ⟨(dat0 V c).before 9 t od, _, y, _, _, t1, r1, a, b, d, e, sh, g, bs, fun K => hop3_bodyA c (grid0.coords t) _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ hA hB hC _ _ hg Set.univ K, ⟨?_, ?_, ?_, ?_, ?_⟩, idle0_9 V c t od (by omega)⟩
  · have hb := bands_put z bo0 S4096x128.size bo0_inb (fun j => z0 V c (tt0 j)) t.val 8 0 (fun j j' hj hj' hne => by
        show 4096 * (j % 8) + 4096 ≤ 4096 * (j' % 8) ∨ 4096 * (j' % 8) + 4096 ≤ 4096 * (j % 8); omega) h8 hz
        (o := k0_off1 (grid0.coords t)) (by rw [off0_1, (c0 t).2]; rfl)
    simp only [tt0_val] at hb
    exact hb
  · intro _; rw [Nat.min_eq_left (by omega), acc0, tt0_val]; exact ⟨rfl, rfl⟩
  · intro h; omega
  · intro j hj; omega
  · intro h; omega

theorem point0B (c : Dev nD) (t : Fin cfg0.N) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) (od) (hi : inv0 V c t.val z y s q t1 r1 a b d e sh g bs) (h8 : 8 ≤ t.val) (h16 : t.val < 16) : Point0 V c t z y s q t1 r1 a b d e sh g bs ((dat0 V c).before 9 t od) := by
  have ht : t.val < 24 := Nat.lt_of_lt_of_eq t.isLt N_0
  obtain ⟨hz, hs, ha, hy, hd⟩ := hi
  have hA : ¬ k0_cond1 (grid0.coords t) = 1#1 := fun h => by have := (hA0 t).mp h; omega
  have hB := (hB0 t).mpr ⟨h8, h16⟩
  have hC : ¬ k0_cond5 (grid0.coords t) = 1#1 := fun h => by have := (hC0 t).mp h; omega
  have h := hs (by omega); rw [Nat.min_eq_right (by omega)] at h
  obtain ⟨rfl, rfl⟩ := h
  have ez : View.ld z (Rect.unit (s := S32768x128) (k0_off2 (grid0.coords t)) S4096x128.size (k0_off2_inb (grid0.coords t) hB)) = z0 V c (tt0 ((t.val - 8) % 8)) :=
    (ld_off z (off := k0_off2 (grid0.coords t)) (by rw [off0_2, (c0 t).2]; show _ = ![4096 * ((t.val - 8) % 8 % 8), 0]; rw [Nat.mod_mod, show (t.val - 8) % 8 = t.val % 8 by omega]) (k0_off2_inb (grid0.coords t) hB) (bo0_inb ((t.val - 8) % 8))).trans
      (hz ((t.val - 8) % 8) (by omega) (by omega))
  have hn : accB0 V c (min (t.val + 1 - 8) 8) = stepB0 V c t (z0 V c (tt0 ((t.val - 8) % 8))) (accB0 V c (t.val - 8)) := by
    rw [Nat.min_eq_left (by omega), show t.val + 1 - 8 = (t.val - 8) + 1 by omega, accB0, show t.val - 8 + 8 = t.val by omega, tt0_val]
  have hg : (p0_0 (grid0.coords t) ∧ fa0 V c = k0_pay13 (acc0 V c 8).1 (acc0 V c 8).2 ∧ fb0 V c = k0_pay14 (acc0 V c 8).1 (acc0 V c 8).2
        ∧ (accB0 V c (t.val - 8)).1 = k0_pay15 ∧ (accB0 V c (t.val - 8)).2 = k0_pay16)
      ∨ (¬ p0_0 (grid0.coords t) ∧ fa0 V c = a ∧ fb0 V c = b ∧ (accB0 V c (t.val - 8)).1 = t1 ∧ (accB0 V c (t.val - 8)).2 = r1) := by
    by_cases h0 : t.val = 8
    · left; rw [h0]; exact ⟨(hp0_0 t).mpr (by omega), rfl, rfl, rfl, rfl⟩
    · right; have h := ha (by omega); rw [Nat.min_eq_left (by omega)] at h
      exact ⟨fun h => h0 (by have := (hp0_0 t).mp h; omega), h.1.symm, h.2.1.symm, h.2.2.1.symm, h.2.2.2.symm⟩
  refine ⟨(dat0 V c).before 9 t od, z, _, _, _, _, _, fa0 V c, fb0 V c, d, e, sh, g, bs, fun K => hop3_bodyB c (grid0.coords t) _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ hA hB hC _ _ _ _ hg Set.univ K, ⟨?_, ?_, ?_, ?_, ?_⟩, idle0_9 V c t od (by omega)⟩
  · intro j hj hj8; exact hz j (by omega) hj8
  · intro _; rw [Nat.min_eq_right (by omega)]; exact ⟨rfl, rfl⟩
  · intro _; rw [hn, ez]; exact ⟨rfl, rfl, rfl, rfl⟩
  · have hb := bands_put y bo0 S4096x256.size bo0_inb' (fun j => yb0 V c j) (t.val - 8) 8 0 (fun j j' hj hj' hne => by
        show 4096 * (j % 8) + 4096 ≤ 4096 * (j' % 8) ∨ 4096 * (j' % 8) + 4096 ≤ 4096 * (j % 8); omega) (by omega) hy
        (o := k0_off3 (grid0.coords t)) (by rw [off0_3, (c0 t).2]; show _ = ![4096 * ((t.val - 8) % 8), 0]; rw [show (t.val - 8) % 8 = t.val % 8 by omega])
    have ey : yb0 V c (t.val - 8) = y0 V c t (z0 V c (tt0 ((t.val - 8) % 8))) := by
      rw [yb0, show t.val - 8 + 8 = t.val by omega, tt0_val]
    rw [ez]
    intro j hj hj8
    have := hb j (by omega) hj8
    simp only [ey] at this
    exact this
  · intro h; omega

theorem point0C (c : Dev nD) (t : Fin cfg0.N) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) (od) (hi : inv0 V c t.val z y s q t1 r1 a b d e sh g bs) (h16 : 16 ≤ t.val) : Point0 V c t z y s q t1 r1 a b d e sh g bs ((dat0 V c).before 9 t od) := by
  have ht : t.val < 24 := Nat.lt_of_lt_of_eq t.isLt N_0
  obtain ⟨hz, hs, ha, hy, hd⟩ := hi
  have hA : ¬ k0_cond1 (grid0.coords t) = 1#1 := fun h => by have := (hA0 t).mp h; omega
  have hB : ¬ k0_cond3 (grid0.coords t) = 1#1 := fun h => by have := (hB0 t).mp h; omega
  have hC := (hC0 t).mpr h16
  have h := ha (by omega); rw [Nat.min_eq_right (by omega)] at h
  obtain ⟨rfl, rfl, rfl, rfl⟩ := h
  have ez : View.ld y (Rect.unit (s := S32768x256) (k0_off4 (grid0.coords t)) S4096x256.size (k0_off4_inb (grid0.coords t) hC)) = yb0 V c ((t.val - 16) % 8) :=
    (ld_off y (off := k0_off4 (grid0.coords t)) (by rw [off0_4, (c0 t).2]; show _ = ![4096 * ((t.val - 16) % 8 % 8), 0]; rw [Nat.mod_mod, show (t.val - 16) % 8 = t.val % 8 by omega]) (k0_off4_inb (grid0.coords t) hC) (bo0_inb' ((t.val - 16) % 8))).trans
      (hy ((t.val - 16) % 8) (by omega) (by omega))
  have hn : accC0 V c (t.val + 1 - 16) = stepC0 V c t (yb0 V c ((t.val - 16) % 8)) (accC0 V c (t.val - 16)) := by
    rw [show t.val + 1 - 16 = (t.val - 16) + 1 by omega, accC0, show t.val - 16 + 16 = t.val by omega, tt0_val]
  have hg : (p0_0 (grid0.coords t) ∧ fd0 V c = k0_pay28 (accB0 V c 8).1 (accB0 V c 8).2 ∧ fe0 V c = k0_pay29 (accB0 V c 8).1 (accB0 V c 8).2
        ∧ (accC0 V c (t.val - 16)).1 = k0_pay30 ∧ (accC0 V c (t.val - 16)).2.1 = k0_pay31 ∧ (accC0 V c (t.val - 16)).2.2 = k0_pay32)
      ∨ (¬ p0_0 (grid0.coords t) ∧ fd0 V c = d ∧ fe0 V c = e ∧ (accC0 V c (t.val - 16)).1 = sh ∧ (accC0 V c (t.val - 16)).2.1 = g ∧ (accC0 V c (t.val - 16)).2.2 = bs) := by
    by_cases h0 : t.val = 16
    · left; rw [h0]; exact ⟨(hp0_0 t).mpr (by omega), rfl, rfl, rfl, rfl, rfl⟩
    · right; have h := hd (by omega)
      exact ⟨fun h => h0 (by have := (hp0_0 t).mp h; omega), h.1.symm, h.2.1.symm, h.2.2.1.symm, h.2.2.2.1.symm, h.2.2.2.2.symm⟩
  have ho : ∃ o', ((k0_cond7 (grid0.coords t) = 1#1 ∧ o' = k0_pay4 (k0_pay24 (ib0 V c 7 t) (ib0 V c 8 t) (accC0 V c (t.val + 1 - 16)).1 (accC0 V c (t.val + 1 - 16)).2.2)
        (k0_pay25 (ib0 V c 7 t) (ib0 V c 8 t) (accC0 V c (t.val + 1 - 16)).1 (accC0 V c (t.val + 1 - 16)).2.1))
      ∨ (¬ k0_cond7 (grid0.coords t) = 1#1 ∧ o' = (dat0 V c).before 9 t od))
      ∧ (owns (c : Thread nD τ) (st0_9 t) fullShare o' ⊢ ((dat0 V c).leavesExact 9 t : sProp (Mo F))) := by
    by_cases h23 : t.val = 23
    · refine ⟨out0 V c t, .inl ⟨(hL0 t).mpr (by omega), ?_⟩, ?_⟩
      · rw [out0, show t.val + 1 - 16 = 8 by omega]
      · have hl : cfg0.idle 9 (cfg0.grid.coords t) = false := by
          show (!(k0_cond5 (grid0.coords t) == 1#1 && k0_cond7 (grid0.coords t) == 1#1)) = false
          rw [hC, (hL0 t).mpr (by omega)]; rfl
        unfold Dat.leavesExact; rw [hl]; exact .rfl
    · exact ⟨(dat0 V c).before 9 t od, .inr ⟨fun h => h23 (by have := (hL0 t).mp h; omega), rfl⟩, idle0_9 V c t od h23⟩
  obtain ⟨o', ho, hl⟩ := ho
  rw [hn] at ho
  unfold stepC0 at ho
  rw [← ez] at ho
  refine ⟨o', z, y, s, q, _, _, _, _, fd0 V c, fe0 V c, _, _, _, fun K => hop3_bodyC c (grid0.coords t) _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ hA hB hC _ _ _ _ _ o' hg ho Set.univ K, ⟨?_, ?_, ?_, ?_, ?_⟩, hl⟩
  · intro j hj hj8; exact hz j (by omega) hj8
  · intro _; have := hs (by omega); rw [Nat.min_eq_right (by omega)] at this ⊢; exact this
  · intro _; rw [Nat.min_eq_right (by omega)]; exact ⟨rfl, rfl, rfl, rfl⟩
  · intro j hj hj8; exact hy j (by omega) hj8
  · intro _; rw [hn, ez]; exact ⟨rfl, rfl, rfl, rfl, rfl⟩

theorem point0 (c : Dev nD) (t : Fin cfg0.N) (z : Vec F S32768x128 .bf16) (y : Vec F S32768x256 .bf16) (s : Vec F S1x128 .f32) (q : Vec F S1x128 .f32) (t1 : Vec F S1x256 .f32) (r1 : Vec F S1x256 .f32) (a : Vec F S1x128 .f32) (b : Vec F S1x128 .f32) (d : Vec F S1x256 .f32) (e : Vec F S1x256 .f32) (sh : Vec F S1x256 .f32) (g : Vec F S256x256 .f32) (bs : Vec F S8x256 .f32) (od) (hi : inv0 V c t.val z y s q t1 r1 a b d e sh g bs) : Point0 V c t z y s q t1 r1 a b d e sh g bs ((dat0 V c).before 9 t od) := by
  by_cases h8 : t.val < 8
  · exact point0A V c t z y s q t1 r1 a b d e sh g bs od hi h8
  · by_cases h16 : t.val < 16
    · exact point0B V c t z y s q t1 r1 a b d e sh g bs od hi (by omega) h16
    · exact point0C V c t z y s q t1 r1 a b d e sh g bs od hi (by omega)

theorem sound0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d))
      ∗ (∃ d, owns (c : Thread nD τ) (st0_9 t) fullShare ((dat0 V c).before 9 t d)))
    ⊢ wp frame (wpE (defs₀ (F := F)) Variants.none c none) Set.univ (bodyAt0 t) (fun _ =>
      iprop((dat0 V c).Φ t.succ ∗ (dat0 V c).owesAt () t.succ
      ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t)) := by
  simp only [bef0 V c 0 (by decide), bef0 V c 1 (by decide), bef0 V c 2 (by decide), bef0 V c 3 (by decide), bef0 V c 4 (by decide), bef0 V c 5 (by decide), bef0 V c 6 (by decide), bef0 V c 7 (by decide), bef0 V c 8 (by decide),
    leaves0_in V c 0 (by decide), leaves0_in V c 1 (by decide), leaves0_in V c 2 (by decide), leaves0_in V c 3 (by decide), leaves0_in V c 4 (by decide), leaves0_in V c 5 (by decide), leaves0_in V c 6 (by decide), leaves0_in V c 7 (by decide), leaves0_in V c 8 (by decide)]
  rw [show (dat0 V c).owesAt () t.succ = (dat0 V c).owesAt () t.castSucc from rfl,
    show (dat0 V c).Φ t.succ = Phi0 V c (t.val + 1) from rfl, show (dat0 V c).Φ t.castSucc = Phi0 V c t.val from rfl]
  unfold Phi0
  iintro ⟨⟨⟨%z, %y, %s, %q, %t1, %r1, %a, %b, %d, %e, %sh, %g, %bs, %hi, HS0, HS1, HS2, HS3, HS4, HS5, HS6, HS7, HS8, HS9, HS10, HS11, HS12⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨o', z', y', s', q', t1', r1', a', b', d', e', sh', g', bs', hb, hi', hl⟩ := point0 V c t z y s q t1 r1 a b d e sh g bs d9 hi
  iapply (hb _)
  unfold stage0 own0
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iexact HS12
  iintro ⟨H0, H1, H2, H3, H4, H5, H6, H7, H8, H9, HS0, HS1, HS2, HS3, HS4, HS5, HS6, HS7, HS8, HS9, HS10, HS11, HS12⟩
  isplitl [HS0 HS1 HS2 HS3 HS4 HS5 HS6 HS7 HS8 HS9 HS10 HS11 HS12 Hr Hg]
  · isplitl [HS0 HS1 HS2 HS3 HS4 HS5 HS6 HS7 HS8 HS9 HS10 HS11 HS12]
    · iexists z', y', s', q', t1', r1', a', b', d', e', sh', g', bs'
      isplitr; · ipureintro; exact hi'
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      iexact HS12
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply hl $$ H9

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 V c) (defs₀ (F := F)) Variants.none () Set.univ := fun t => by
  rw [bigSep_W0, bigSep_W0, row0]
  exact triple_restated (sound0 V c t) rfl .rfl fun _ => .rfl

theorem hin0 (c : Dev nD) : iprop(Pipeline.scopedRest (Ix := Unit) (Name := ℕ) (U := UR sig nD τ) (Lvl := ℕ) (Val := Elt F) spec0 c ∗ (∃ r, prngReg c r)) ⊢ ((dat0 V c).Φ 0 : sProp (Mo F)) := by
  rw [show (dat0 V c).Φ 0 = Phi0 V c 0 from rfl, scopedRest0_split]
  unfold Phi0
  simp only [owns_whole]
  iintro ⟨⟨⟨⟨%f0, HS0⟩, ⟨%f1, HS1⟩, ⟨%f2, HS2⟩, ⟨%f3, HS3⟩, ⟨%f4, HS4⟩, ⟨%f5, HS5⟩, ⟨%f6, HS6⟩, ⟨%f7, HS7⟩, ⟨%f8, HS8⟩, ⟨%f9, HS9⟩, ⟨%f10, HS10⟩, ⟨%f11, HS11⟩, ⟨%f12, HS12⟩⟩, Hr⟩, Hg⟩
  isplitl [HS0 HS1 HS2 HS3 HS4 HS5 HS6 HS7 HS8 HS9 HS10 HS11 HS12]
  · iexists f0, f1, f2, f3, f4, f5, f6, f7, f8, f9, f10, f11, f12
    isplitr; · ipureintro; exact inv0_zero V c f0 f1 f2 f3 f4 f5 f6 f7 f8 f9 f10 f11 f12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iexact HS12
  isplitl [Hr]; · iexact Hr
  iexact Hg

theorem hout0 (c : Dev nD) : ((dat0 V c).Φ (Fin.last cfg0.N) : sProp (Mo F)) ⊢ iprop(Pipeline.scopedRest (Ix := Unit) (Name := ℕ) (U := UR sig nD τ) (Lvl := ℕ) (Val := Elt F) spec0 c ∗ (∃ r, prngReg c r)) := by
  rw [show (dat0 V c).Φ (Fin.last cfg0.N) = Phi0 V c cfg0.N from rfl, scopedRest0_split]
  unfold Phi0
  simp only [owns_whole]
  iintro ⟨⟨%f0, %f1, %f2, %f3, %f4, %f5, %f6, %f7, %f8, %f9, %f10, %f11, %f12, -, HS0, HS1, HS2, HS3, HS4, HS5, HS6, HS7, HS8, HS9, HS10, HS11, HS12⟩, Hr, Hg⟩
  isplitl [HS0 HS1 HS2 HS3 HS4 HS5 HS6 HS7 HS8 HS9 HS10 HS11 HS12 Hr]
  · isplitl [HS0 HS1 HS2 HS3 HS4 HS5 HS6 HS7 HS8 HS9 HS10 HS11 HS12]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      iexists _; iexact HS12
    iexact Hr
  iexact Hg

end Cert.KernelIdeal.Hop
-- ==== Proof.Seg0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.RunOf
public import proofs.«01_k».proof.Proof.Reg0
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (V : Dev nD → Valuation τ sig (Elt F))

/-! The record of call 0 in the run of `main`, and what it leaves in the buffers. -/

section

variable (pd : PD F) (V : Dev nD → Valuation τ sig (Elt F)) (h : ∀ c, pd 0 c = dat0 V c)

/-- The record of call 0. -/
def seg_0 : RegionSeg (pcfgs (F := F)) adm pd () defs₀ Variants.none Lt (fun _ _ => 0) 0 :=
  RegionSeg.ofHeldIn (pcfgs (F := F)) adm pd () defs₀ Variants.none Lt (fun _ _ => 0) 0 (fun _ => 0) (Pipeline.ucRefs τ sig)
    (fun c => iprop(∃ r, prngReg c r)) (fun c => iprop(∃ r, prngReg c r)) launch0.toP rfl
    (fun c => by rw [h c]; exact (body0 V c).loose) (fun c _ => by rw [h c]; rfl) (fun c => by rw [h c]; rfl) (fun c w => by rw [h c]; unfold Dat.share; split <;> rfl)
    (fun c => by rw [h c]; exact hin0 V c) (fun c => by rw [h c]; exact hout0 V c) (fun _ => 0) (cutLt 0) (fun _ => iprop(emp)) V
    (fun c w => by rw [h c]; exact dat0_A V c w)

theorem sub_0 : Pipeline.arrRefs (τ := τ) (pcfgs (F := F) 0).spec ⊆ Pipeline.ucRefs τ sig :=
  Pipeline.arrRefs_sub_ucRefs spec0 (by decide)

theorem pre_0 (c : Dev nD) : iprop(StableHlo.held (c : Thread nD τ) (Pipeline.ucRefs τ sig) (V c) ∗ Er c) ⊢ (seg_0 pd V h).pre c := by
  unfold seg_0
  exact RegionSeg.ofHeldIn_pre (S := Pipeline.ucRefs τ sig) (X := fun c => iprop(∃ r, prngReg c r)) (R := fun _ => iprop(emp)) (D := fun _ => 0) (W := V) sub_0 c

theorem post_0 (c : Dev nD) : (seg_0 pd V h).post c ⊢ iprop(StableHlo.held (c : Thread nD τ) (Pipeline.ucRefs τ sig) (Pipeline.afterRegion (dat0 V c) (V c)) ∗ Er c) := by
  rw [← h c]
  unfold seg_0
  exact RegionSeg.ofHeldIn_post sub_0 c

end

theorem keep_0 (V : Dev nD → Valuation τ sig (Elt F)) (c : Dev nD) (r : Ref sig .tc) (h : ∀ w, Pipeline.arrRef spec0 w = r → (cfg0.win w).isOut = false) :
    Pipeline.afterRegion (dat0 V c) (V c) (Proc.devRef .tc r) = V c (Proc.devRef .tc r) :=
  Pipeline.afterRegion_keeps (dat0 V c) (V c) winFacts0.arr_inj (fun w => dat0_A V c w) r h

theorem out_0 (V : Dev nD → Valuation τ sig (Elt F)) (c : Dev nD) : Pipeline.afterRegion (dat0 V c) (V c) (Proc.devRef .tc main_v13) = (dat0 V c).arrAt 9 cfg0.N :=
  Pipeline.afterRegion_arr (dat0 V c) (V c) winFacts0.arr_inj 9

end Cert.KernelIdeal.Hop
-- ==== Proof.Hop2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop1

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block coordinate is the first. -/
abbrev p1_0 (i : grid1.Coords) : Prop := (Scalar.cmpi .ne (Scalar.extui (Scalar.cmpi .eq (BitVec.ofNat 32 (i 1).val) 0#32)) 0#32) = 1#1

/-- What the running batch sums become at a block. -/
def bs1 (i : grid1.Coords) (cs : Vec F S1x128 .f32) (b : Vec F S8x128 .f32) : Vec F S8x128 .f32 :=
  k1_pay2 i cs b 1#32 (Scalar.divsi (BitVec.ofNat 32 (i 1).val) 1#32) (Scalar.extui (Scalar.cmpi .sgt (BitVec.ofNat 32 (i 1).val) 0#32)) (Scalar.cmpi .slt (BitVec.ofNat 32 (i 1).val) 0#32)

section
variable (c : Dev nD) (i : grid1.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S8x256 .f32) (harg9 : arg9.IsWhole) (arg10 : Memref sig .tc .vmem S32768x128 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S8x128 .f32) (harg17 : arg17.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (o : Vec F S8x256 .f32) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32)

/-- The operands at given contents. -/
def own1 (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (o : Vec F S8x256 .f32) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32) : sProp (Mo F) :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ owns (c : Thread nD τ) arg10 fullShare z ∗ owns (c : Thread nD τ) arg11 fullShare s ∗ owns (c : Thread nD τ) arg12 fullShare q ∗ owns (c : Thread nD τ) arg13 fullShare a ∗ owns (c : Thread nD τ) arg14 fullShare b ∗ owns (c : Thread nD τ) arg15 fullShare sh ∗ owns (c : Thread nD τ) arg16 fullShare g ∗ owns (c : Thread nD τ) arg17 fullShare bs)

end

end Cert.KernelIdeal.Hop
-- ==== Proof.Hop2B.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop2

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k1_pay1 k1_pay2 k1_pay3 k1_pay4 k1_pay5 k1_pay6 k1_pay7 k1_pay8 k1_pay9 k1_pay10 k1_pay11 k1_pay12 k1_pay13 k1_pay14 k1_pay15 k1_pay16 k1_pay17 k1_pay18 k1_pay19 k1_pay20 k1_pay21 k1_pay22 k1_pay23 k1_pay24 k1_pay25

section
variable (c : Dev nD) (i : grid1.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S8x256 .f32) (harg9 : arg9.IsWhole) (arg10 : Memref sig .tc .vmem S32768x128 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S8x128 .f32) (harg17 : arg17.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (o : Vec F S8x256 .f32) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32)

/-- The body in the second phase: the first block works out the normalisation and resets the sums, every block is normalised and added to them, the last one emits the output. -/
theorem hop2_bodyB (hA : ¬ k1_cond1 i = 1#1) (hB : k1_cond3 i = 1#1) (a' b' e0 : Vec F S1x128 .f32) (e1 : Vec F S128x128 .f32) (e2 : Vec F S8x128 .f32) (o' : Vec F S8x256 .f32)
    (hg : (p1_0 i ∧ a' = k1_pay17 s q ∧ b' = k1_pay18 s q ∧ e0 = k1_pay19 ∧ e1 = k1_pay20 ∧ e2 = k1_pay21) ∨ (¬ p1_0 i ∧ a' = a ∧ b' = b ∧ e0 = sh ∧ e1 = g ∧ e2 = bs))
    (ho : (k1_cond5 i = 1#1 ∧ o' = k1_pay3 (k1_pay13 x5 x6 (k1_pay25 (View.ld z (Rect.unit (s := S32768x128) (k1_off2 i) S4096x128.size (k1_off2_inb i hB))) a' b' e0) (bs1 i (k1_pay24 (View.ld z (Rect.unit (s := S32768x128) (k1_off2 i) S4096x128.size (k1_off2_inb i hB))) a' b') e2)) (k1_pay14 x5 x6 (k1_pay25 (View.ld z (Rect.unit (s := S32768x128) (k1_off2 i) S4096x128.size (k1_off2_inb i hB))) a' b' e0) (k1_pay23 (View.ld z (Rect.unit (s := S32768x128) (k1_off2 i) S4096x128.size (k1_off2_inb i hB))) a' b' e1))) ∨ (¬ k1_cond5 i = 1#1 ∧ o' = o)) (E : Set ℕ) (K : PUnit → sProp (Mo F)) :
    iprop(own1 c arg2 arg3 arg4 arg5 arg6 arg7 arg8 arg9 arg10 arg11 arg12 arg13 arg14 arg15 arg16 arg17 x0 x1 x2 x3 x4 x5 x6 o z s q a b sh g bs
      ∗ (own1 c arg2 arg3 arg4 arg5 arg6 arg7 arg8 arg9 arg10 arg11 arg12 arg13 arg14 arg15 arg16 arg17 x0 x1 x2 x3 x4 x5 x6 o' z s q a' b' (k1_pay25 (View.ld z (Rect.unit (s := S32768x128) (k1_off2 i) S4096x128.size (k1_off2_inb i hB))) a' b' e0) (k1_pay23 (View.ld z (Rect.unit (s := S32768x128) (k1_off2 i) S4096x128.size (k1_off2_inb i hB))) a' b' e1) (bs1 i (k1_pay24 (View.ld z (Rect.unit (s := S32768x128) (k1_off2 i) S4096x128.size (k1_off2_inb i hB))) a' b') e2) -∗ K ⟨⟩))
    ⊢ wp frame (wpE (defs₀ (F := F)) Variants.none c none) E (cc1__hop2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__hop2_body_eq_skeleton]; unfold cc1__hop2_body_skel
  simp only [k1_part1_eq_skeleton, k1_part2_eq_skeleton, k1_part3_eq_skeleton]
  unfold own1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
  rcases hg with ⟨hc0, rfl, rfl, rfl, rfl, rfl⟩ | ⟨hc0, rfl, rfl, rfl, rfl, rfl⟩ <;> rcases ho with ⟨hc1, rfl⟩ | ⟨hc1, rfl⟩
  all_goals
    sl_exec (disch := first | sl_exact hA | sl_exact hB | sl_exact hc0 | sl_exact hc1)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congr2 k1_pay3 ?_ ?_
      | refine congr4 k1_pay13 ?_ ?_ ?_ ?_
      | refine congr4 k1_pay14 ?_ ?_ ?_ ?_
      | refine congr2 k1_pay17 ?_ ?_
      | refine congr2 k1_pay18 ?_ ?_
      | refine congr4 k1_pay23 ?_ ?_ ?_ ?_
      | refine congr3 k1_pay24 ?_ ?_ ?_
      | refine congr4 k1_pay25 ?_ ?_ ?_ ?_
      | refine congr2 (bs1 i) ?_ ?_

end

end Cert.KernelIdeal.Hop
-- ==== Proof.Hop2A.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop2

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k1_pay1 k1_pay2 k1_pay3 k1_pay4 k1_pay5 k1_pay6 k1_pay7 k1_pay8 k1_pay9 k1_pay10 k1_pay11 k1_pay12 k1_pay13 k1_pay14 k1_pay15 k1_pay16 k1_pay17 k1_pay18 k1_pay19 k1_pay20 k1_pay21 k1_pay22 k1_pay23 k1_pay24 k1_pay25

section
variable (c : Dev nD) (i : grid1.Coords) (arg2 : Memref sig .tc .vmem S4096x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S8x256 .f32) (harg9 : arg9.IsWhole) (arg10 : Memref sig .tc .vmem S32768x128 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S8x128 .f32) (harg17 : arg17.IsWhole)
  (x0 : Vec F S4096x512 .f32) (x1 : Vec F S512x64 .f32) (x2 : Vec F S1x64 .f32) (x3 : Vec F S64x128 .f32) (x4 : Vec F S1x128 .f32) (x5 : Vec F S128x256 .f32) (x6 : Vec F S1x256 .f32) (o : Vec F S8x256 .f32) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32)

/-- The body in the first phase: one block of rows is stored and added to the running sums, which the first block resets. -/
theorem hop2_bodyA (hA : k1_cond1 i = 1#1) (hB : ¬ k1_cond3 i = 1#1) (g0 g1 : Vec F S1x128 .f32)
    (hg : (p1_0 i ∧ g0 = k1_pay4 ∧ g1 = k1_pay5) ∨ (¬ p1_0 i ∧ g0 = s ∧ g1 = q)) (E : Set ℕ) (K : PUnit → sProp (Mo F)) :
    iprop(own1 c arg2 arg3 arg4 arg5 arg6 arg7 arg8 arg9 arg10 arg11 arg12 arg13 arg14 arg15 arg16 arg17 x0 x1 x2 x3 x4 x5 x6 o z s q a b sh g bs
      ∗ (own1 c arg2 arg3 arg4 arg5 arg6 arg7 arg8 arg9 arg10 arg11 arg12 arg13 arg14 arg15 arg16 arg17 x0 x1 x2 x3 x4 x5 x6 o (VecWindow.put z (k1_off1 i) S4096x128.size (k1_pay7 x0 x1 x2 x3 x4)) (k1_pay8 x0 x1 x2 x3 x4 g0) (k1_pay1 (k1_pay9 x0 x1 x2 x3 x4 g1)) a b sh g bs -∗ K ⟨⟩))
    ⊢ wp frame (wpE (defs₀ (F := F)) Variants.none c none) E (cc1__hop2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__hop2_body_eq_skeleton]; unfold cc1__hop2_body_skel
  simp only [k1_part1_eq_skeleton, k1_part2_eq_skeleton, k1_part3_eq_skeleton]
  unfold own1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
  rcases hg with ⟨hc0, rfl, rfl⟩ | ⟨hc0, rfl, rfl⟩
  all_goals
    sl_exec (disch := first | sl_exact hA | sl_exact hB | sl_exact hc0)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congrArg (VecWindow.put _ _ _) ?_
      | refine congrArg k1_pay1 ?_
      | refine congr5 k1_pay7 ?_ ?_ ?_ ?_ ?_
      | refine congr6 k1_pay8 ?_ ?_ ?_ ?_ ?_ ?_
      | refine congr6 k1_pay9 ?_ ?_ ?_ ?_ ?_ ?_

end

end Cert.KernelIdeal.Hop
-- ==== Proof.Reg1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.Hop2B
public import proofs.«01_k».proof.Proof.Hop2A
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Dev nD → Valuation τ sig (Elt F))

/-! The call of the second hop: a first phase stores 4096 rows per block and their sums, a second one normalises them and sums the products; its last block emits the output. -/

section conditions

theorem c1 (t : Fin grid1.N) : (grid1.coords t 0).val = t.val / 8 ∧ (grid1.coords t 1).val = t.val % 8 := by
  have ht : t.val < 16 := Nat.lt_of_lt_of_eq t.isLt N_1
  have e0 : (grid1.coords t 0).val = t.val / 8 % 2 := Pipeline.Grid.coords_val t 0 (by decide) rfl
  have e1 : (grid1.coords t 1).val = t.val / 1 % 8 := Pipeline.Grid.coords_val t 1 (by decide) rfl
  omega

theorem hp1_0 (t : Fin grid1.N) : p1_0 (grid1.coords t) ↔ t.val % 8 = 0 := by
  have ht : t.val < 16 := Nat.lt_of_lt_of_eq t.isLt N_1
  simp only [p1_0, (c1 t).2]
  word_cmp

theorem hA1 (t : Fin grid1.N) : k1_cond1 (grid1.coords t) = 1#1 ↔ t.val < 8 := by
  have ht : t.val < 16 := Nat.lt_of_lt_of_eq t.isLt N_1
  simp only [k1_cond1, (c1 t).1]
  word_cmp

theorem hB1 (t : Fin grid1.N) : k1_cond3 (grid1.coords t) = 1#1 ↔ 8 ≤ t.val := by
  have ht : t.val < 16 := Nat.lt_of_lt_of_eq t.isLt N_1
  simp only [k1_cond3, (c1 t).1]
  word_cmp

theorem hL1 (t : Fin grid1.N) : k1_cond5 (grid1.coords t) = 1#1 ↔ t.val % 8 = 7 := by
  have ht : t.val < 16 := Nat.lt_of_lt_of_eq t.isLt N_1
  simp only [k1_cond5, (c1 t).2]
  word_cmp

theorem off1_1 : ∀ i : grid1.Coords, k1_off1 i = ![4096 * (i 1).val, 0] := by decide
theorem off1_2 : ∀ i : grid1.Coords, k1_off2 i = ![4096 * (i 1).val, 0] := by decide

end conditions

/-- The block window `w` stages at point `t`. -/
def ib1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The point at a natural number. -/
def tt1 (n : ℕ) : Fin cfg1.N := ⟨n % 16, Nat.lt_of_lt_of_eq (Nat.mod_lt n (by decide)) N_1.symm⟩

theorem tt1_val (t : Fin cfg1.N) : tt1 t.val = t :=
  Fin.ext (Nat.mod_eq_of_lt (Nat.lt_of_lt_of_eq t.isLt N_1))

/-- Where block `j` of the rows lies in scratch. -/
def bo1 (j : ℕ) : Fin 2 → ℕ := ![4096 * (j % 8), 0]

theorem bo1_inb (j : ℕ) : ∀ a, bo1 j a + S4096x128.size a ≤ S32768x128.size a := by
  intro a; have := Nat.mod_lt j (show 0 < 8 by decide)
  fin_cases a
  · show 4096 * (j % 8) + 4096 ≤ 32768; omega
  · show 0 + 128 ≤ 128; omega

/-- A block of the rows before normalisation. -/
def z1 (c : Dev nD) (t : Fin cfg1.N) : Vec F S4096x128 .bf16 := k1_pay7 (ib1 V c 0 t) (ib1 V c 1 t) (ib1 V c 2 t) (ib1 V c 3 t) (ib1 V c 4 t)

/-- One block's step of the running sums. -/
def step1 (c : Dev nD) (t : Fin cfg1.N) (p : Vec F S1x128 .f32 × Vec F S1x128 .f32) : Vec F S1x128 .f32 × Vec F S1x128 .f32 :=
  (k1_pay8 (ib1 V c 0 t) (ib1 V c 1 t) (ib1 V c 2 t) (ib1 V c 3 t) (ib1 V c 4 t) p.1, k1_pay1 (k1_pay9 (ib1 V c 0 t) (ib1 V c 1 t) (ib1 V c 2 t) (ib1 V c 3 t) (ib1 V c 4 t) p.2))

/-- The running sums after the first `n` blocks. -/
def acc1 (c : Dev nD) : ℕ → Vec F S1x128 .f32 × Vec F S1x128 .f32
  | 0 => (k1_pay4, k1_pay5)
  | n + 1 => step1 V c (tt1 n) (acc1 c n)

/-- The factor and the offset of the normalisation. -/
def fa1 (c : Dev nD) : Vec F S1x128 .f32 := k1_pay17 (acc1 V c 8).1 (acc1 V c 8).2
def fb1 (c : Dev nD) : Vec F S1x128 .f32 := k1_pay18 (acc1 V c 8).1 (acc1 V c 8).2

/-- One block's step of the second phase: the column sums, the Gram matrix, the batch sums. -/
def stepB1 (c : Dev nD) (t : Fin cfg1.N) (Z : Vec F S4096x128 .bf16) (p : Vec F S1x128 .f32 × Vec F S128x128 .f32 × Vec F S8x128 .f32) :
    Vec F S1x128 .f32 × Vec F S128x128 .f32 × Vec F S8x128 .f32 :=
  (k1_pay25 Z (fa1 V c) (fb1 V c) p.1, k1_pay23 Z (fa1 V c) (fb1 V c) p.2.1,
    bs1 (grid1.coords t) (k1_pay24 Z (fa1 V c) (fb1 V c)) p.2.2)

/-- The sums of the second phase after its first `n` blocks. -/
def accB1 (c : Dev nD) : ℕ → Vec F S1x128 .f32 × Vec F S128x128 .f32 × Vec F S8x128 .f32
  | 0 => (k1_pay19, k1_pay20, k1_pay21)
  | n + 1 => stepB1 V c (tt1 (n + 8)) (z1 V c (tt1 (n % 8))) (accB1 c n)

/-- What the call leaves in its output block. -/
def out1 (c : Dev nD) (t : Fin cfg1.N) : Vec F S8x256 .f32 :=
  k1_pay3 (k1_pay13 (ib1 V c 5 t) (ib1 V c 6 t) (accB1 V c 8).1 (accB1 V c 8).2.2)
    (k1_pay14 (ib1 V c 5 t) (ib1 V c 6 t) (accB1 V c 8).1 (accB1 V c 8).2.1)

/-- What the scratch holds before point `n`. -/
def inv1 (c : Dev nD) (n : ℕ) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32) : Prop :=
  (∀ j, j < n → j < 8 → View.ld z (Rect.unit (s := S32768x128) (bo1 j) S4096x128.size (bo1_inb j)) = z1 V c (tt1 j))
    ∧ (n ≠ 0 → s = (acc1 V c (min n 8)).1 ∧ q = (acc1 V c (min n 8)).2)
    ∧ (8 < n → a = fa1 V c ∧ b = fb1 V c ∧ sh = (accB1 V c (n - 8)).1 ∧ g = (accB1 V c (n - 8)).2.1 ∧ bs = (accB1 V c (n - 8)).2.2)

theorem inv1_zero (c : Dev nD) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32) : inv1 V c 0 z s q a b sh g bs :=
  ⟨fun j hj => absurd hj (Nat.not_lt_zero j), fun h => absurd rfl h, fun h => absurd h (by decide)⟩

/-- What holds between points. -/
def Phi1 (c : Dev nD) (n : ℕ) : sProp (Mo F) :=
  iprop((∃ z s q a b sh g bs, ⌜inv1 V c n z s q a b sh g bs⌝ ∗ owns (c : Thread nD τ) (Memref.whole cc1_scratch0) fullShare z ∗ owns (c : Thread nD τ) (Memref.whole cc1_scratch1) fullShare s ∗ owns (c : Thread nD τ) (Memref.whole cc1_scratch2) fullShare q ∗ owns (c : Thread nD τ) (Memref.whole cc1_scratch3) fullShare a ∗ owns (c : Thread nD τ) (Memref.whole cc1_scratch4) fullShare b ∗ owns (c : Thread nD τ) (Memref.whole cc1_scratch5) fullShare sh ∗ owns (c : Thread nD τ) (Memref.whole cc1_scratch6) fullShare g ∗ owns (c : Thread nD τ) (Memref.whole cc1_scratch7) fullShare bs)
    ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5, cc1_scratch6, cc1_scratch7]
    ∗ (∃ r, prngReg c r))

def dat1 (c : Dev nD) : Dat τ (Elt F) Unit ℕ (UR sig nD τ) ℕ cfg1 c where
  A w := V c (Proc.devRef .tc (Pipeline.arrRef spec1 w))
  after w t := match w with
    | ⟨0, _⟩ => ib1 V c 0 t
    | ⟨1, _⟩ => ib1 V c 1 t
    | ⟨2, _⟩ => ib1 V c 2 t
    | ⟨3, _⟩ => ib1 V c 3 t
    | ⟨4, _⟩ => ib1 V c 4 t
    | ⟨5, _⟩ => ib1 V c 5 t
    | ⟨6, _⟩ => ib1 V c 6 t
    | ⟨7, _⟩ => out1 V c t
  Φ t := Phi1 V c t.val
  q _ := fullShare
  owed _ := 0

theorem dat1_A (c : Dev nD) (w : Fin cfg1.W) : (dat1 V c).A w = V c (Proc.devRef .tc (Pipeline.arrRef spec1 w)) := by dsimp only [dat1]

theorem bef1 (c : Dev nD) (w : Fin cfg1.W) (hw : w.val < 7) (t : Fin cfg1.N) (d) : (dat1 V c).before w t d = (dat1 V c).after w t := by
  have key : ∀ (w : Fin cfg1.W) (hw : (cfg1.win w).isOut = false) (hl : ∀ i, cfg1.idle w i = false)
      (hc : ∀ t t' : Fin cfg1.N, (cfg1.win w).index t = (cfg1.win w).index t' → (cfg1.win w).clip (cfg1.grid.coords t) = (cfg1.win w).clip (cfg1.grid.coords t'))
      (hk : ∀ t, (cfg1.win w).cut (cfg1.grid.coords t) ((dat1 V c).after w t) = (dat1 V c).blockOf w t) (d)
      (hf : (dat1 V c).fetched w t d = (dat1 V c).after w t), (dat1 V c).before w t d = (dat1 V c).after w t :=
    fun w hw hl hc hk d hf => ((dat1 V c).before_in_eq_fetched w hw hl hc hk t d).trans hf
  match w, hw with
  | ⟨0, _⟩, _ => exact key 0 rfl (fun _ => rfl) (fun _ _ _ => rfl) (fun _ => rfl) _ rfl
  | ⟨1, _⟩, _ => exact key 1 rfl (fun _ => rfl) (fun _ _ _ => rfl) (fun _ => rfl) _ rfl
  | ⟨2, _⟩, _ => exact key 2 rfl (fun _ => rfl) (fun _ _ _ => rfl) (fun _ => rfl) _ rfl
  | ⟨3, _⟩, _ => exact key 3 rfl (fun _ => rfl) (fun _ _ _ => rfl) (fun _ => rfl) _ rfl
  | ⟨4, _⟩, _ => exact key 4 rfl (fun _ => rfl) (fun _ _ _ => rfl) (fun _ => rfl) _ rfl
  | ⟨5, _⟩, _ => exact key 5 rfl (fun _ => rfl) (fun _ _ _ => rfl) (fun _ => rfl) _ rfl
  | ⟨6, _⟩, _ => exact key 6 rfl (fun _ => rfl) (fun _ _ _ => rfl) (fun _ => rfl) _ rfl

theorem leaves1_in (c : Dev nD) (w : Fin cfg1.W) (hw : w.val < 7) (t : Fin cfg1.N) :
    (dat1 V c).leavesExact w t = owns (c : Thread nD τ) ((cfg1.win w).stage (cfg1.slots t w)) fullShare ((dat1 V c).after w t) := by
  have hl : cfg1.idle w (cfg1.grid.coords t) = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
  unfold Dat.leavesExact; rw [hl]

/-- The body's operands at point `t`: the inputs at their blocks, the output block at `o`, the scratch at the rest. -/
def stage1 (c : Dev nD) (t : Fin cfg1.N) (o : Vec F S8x256 .f32) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32) : sProp (Mo F) :=
  own1 c (st1_0 t) (st1_1 t) (st1_2 t) (st1_3 t) (st1_4 t) (st1_5 t) (st1_6 t) (st1_7 t) (Memref.whole cc1_scratch0) (Memref.whole cc1_scratch1) (Memref.whole cc1_scratch2) (Memref.whole cc1_scratch3) (Memref.whole cc1_scratch4) (Memref.whole cc1_scratch5) (Memref.whole cc1_scratch6) (Memref.whole cc1_scratch7)
    (ib1 V c 0 t) (ib1 V c 1 t) (ib1 V c 2 t) (ib1 V c 3 t) (ib1 V c 4 t) (ib1 V c 5 t) (ib1 V c 6 t) o z s q a b sh g bs

/-- The body at point `t`: what it leaves keeps the invariant, and the output block is what is claimed where it is not idle. -/
theorem point1 (c : Dev nD) (t : Fin cfg1.N) (z : Vec F S32768x128 .bf16) (s : Vec F S1x128 .f32) (q : Vec F S1x128 .f32) (a : Vec F S1x128 .f32) (b : Vec F S1x128 .f32) (sh : Vec F S1x128 .f32) (g : Vec F S128x128 .f32) (bs : Vec F S8x128 .f32) (d)
    (hi : inv1 V c t.val z s q a b sh g bs) : ∃ o' z' s' q' a' b' sh' g' bs',
    (∀ K : PUnit → sProp (Mo F), iprop(stage1 V c t ((dat1 V c).before 7 t d) z s q a b sh g bs ∗ (stage1 V c t o' z' s' q' a' b' sh' g' bs' -∗ K ⟨⟩))
      ⊢ wp frame (wpE (defs₀ (F := F)) Variants.none c none) Set.univ (bodyAt1 t) K)
    ∧ inv1 V c (t.val + 1) z' s' q' a' b' sh' g' bs'
    ∧ (owns (c : Thread nD τ) (st1_7 t) fullShare o' ⊢ ((dat1 V c).leavesExact 7 t : sProp (Mo F))) := by
  have ht : t.val < 16 := Nat.lt_of_lt_of_eq t.isLt N_1
  obtain ⟨hz, hs, ha⟩ := hi
  have hidle : t.val ≠ 15 → (owns (c : Thread nD τ) (st1_7 t) fullShare ((dat1 V c).before 7 t d) ⊢ ((dat1 V c).leavesExact 7 t : sProp (Mo F))) := by
    intro hn
    have hl : cfg1.idle 7 (cfg1.grid.coords t) = true := by
      show (!(k1_cond3 (grid1.coords t) == 1#1 && k1_cond5 (grid1.coords t) == 1#1)) = true
      rw [Bool.not_eq_true', Bool.and_eq_false_iff, beq_eq_false_iff_ne, beq_eq_false_iff_ne, Ne, Ne, hB1 t, hL1 t]; omega
    have hf : (cfg1.win 7).flush t = false := by
      rw [← Bool.not_eq_true, flush1_7 t]; omega
    rw [(dat1 V c).leavesExact_idle 7 t hl hf]
    iintro H; iexists d; iexact H
  by_cases h8 : t.val < 8
  · have hA := (hA1 t).mpr h8
    have hB : ¬ k1_cond3 (grid1.coords t) = 1#1 := fun h => absurd ((hB1 t).mp h) (by omega)
    have hg : (p1_0 (grid1.coords t) ∧ (acc1 V c t.val).1 = k1_pay4 ∧ (acc1 V c t.val).2 = k1_pay5)
        ∨ (¬ p1_0 (grid1.coords t) ∧ (acc1 V c t.val).1 = s ∧ (acc1 V c t.val).2 = q) := by
      by_cases h0 : t.val = 0
      · left; rw [h0]; exact ⟨(hp1_0 t).mpr (by omega), rfl, rfl⟩
      · right; have h := hs h0; rw [Nat.min_eq_left (by omega)] at h
        exact ⟨fun h => h0 (by have := (hp1_0 t).mp h; omega), h.1.symm, h.2.symm⟩
    refine ⟨(dat1 V c).before 7 t d, _, _, _, a, b, sh, g, bs, fun K => hop2_bodyA c (grid1.coords t) _ _ _ _ _ _ _ _ _ _ _ _ _ _ _ _ _ _ _ _ _ _ _ _ _ _ _ _ _ _ _ _
      _ _ _ _ _ _ _ _ _ _ _ _ _ _ _ _ hA hB _ _ hg Set.univ K, ⟨?_, ?_, ?_⟩, hidle (by omega)⟩
    · have hb := bands_put z bo1 S4096x128.size bo1_inb (fun j => z1 V c (tt1 j)) t.val 8 0 (fun j j' hj hj' hne => by
          show 4096 * (j % 8) + 4096 ≤ 4096 * (j' % 8) ∨ 4096 * (j' % 8) + 4096 ≤ 4096 * (j % 8); omega) h8 hz
          (o := k1_off1 (grid1.coords t)) (by rw [off1_1, (c1 t).2]; rfl)
      simp only [tt1_val] at hb
      exact hb
    · intro _; rw [Nat.min_eq_left (by omega), acc1, tt1_val]; exact ⟨rfl, rfl⟩
    · intro h; omega
  · have hB := (hB1 t).mpr (by omega)
    have hA : ¬ k1_cond1 (grid1.coords t) = 1#1 := fun h => h8 ((hA1 t).mp h)
    have h := hs (by omega); rw [Nat.min_eq_right (by omega)] at h
    obtain ⟨rfl, rfl⟩ := h
    have ez : View.ld z (Rect.unit (s := S32768x128) (k1_off2 (grid1.coords t)) S4096x128.size (k1_off2_inb (grid1.coords t) hB)) = z1 V c (tt1 ((t.val - 8) % 8)) :=
      (ld_off z (off := k1_off2 (grid1.coords t)) (by rw [off1_2, (c1 t).2]; show _ = ![4096 * ((t.val - 8) % 8 % 8), 0]; rw [Nat.mod_mod, show (t.val - 8) % 8 = t.val % 8 by omega]) (k1_off2_inb (grid1.coords t) hB) (bo1_inb ((t.val - 8) % 8))).trans
        (hz ((t.val - 8) % 8) (by omega) (by omega))
    have hn : accB1 V c (t.val + 1 - 8) = stepB1 V c t (z1 V c (tt1 ((t.val - 8) % 8))) (accB1 V c (t.val - 8)) := by
      rw [show t.val + 1 - 8 = (t.val - 8) + 1 by omega, accB1, show t.val - 8 + 8 = t.val by omega, tt1_val]
    have hg : (p1_0 (grid1.coords t) ∧ fa1 V c = k1_pay17 (acc1 V c 8).1 (acc1 V c 8).2 ∧ fb1 V c = k1_pay18 (acc1 V c 8).1 (acc1 V c 8).2
          ∧ (accB1 V c (t.val - 8)).1 = k1_pay19 ∧ (accB1 V c (t.val - 8)).2.1 = k1_pay20 ∧ (accB1 V c (t.val - 8)).2.2 = k1_pay21)
        ∨ (¬ p1_0 (grid1.coords t) ∧ fa1 V c = a ∧ fb1 V c = b ∧ (accB1 V c (t.val - 8)).1 = sh ∧ (accB1 V c (t.val - 8)).2.1 = g ∧ (accB1 V c (t.val - 8)).2.2 = bs) := by
      by_cases h0 : t.val = 8
      · left; rw [h0]; exact ⟨(hp1_0 t).mpr (by omega), rfl, rfl, rfl, rfl, rfl⟩
      · right; have h := ha (by omega)
        exact ⟨fun h => h0 (by have := (hp1_0 t).mp h; omega), h.1.symm, h.2.1.symm, h.2.2.1.symm, h.2.2.2.1.symm, h.2.2.2.2.symm⟩
    have ho : ∃ o', ((k1_cond5 (grid1.coords t) = 1#1 ∧ o' = k1_pay3 (k1_pay13 (ib1 V c 5 t) (ib1 V c 6 t) (accB1 V c (t.val + 1 - 8)).1 (accB1 V c (t.val + 1 - 8)).2.2)
          (k1_pay14 (ib1 V c 5 t) (ib1 V c 6 t) (accB1 V c (t.val + 1 - 8)).1 (accB1 V c (t.val + 1 - 8)).2.1))
        ∨ (¬ k1_cond5 (grid1.coords t) = 1#1 ∧ o' = (dat1 V c).before 7 t d))
        ∧ (owns (c : Thread nD τ) (st1_7 t) fullShare o' ⊢ ((dat1 V c).leavesExact 7 t : sProp (Mo F))) := by
      by_cases h15 : t.val = 15
      · refine ⟨out1 V c t, .inl ⟨(hL1 t).mpr (by omega), ?_⟩, ?_⟩
        · rw [out1, show t.val + 1 - 8 = 8 by omega]
        · have hl : cfg1.idle 7 (cfg1.grid.coords t) = false := by
            show (!(k1_cond3 (grid1.coords t) == 1#1 && k1_cond5 (grid1.coords t) == 1#1)) = false
            rw [hB, (hL1 t).mpr (by omega)]; rfl
          unfold Dat.leavesExact; rw [hl]; exact .rfl
      · exact ⟨(dat1 V c).before 7 t d, .inr ⟨fun h => h15 (by have := (hL1 t).mp h; omega), rfl⟩, hidle h15⟩
    obtain ⟨o', ho, hl⟩ := ho
    rw [hn] at ho
    unfold stepB1 at ho
    rw [← ez] at ho
    refine ⟨o', z, _, _, fa1 V c, fb1 V c, _, _, _, fun K => hop2_bodyB c (grid1.coords t) _ _ _ _ _ _ _ _ _ _ _ _ _ _ _ _ _ _ _ _ _ _ _ _ _ _ _ _ _ _ _ _
      _ _ _ _ _ _ _ _ _ _ _ _ _ _ _ _ hA hB _ _ _ _ _ o' hg ho Set.univ K, ⟨?_, ?_, ?_⟩, hl⟩
    · intro j hj hj8; exact hz j (by omega) hj8
    · intro _; rw [Nat.min_eq_right (by omega)]; exact ⟨rfl, rfl⟩
    · intro _; rw [hn, ez]; exact ⟨rfl, rfl, rfl, rfl, rfl⟩

theorem sound1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d)))
    ⊢ wp frame (wpE (defs₀ (F := F)) Variants.none c none) Set.univ (bodyAt1 t) (fun _ =>
      iprop((dat1 V c).Φ t.succ ∗ (dat1 V c).owesAt () t.succ
      ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)) := by
  simp only [bef1 V c 0 (by decide), bef1 V c 1 (by decide), bef1 V c 2 (by decide), bef1 V c 3 (by decide), bef1 V c 4 (by decide), bef1 V c 5 (by decide), bef1 V c 6 (by decide),
    leaves1_in V c 0 (by decide), leaves1_in V c 1 (by decide), leaves1_in V c 2 (by decide), leaves1_in V c 3 (by decide), leaves1_in V c 4 (by decide), leaves1_in V c 5 (by decide), leaves1_in V c 6 (by decide)]
  rw [show (dat1 V c).owesAt () t.succ = (dat1 V c).owesAt () t.castSucc from rfl,
    show (dat1 V c).Φ t.succ = Phi1 V c (t.val + 1) from rfl, show (dat1 V c).Φ t.castSucc = Phi1 V c t.val from rfl]
  unfold Phi1
  iintro ⟨⟨⟨%z, %s, %q, %a, %b, %sh, %g, %bs, %hi, HS0, HS1, HS2, HS3, HS4, HS5, HS6, HS7⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨o', z', s', q', a', b', sh', g', bs', hb, hi', hl⟩ := point1 V c t z s q a b sh g bs d7 hi
  iapply (hb _)
  unfold stage1 own1
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iintro ⟨H0, H1, H2, H3, H4, H5, H6, H7, HS0, HS1, HS2, HS3, HS4, HS5, HS6, HS7⟩
  isplitl [HS0 HS1 HS2 HS3 HS4 HS5 HS6 HS7 Hr Hg]
  · isplitl [HS0 HS1 HS2 HS3 HS4 HS5 HS6 HS7]
    · iexists z', s', q', a', b', sh', g', bs'
      isplitr; · ipureintro; exact hi'
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hl $$ H7

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 V c) (defs₀ (F := F)) Variants.none () Set.univ := fun t => by
  rw [bigSep_W1, bigSep_W1, row1]
  exact triple_restated (sound1 V c t) rfl .rfl fun _ => .rfl

theorem hin1 (c : Dev nD) : iprop(Pipeline.scopedRest (Ix := Unit) (Name := ℕ) (U := UR sig nD τ) (Lvl := ℕ) (Val := Elt F) spec1 c ∗ (∃ r, prngReg c r)) ⊢ ((dat1 V c).Φ 0 : sProp (Mo F)) := by
  rw [show (dat1 V c).Φ 0 = Phi1 V c 0 from rfl, scopedRest1_split]
  unfold Phi1
  simp only [owns_whole]
  iintro ⟨⟨⟨⟨%f0, HS0⟩, ⟨%f1, HS1⟩, ⟨%f2, HS2⟩, ⟨%f3, HS3⟩, ⟨%f4, HS4⟩, ⟨%f5, HS5⟩, ⟨%f6, HS6⟩, ⟨%f7, HS7⟩⟩, Hr⟩, Hg⟩
  isplitl [HS0 HS1 HS2 HS3 HS4 HS5 HS6 HS7]
  · iexists f0, f1, f2, f3, f4, f5, f6, f7
    isplitr; · ipureintro; exact inv1_zero V c f0 f1 f2 f3 f4 f5 f6 f7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [Hr]; · iexact Hr
  iexact Hg

theorem hout1 (c : Dev nD) : ((dat1 V c).Φ (Fin.last cfg1.N) : sProp (Mo F)) ⊢ iprop(Pipeline.scopedRest (Ix := Unit) (Name := ℕ) (U := UR sig nD τ) (Lvl := ℕ) (Val := Elt F) spec1 c ∗ (∃ r, prngReg c r)) := by
  rw [show (dat1 V c).Φ (Fin.last cfg1.N) = Phi1 V c cfg1.N from rfl, scopedRest1_split]
  unfold Phi1
  simp only [owns_whole]
  iintro ⟨⟨%f0, %f1, %f2, %f3, %f4, %f5, %f6, %f7, -, HS0, HS1, HS2, HS3, HS4, HS5, HS6, HS7⟩, Hr, Hg⟩
  isplitl [HS0 HS1 HS2 HS3 HS4 HS5 HS6 HS7 Hr]
  · isplitl [HS0 HS1 HS2 HS3 HS4 HS5 HS6 HS7]
    · isplitl [HS0]; · iexists _; iexact HS0
      isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      iexists _; iexact HS7
    iexact Hr
  iexact Hg

end Cert.KernelIdeal.Hop
-- ==== Proof.Seg1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.RunOf
public import proofs.«01_k».proof.Proof.Reg1
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (V : Dev nD → Valuation τ sig (Elt F))

/-! The record of call 1 in the run of `main`, and what it leaves in the buffers. -/

section

variable (pd : PD F) (V : Dev nD → Valuation τ sig (Elt F)) (h : ∀ c, pd 1 c = dat1 V c)

/-- The record of call 1. -/
def seg_1 : RegionSeg (pcfgs (F := F)) adm pd () defs₀ Variants.none Lt (fun _ _ => 0) 1 :=
  RegionSeg.ofHeldIn (pcfgs (F := F)) adm pd () defs₀ Variants.none Lt (fun _ _ => 0) 1 (fun _ => 0) (Pipeline.ucRefs τ sig)
    (fun c => iprop(∃ r, prngReg c r)) (fun c => iprop(∃ r, prngReg c r)) launch1.toP rfl
    (fun c => by rw [h c]; exact (body1 V c).loose) (fun c _ => by rw [h c]; rfl) (fun c => by rw [h c]; rfl) (fun c w => by rw [h c]; unfold Dat.share; split <;> rfl)
    (fun c => by rw [h c]; exact hin1 V c) (fun c => by rw [h c]; exact hout1 V c) (fun _ => 0) (cutLt 1) (fun _ => iprop(emp)) V
    (fun c w => by rw [h c]; exact dat1_A V c w)

theorem sub_1 : Pipeline.arrRefs (τ := τ) (pcfgs (F := F) 1).spec ⊆ Pipeline.ucRefs τ sig :=
  Pipeline.arrRefs_sub_ucRefs spec1 (by decide)

theorem pre_1 (c : Dev nD) : iprop(StableHlo.held (c : Thread nD τ) (Pipeline.ucRefs τ sig) (V c) ∗ Er c) ⊢ (seg_1 pd V h).pre c := by
  unfold seg_1
  exact RegionSeg.ofHeldIn_pre (S := Pipeline.ucRefs τ sig) (X := fun c => iprop(∃ r, prngReg c r)) (R := fun _ => iprop(emp)) (D := fun _ => 0) (W := V) sub_1 c

theorem post_1 (c : Dev nD) : (seg_1 pd V h).post c ⊢ iprop(StableHlo.held (c : Thread nD τ) (Pipeline.ucRefs τ sig) (Pipeline.afterRegion (dat1 V c) (V c)) ∗ Er c) := by
  rw [← h c]
  unfold seg_1
  exact RegionSeg.ofHeldIn_post sub_1 c

end

theorem keep_1 (V : Dev nD → Valuation τ sig (Elt F)) (c : Dev nD) (r : Ref sig .tc) (h : ∀ w, Pipeline.arrRef spec1 w = r → (cfg1.win w).isOut = false) :
    Pipeline.afterRegion (dat1 V c) (V c) (Proc.devRef .tc r) = V c (Proc.devRef .tc r) :=
  Pipeline.afterRegion_keeps (dat1 V c) (V c) winFacts1.arr_inj (fun w => dat1_A V c w) r h

theorem out_1 (V : Dev nD → Valuation τ sig (Elt F)) (c : Dev nD) : Pipeline.afterRegion (dat1 V c) (V c) (Proc.devRef .tc main_v14) = (dat1 V c).arrAt 7 cfg1.N :=
  Pipeline.afterRegion_arr (dat1 V c) (V c) winFacts1.arr_inj 7

end Cert.KernelIdeal.Hop
-- ==== Proof.Reg2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop1
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Dev nD → Valuation τ sig (Elt F))

/-! The first hop's call: one block of 2048 rows per batch, the running sums in scratch, the output block at the last one. -/

theorem hp2_0 : ∀ t : Fin cfg2.N, p2_0 (grid2.coords t) ↔ t.val = 0 :=
  (fun t => by
    have ht : t.val < 8 := Nat.lt_of_lt_of_eq t.isLt N_2
    have e0 : (grid2.coords t 0).val = t.val / 1 % 8 := Pipeline.Grid.coords_val t 0 (by decide) rfl
    simp only [p2_0, e0]
    word_cmp
   : ∀ t : Fin grid2.N, p2_0 (grid2.coords t) ↔ t.val = 0)

theorem hp2_1 : ∀ t : Fin cfg2.N, p2_1 (grid2.coords t) ↔ t.val = 7 :=
  (fun t => by
    have ht : t.val < 8 := Nat.lt_of_lt_of_eq t.isLt N_2
    have e0 : (grid2.coords t 0).val = t.val / 1 % 8 := Pipeline.Grid.coords_val t 0 (by decide) rfl
    simp only [p2_1, k2_cond2, e0]
    word_cmp
   : ∀ t : Fin grid2.N, p2_1 (grid2.coords t) ↔ t.val = 7)

theorem hc2 : ∀ t : Fin cfg2.N, (grid2.coords t 0).val = t.val :=
  (fun t => by
    have ht : t.val < 8 := Nat.lt_of_lt_of_eq t.isLt N_2
    have e0 : (grid2.coords t 0).val = t.val / 1 % 8 := Pipeline.Grid.coords_val t 0 (by decide) rfl
    omega
   : ∀ t : Fin grid2.N, (grid2.coords t 0).val = t.val)

/-- The block window `w` stages at point `t`. -/
def ib2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The point at a natural number. -/
def tt2 (n : ℕ) : Fin cfg2.N := ⟨n % 8, Nat.lt_of_lt_of_eq (Nat.mod_lt n (by decide)) N_2.symm⟩

theorem tt2_val (t : Fin cfg2.N) : tt2 t.val = t :=
  Fin.ext (Nat.mod_eq_of_lt (Nat.lt_of_lt_of_eq t.isLt N_2))

/-- One block's step of the accumulators. -/
def step2 (c : Dev nD) (t : Fin cfg2.N) (a : Vec F S1x64 .f32 × Vec F S64x64 .f32 × Vec F S8x64 .f32) : Vec F S1x64 .f32 × Vec F S64x64 .f32 × Vec F S8x64 .f32 :=
  (k2_pay14 (ib2 V c 0 t) (ib2 V c 1 t) (ib2 V c 2 t) a.1,
    k2_pay12 (ib2 V c 0 t) (ib2 V c 1 t) (ib2 V c 2 t) a.2.1,
    bs2 (BitVec.ofNat 32 (grid2.coords t 0).val) (k2_pay13 (ib2 V c 0 t) (ib2 V c 1 t) (ib2 V c 2 t)) a.2.2)

/-- The running sum, the running Gram matrix and the batch sums after the first `n` blocks. -/
def acc2 (c : Dev nD) : ℕ → Vec F S1x64 .f32 × Vec F S64x64 .f32 × Vec F S8x64 .f32
  | 0 => (k2_pay8, k2_pay9, k2_pay10)
  | n + 1 => step2 V c (tt2 n) (acc2 c n)

/-- What the call leaves in its output block. -/
def out2 (c : Dev nD) : Vec F S8x128 .f32 :=
  k2_pay2 (k2_pay6 (ib2 V c 3 (tt2 7)) (ib2 V c 4 (tt2 7)) (acc2 V c 8).1 (acc2 V c 8).2.2)
    (k2_pay7 (ib2 V c 3 (tt2 7)) (ib2 V c 4 (tt2 7)) (acc2 V c 8).1 (acc2 V c 8).2.1)

/-- What holds between points. -/
def Phi2 (c : Dev nD) (n : ℕ) : sProp (Mo F) :=
  iprop((∃ s0 s1 s2, ⌜n ≠ 0 → s0 = (acc2 V c n).1 ∧ s1 = (acc2 V c n).2.1 ∧ s2 = (acc2 V c n).2.2⌝
      ∗ owns (c : Thread nD τ) (Memref.whole cc2_scratch0) fullShare s0 ∗ owns (c : Thread nD τ) (Memref.whole cc2_scratch1) fullShare s1
      ∗ owns (c : Thread nD τ) (Memref.whole cc2_scratch2) fullShare s2)
    ∗ Pipeline.scopedRestBut (Ix := Unit) (Name := ℕ) (U := UR sig nD τ) (Lvl := ℕ) (Val := Elt F) spec2 c [cc2_scratch0, cc2_scratch1, cc2_scratch2]
    ∗ (∃ r, prngReg c r))

def dat2 (c : Dev nD) : Dat τ (Elt F) Unit ℕ (UR sig nD τ) ℕ cfg2 c where
  A w := V c (Proc.devRef .tc (Pipeline.arrRef spec2 w))
  after w t := match w with
    | ⟨0, _⟩ => ib2 V c 0 t
    | ⟨1, _⟩ => ib2 V c 1 t
    | ⟨2, _⟩ => ib2 V c 2 t
    | ⟨3, _⟩ => ib2 V c 3 t
    | ⟨4, _⟩ => ib2 V c 4 t
    | ⟨5, _⟩ => out2 V c
  Φ t := Phi2 V c t.val
  q _ := fullShare
  owed _ := 0

theorem dat2_A (c : Dev nD) (w : Fin cfg2.W) : (dat2 V c).A w = V c (Proc.devRef .tc (Pipeline.arrRef spec2 w)) := by dsimp only [dat2]

theorem bef2 (c : Dev nD) (w : Fin cfg2.W) (hw : w.val < 5) (t : Fin cfg2.N) (d) : (dat2 V c).before w t d = (dat2 V c).after w t := by
  have key : ∀ (w : Fin cfg2.W) (hw : (cfg2.win w).isOut = false) (hl : ∀ i, cfg2.idle w i = false)
      (hc : ∀ t t' : Fin cfg2.N, (cfg2.win w).index t = (cfg2.win w).index t' → (cfg2.win w).clip (cfg2.grid.coords t) = (cfg2.win w).clip (cfg2.grid.coords t'))
      (hk : ∀ t, (cfg2.win w).cut (cfg2.grid.coords t) ((dat2 V c).after w t) = (dat2 V c).blockOf w t) (d)
      (hf : (dat2 V c).fetched w t d = (dat2 V c).after w t), (dat2 V c).before w t d = (dat2 V c).after w t :=
    fun w hw hl hc hk d hf => ((dat2 V c).before_in_eq_fetched w hw hl hc hk t d).trans hf
  match w, hw with
  | ⟨0, _⟩, _ => exact key 0 rfl (fun _ => rfl) (fun _ _ _ => rfl) (fun _ => rfl) _ rfl
  | ⟨1, _⟩, _ => exact key 1 rfl (fun _ => rfl) (fun _ _ _ => rfl) (fun _ => rfl) _ rfl
  | ⟨2, _⟩, _ => exact key 2 rfl (fun _ => rfl) (fun _ _ _ => rfl) (fun _ => rfl) _ rfl
  | ⟨3, _⟩, _ => exact key 3 rfl (fun _ => rfl) (fun _ _ _ => rfl) (fun _ => rfl) _ rfl
  | ⟨4, _⟩, _ => exact key 4 rfl (fun _ => rfl) (fun _ _ _ => rfl) (fun _ => rfl) _ rfl

theorem leaves2_in (c : Dev nD) (w : Fin cfg2.W) (hw : w.val < 5) (t : Fin cfg2.N) :
    (dat2 V c).leavesExact w t = owns (c : Thread nD τ) ((cfg2.win w).stage (cfg2.slots t w)) fullShare ((dat2 V c).after w t) := by
  have hl : cfg2.idle w (cfg2.grid.coords t) = false := by
    match w, hw with
    | ⟨0, _⟩, _ => rfl
    | ⟨1, _⟩, _ => rfl
    | ⟨2, _⟩, _ => rfl
    | ⟨3, _⟩, _ => rfl
    | ⟨4, _⟩, _ => rfl
  unfold Dat.leavesExact; rw [hl]

theorem sound2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d)))
    ⊢ wp frame (wpE (defs₀ (F := F)) Variants.none c none) Set.univ (bodyAt2 t) (fun _ =>
      iprop((dat2 V c).Φ t.succ ∗ (dat2 V c).owesAt () t.succ
      ∗ (dat2 V c).leavesExact 0 t ∗ (dat2 V c).leavesExact 1 t ∗ (dat2 V c).leavesExact 2 t ∗ (dat2 V c).leavesExact 3 t
      ∗ (dat2 V c).leavesExact 4 t ∗ (dat2 V c).leavesExact 5 t)) := by
  unfold bodyAt2
  simp only [bef2 V c 0 (by decide), bef2 V c 1 (by decide), bef2 V c 2 (by decide), bef2 V c 3 (by decide), bef2 V c 4 (by decide),
    leaves2_in V c 0 (by decide), leaves2_in V c 1 (by decide), leaves2_in V c 2 (by decide), leaves2_in V c 3 (by decide), leaves2_in V c 4 (by decide)]
  rw [show (dat2 V c).owesAt () t.succ = (dat2 V c).owesAt () t.castSucc from rfl,
    show (dat2 V c).Φ t.succ = Phi2 V c (t.val + 1) from rfl, show (dat2 V c).Φ t.castSucc = Phi2 V c t.val from rfl]
  unfold Phi2
  iintro ⟨⟨⟨%s0, %s1, %s2, %hs, HS0, HS1, HS2⟩, Hr, Hg⟩, Ho, ⟨%d0, H0⟩, ⟨%d1, H1⟩, ⟨%d2, H2⟩, ⟨%d3, H3⟩, ⟨%d4, H4⟩, ⟨%d5, H5⟩⟩
  have ht : t.val < 8 := Nat.lt_of_lt_of_eq t.isLt N_2
  have hacc : acc2 V c (t.val + 1) = step2 V c t (acc2 V c t.val) := by
    rw [acc2, tt2_val]
  have h0 : (p2_0 (grid2.coords t) ∧ (acc2 V c t.val).1 = k2_pay8 ∧ (acc2 V c t.val).2.1 = k2_pay9 ∧ (acc2 V c t.val).2.2 = k2_pay10)
      ∨ (¬ p2_0 (grid2.coords t) ∧ (acc2 V c t.val).1 = s0 ∧ (acc2 V c t.val).2.1 = s1 ∧ (acc2 V c t.val).2.2 = s2) := by
    by_cases hz : t.val = 0
    · left; rw [hz]; exact ⟨(hp2_0 t).mpr hz, rfl, rfl, rfl⟩
    · right; exact ⟨fun h => hz ((hp2_0 t).mp h), (hs hz).1.symm, (hs hz).2.1.symm, (hs hz).2.2.symm⟩
  have h1 : ∃ o', ((p2_1 (grid2.coords t) ∧ o' = k2_pay2 (k2_pay6 (ib2 V c 3 t) (ib2 V c 4 t) (acc2 V c (t.val + 1)).1 (acc2 V c (t.val + 1)).2.2) (k2_pay7 (ib2 V c 3 t) (ib2 V c 4 t) (acc2 V c (t.val + 1)).1 (acc2 V c (t.val + 1)).2.1))
      ∨ (¬ p2_1 (grid2.coords t) ∧ o' = (dat2 V c).before 5 t d5))
      ∧ (owns (c : Thread nD τ) (st2_5 t) fullShare o' ⊢ ((dat2 V c).leavesExact 5 t : sProp (Mo F))) := by
    by_cases hz : t.val = 7
    · refine ⟨out2 V c, .inl ⟨(hp2_1 t).mpr hz, ?_⟩, ?_⟩
      · have e7 : tt2 7 = t := by rw [← hz]; exact tt2_val t
        rw [out2, e7, hz]
      · have hl : cfg2.idle 5 (cfg2.grid.coords t) = false := by
          show (!(k2_cond2 (grid2.coords t) == 1#1)) = false
          rw [(hp2_1 t).mpr hz]; rfl
        unfold Dat.leavesExact; rw [hl]; exact .rfl
    · have hn : ¬ p2_1 (grid2.coords t) := fun h => hz ((hp2_1 t).mp h)
      refine ⟨(dat2 V c).before 5 t d5, .inr ⟨hn, rfl⟩, ?_⟩
      have hl : cfg2.idle 5 (cfg2.grid.coords t) = true := by
        show (!(k2_cond2 (grid2.coords t) == 1#1)) = true
        rw [beq_eq_false_iff_ne.mpr hn]; rfl
      have hf : (cfg2.win 5).flush t = false := by
        rw [← Bool.not_eq_true, flush2_5 t]; omega
      rw [(dat2 V c).leavesExact_idle 5 t hl hf]
      iintro H; iexists d5; iexact H
  obtain ⟨o', h1, hl5⟩ := h1
  rw [hacc] at h1
  rw [hacc]
  iapply (hop1_body c (grid2.coords t) _ _ _ _ _ _ _ _ _ _ _ _ _ _ _ _ _ _ (ib2 V c 0 t) (ib2 V c 1 t) (ib2 V c 2 t) (ib2 V c 3 t) (ib2 V c 4 t)
    ((dat2 V c).before 5 t d5) s0 s1 s2 _ _ _ o' h0 h1 Set.univ _)
  unfold own2
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro ⟨H0, H1, H2, H3, H4, H5, HS0, HS1, HS2⟩
  isplitl [HS0 HS1 HS2 Hr Hg]
  · isplitl [HS0 HS1 HS2]
    · iexists _, _, _
      isplitr; swap
      · isplitl [HS0]; · iexact HS0
        isplitl [HS1]; · iexact HS1
        iexact HS2
      ipureintro; exact fun _ => ⟨rfl, rfl, rfl⟩
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  iapply hl5 $$ H5

theorem row2 (t : Fin cfg2.N) : defs₀ (F := F) .tc cfg2.body (cfg2.bodyArgs t (cfg2.slots t)) = bodyAt2 t := by
  unfold defs₀; rw [Defs.onTc_tc]

theorem body2 (c : Dev nD) : BodyObligation (dat2 V c) (defs₀ (F := F)) Variants.none () Set.univ := fun t => by
  rw [bigSep_W2, bigSep_W2, row2]
  exact triple_restated (sound2 V c t) rfl .rfl fun _ => .rfl

theorem hin2 (c : Dev nD) : iprop(Pipeline.scopedRest (Ix := Unit) (Name := ℕ) (U := UR sig nD τ) (Lvl := ℕ) (Val := Elt F) spec2 c ∗ (∃ r, prngReg c r)) ⊢ ((dat2 V c).Φ 0 : sProp (Mo F)) := by
  rw [show (dat2 V c).Φ 0 = Phi2 V c 0 from rfl, scopedRest2_split]
  unfold Phi2
  simp only [owns_whole]
  iintro ⟨⟨⟨⟨%f0, HS0⟩, ⟨%f1, HS1⟩, ⟨%f2, HS2⟩⟩, Hr⟩, Hg⟩
  isplitl [HS0 HS1 HS2]
  · iexists f0, f1, f2
    isplitr; · ipureintro; exact fun h => absurd rfl h
    isplitl [HS0]; · iexact HS0
    isplitl [HS1]; · iexact HS1
    iexact HS2
  isplitl [Hr]; · iexact Hr
  iexact Hg

theorem hout2 (c : Dev nD) : ((dat2 V c).Φ (Fin.last cfg2.N) : sProp (Mo F)) ⊢ iprop(Pipeline.scopedRest (Ix := Unit) (Name := ℕ) (U := UR sig nD τ) (Lvl := ℕ) (Val := Elt F) spec2 c ∗ (∃ r, prngReg c r)) := by
  rw [show (dat2 V c).Φ (Fin.last cfg2.N) = Phi2 V c cfg2.N from rfl, scopedRest2_split]
  unfold Phi2
  simp only [owns_whole]
  iintro ⟨⟨%f0, %f1, %f2, -, HS0, HS1, HS2⟩, Hr, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

end Cert.KernelIdeal.Hop
-- ==== Proof.Seg2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.RunOf
public import proofs.«01_k».proof.Proof.Reg2
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (V : Dev nD → Valuation τ sig (Elt F))

/-! The record of call 2 in the run of `main`, and what it leaves in the buffers. -/

section

variable (pd : PD F) (V : Dev nD → Valuation τ sig (Elt F)) (h : ∀ c, pd 2 c = dat2 V c)

/-- The record of call 2. -/
def seg_2 : RegionSeg (pcfgs (F := F)) adm pd () defs₀ Variants.none Lt (fun _ _ => 0) 2 :=
  RegionSeg.ofHeldIn (pcfgs (F := F)) adm pd () defs₀ Variants.none Lt (fun _ _ => 0) 2 (fun _ => 0) (Pipeline.ucRefs τ sig)
    (fun c => iprop(∃ r, prngReg c r)) (fun c => iprop(∃ r, prngReg c r)) launch2.toP rfl
    (fun c => by rw [h c]; exact (body2 V c).loose) (fun c _ => by rw [h c]; rfl) (fun c => by rw [h c]; rfl) (fun c w => by rw [h c]; unfold Dat.share; split <;> rfl)
    (fun c => by rw [h c]; exact hin2 V c) (fun c => by rw [h c]; exact hout2 V c) (fun _ => 0) (cutLt 2) (fun _ => iprop(emp)) V
    (fun c w => by rw [h c]; exact dat2_A V c w)

theorem sub_2 : Pipeline.arrRefs (τ := τ) (pcfgs (F := F) 2).spec ⊆ Pipeline.ucRefs τ sig :=
  Pipeline.arrRefs_sub_ucRefs spec2 (by decide)

theorem pre_2 (c : Dev nD) : iprop(StableHlo.held (c : Thread nD τ) (Pipeline.ucRefs τ sig) (V c) ∗ Er c) ⊢ (seg_2 pd V h).pre c := by
  unfold seg_2
  exact RegionSeg.ofHeldIn_pre (S := Pipeline.ucRefs τ sig) (X := fun c => iprop(∃ r, prngReg c r)) (R := fun _ => iprop(emp)) (D := fun _ => 0) (W := V) sub_2 c

theorem post_2 (c : Dev nD) : (seg_2 pd V h).post c ⊢ iprop(StableHlo.held (c : Thread nD τ) (Pipeline.ucRefs τ sig) (Pipeline.afterRegion (dat2 V c) (V c)) ∗ Er c) := by
  rw [← h c]
  unfold seg_2
  exact RegionSeg.ofHeldIn_post sub_2 c

end

theorem keep_2 (V : Dev nD → Valuation τ sig (Elt F)) (c : Dev nD) (r : Ref sig .tc) (h : ∀ w, Pipeline.arrRef spec2 w = r → (cfg2.win w).isOut = false) :
    Pipeline.afterRegion (dat2 V c) (V c) (Proc.devRef .tc r) = V c (Proc.devRef .tc r) :=
  Pipeline.afterRegion_keeps (dat2 V c) (V c) winFacts2.arr_inj (fun w => dat2_A V c w) r h

theorem out_2 (V : Dev nD → Valuation τ sig (Elt F)) (c : Dev nD) : Pipeline.afterRegion (dat2 V c) (V c) (Proc.devRef .tc main_v15) = (dat2 V c).arrAt 5 cfg2.N :=
  Pipeline.afterRegion_arr (dat2 V c) (V c) winFacts2.arr_inj 5

end Cert.KernelIdeal.Hop
-- ==== Proof.Hop0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop1

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block coordinate is the first. -/
abbrev p3_0 (i : grid3.Coords) : Prop := (Scalar.cmpi .ne (Scalar.extui (Scalar.cmpi .eq (BitVec.ofNat 32 (i 1).val) 0#32)) 0#32) = 1#1

section
variable (c : Dev nD) (i : grid3.Coords) (arg2 : Memref sig .tc .vmem S512x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S8x128 .f32) (harg9 : arg9.IsWhole) (arg10 : Memref sig .tc .vmem S8x256 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S4096x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S8x1024 .f32) (harg18 : arg18.IsWhole)
  (x0 : Vec F S512x512 .f32) (x1 : Vec F S512x64 .f32) (x2 : Vec F S1x64 .f32) (x3 : Vec F S64x128 .f32) (x4 : Vec F S1x128 .f32) (x5 : Vec F S1024x1024 .f32) (x6 : Vec F S1x1024 .f32) (x7 : Vec F S8x128 .f32) (x8 : Vec F S8x256 .f32) (x9 : Vec F S8x512 .f32) (o : Vec F S512x1024 .f32) (z : Vec F S4096x128 .f32) (s : Vec F S1x128 .f32) (q : Vec F S1x128 .f32) (a : Vec F S1x128 .f32) (b : Vec F S1x128 .f32) (rv : Vec F S8x1024 .f32)

/-- The operands at given contents. -/
def own3 (x0 : Vec F S512x512 .f32) (x1 : Vec F S512x64 .f32) (x2 : Vec F S1x64 .f32) (x3 : Vec F S64x128 .f32) (x4 : Vec F S1x128 .f32) (x5 : Vec F S1024x1024 .f32) (x6 : Vec F S1x1024 .f32) (x7 : Vec F S8x128 .f32) (x8 : Vec F S8x256 .f32) (x9 : Vec F S8x512 .f32) (o : Vec F S512x1024 .f32) (z : Vec F S4096x128 .f32) (s : Vec F S1x128 .f32) (q : Vec F S1x128 .f32) (a : Vec F S1x128 .f32) (b : Vec F S1x128 .f32) (rv : Vec F S8x1024 .f32) : sProp (Mo F) :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o ∗ owns (c : Thread nD τ) arg13 fullShare z ∗ owns (c : Thread nD τ) arg14 fullShare s ∗ owns (c : Thread nD τ) arg15 fullShare q ∗ owns (c : Thread nD τ) arg16 fullShare a ∗ owns (c : Thread nD τ) arg17 fullShare b ∗ owns (c : Thread nD τ) arg18 fullShare rv)

end

end Cert.KernelIdeal.Hop
-- ==== Proof.Hop0B.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop0

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k3_pay1 k3_pay2 k3_pay3 k3_pay4 k3_pay5 k3_pay6 k3_pay7 k3_pay8 k3_pay9 k3_pay10 k3_pay11 k3_pay12 k3_pay13 k3_pay14

section
variable (c : Dev nD) (i : grid3.Coords) (arg2 : Memref sig .tc .vmem S512x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S8x128 .f32) (harg9 : arg9.IsWhole) (arg10 : Memref sig .tc .vmem S8x256 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S4096x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S8x1024 .f32) (harg18 : arg18.IsWhole)
  (x0 : Vec F S512x512 .f32) (x1 : Vec F S512x64 .f32) (x2 : Vec F S1x64 .f32) (x3 : Vec F S64x128 .f32) (x4 : Vec F S1x128 .f32) (x5 : Vec F S1024x1024 .f32) (x6 : Vec F S1x1024 .f32) (x7 : Vec F S8x128 .f32) (x8 : Vec F S8x256 .f32) (x9 : Vec F S8x512 .f32) (o : Vec F S512x1024 .f32) (z : Vec F S4096x128 .f32) (s : Vec F S1x128 .f32) (q : Vec F S1x128 .f32) (a : Vec F S1x128 .f32) (b : Vec F S1x128 .f32) (rv : Vec F S8x1024 .f32)

/-- The body in the second phase: the first block works out the normalisation and the per-batch rows, every block emits its rows of the output. -/
theorem hop0_bodyB (hA : ¬ k3_cond1 i = 1#1) (hB : k3_cond3 i = 1#1) (a' b' : Vec F S1x128 .f32) (rv' : Vec F S8x1024 .f32)
    (hg : (p3_0 i ∧ a' = k3_pay12 s q ∧ b' = k3_pay13 s q ∧ rv' = k3_pay2 (k3_pay14 x7 x8 x9 (View.ld x5 (Rect.unit (s := S1024x1024) ![128, 0] S896x1024.size inb_S1024x1024_S896x1024_128_0)) x6)) ∨ (¬ p3_0 i ∧ a' = a ∧ b' = b ∧ rv' = rv)) (E : Set ℕ) (K : PUnit → sProp (Mo F)) :
    iprop(own3 c arg2 arg3 arg4 arg5 arg6 arg7 arg8 arg9 arg10 arg11 arg12 arg13 arg14 arg15 arg16 arg17 arg18 x0 x1 x2 x3 x4 x5 x6 x7 x8 x9 o z s q a b rv
      ∗ (own3 c arg2 arg3 arg4 arg5 arg6 arg7 arg8 arg9 arg10 arg11 arg12 arg13 arg14 arg15 arg16 arg17 arg18 x0 x1 x2 x3 x4 x5 x6 x7 x8 x9 (k3_pay3 (View.ld z (Rect.unit (s := S4096x128) (k3_off2 i) S512x128.size (k3_off2_inb i hB))) a' b' (View.ld x5 (Rect.unit (s := S1024x1024) ![0, 0] S128x1024.size inb_S1024x1024_S128x1024_0_0)) (View.ld rv' (Rect.unit (s := S8x1024) (k3_off3 i) S1x1024.size (k3_off3_inb i hB)))) z s q a' b' rv' -∗ K ⟨⟩))
    ⊢ wp frame (wpE (defs₀ (F := F)) Variants.none c none) E (cc3__hop0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__hop0_body_eq_skeleton]; unfold cc3__hop0_body_skel
  simp only [k3_part1_eq_skeleton, k3_part2_eq_skeleton]
  unfold own3 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  rcases hg with ⟨hc0, rfl, rfl, rfl⟩ | ⟨hc0, rfl, rfl, rfl⟩
  all_goals
    sl_exec (disch := first | sl_exact hA | sl_exact hB | sl_exact hc0)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left; isplitl [H15]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15 | iexact H16)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congrArg (fun w => View.ld w _) ?_
      | refine congr5 k3_pay3 ?_ ?_ ?_ ?_ ?_
      | refine congrArg k3_pay2 ?_
      | refine congr2 k3_pay12 ?_ ?_
      | refine congr2 k3_pay13 ?_ ?_
      | refine congr5 k3_pay14 ?_ ?_ ?_ ?_ ?_

end

end Cert.KernelIdeal.Hop
-- ==== Proof.Hop0A.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Hop0

@[expose] public section

set_option maxRecDepth 16384
set_option maxHeartbeats 40000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local irreducible] k3_pay1 k3_pay2 k3_pay3 k3_pay4 k3_pay5 k3_pay6 k3_pay7 k3_pay8 k3_pay9 k3_pay10 k3_pay11 k3_pay12 k3_pay13 k3_pay14

section
variable (c : Dev nD) (i : grid3.Coords) (arg2 : Memref sig .tc .vmem S512x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S8x128 .f32) (harg9 : arg9.IsWhole) (arg10 : Memref sig .tc .vmem S8x256 .f32) (harg10 : arg10.IsWhole) (arg11 : Memref sig .tc .vmem S8x512 .f32) (harg11 : arg11.IsWhole) (arg12 : Memref sig .tc .vmem S512x1024 .f32) (harg12 : arg12.IsWhole) (arg13 : Memref sig .tc .vmem S4096x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S8x1024 .f32) (harg18 : arg18.IsWhole)
  (x0 : Vec F S512x512 .f32) (x1 : Vec F S512x64 .f32) (x2 : Vec F S1x64 .f32) (x3 : Vec F S64x128 .f32) (x4 : Vec F S1x128 .f32) (x5 : Vec F S1024x1024 .f32) (x6 : Vec F S1x1024 .f32) (x7 : Vec F S8x128 .f32) (x8 : Vec F S8x256 .f32) (x9 : Vec F S8x512 .f32) (o : Vec F S512x1024 .f32) (z : Vec F S4096x128 .f32) (s : Vec F S1x128 .f32) (q : Vec F S1x128 .f32) (a : Vec F S1x128 .f32) (b : Vec F S1x128 .f32) (rv : Vec F S8x1024 .f32)

/-- The body in the first phase: one block of rows is stored and added to the running sums, which the first block resets. -/
theorem hop0_bodyA (hA : k3_cond1 i = 1#1) (hB : ¬ k3_cond3 i = 1#1) (g0 g1 : Vec F S1x128 .f32)
    (hg : (p3_0 i ∧ g0 = k3_pay4 ∧ g1 = k3_pay5) ∨ (¬ p3_0 i ∧ g0 = s ∧ g1 = q)) (E : Set ℕ) (K : PUnit → sProp (Mo F)) :
    iprop(own3 c arg2 arg3 arg4 arg5 arg6 arg7 arg8 arg9 arg10 arg11 arg12 arg13 arg14 arg15 arg16 arg17 arg18 x0 x1 x2 x3 x4 x5 x6 x7 x8 x9 o z s q a b rv
      ∗ (own3 c arg2 arg3 arg4 arg5 arg6 arg7 arg8 arg9 arg10 arg11 arg12 arg13 arg14 arg15 arg16 arg17 arg18 x0 x1 x2 x3 x4 x5 x6 x7 x8 x9 o (VecWindow.put z (k3_off1 i) S512x128.size (k3_pay7 x0 x1 x2 x3 x4)) (k3_pay8 x0 x1 x2 x3 x4 g0) (k3_pay1 (k3_pay9 x0 x1 x2 x3 x4 g1)) a b rv -∗ K ⟨⟩))
    ⊢ wp frame (wpE (defs₀ (F := F)) Variants.none c none) E (cc3__hop0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__hop0_body_eq_skeleton]; unfold cc3__hop0_body_skel
  simp only [k3_part1_eq_skeleton, k3_part2_eq_skeleton]
  unfold own3 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  rcases hg with ⟨hc0, rfl, rfl⟩ | ⟨hc0, rfl, rfl⟩
  all_goals
    sl_exec (disch := first | sl_exact hA | sl_exact hB | sl_exact hc0)
    sl_step
    iapply Hk
    isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left; isplitl [H11]; rotate_left; isplitl [H12]; rotate_left; isplitl [H13]; rotate_left; isplitl [H14]; rotate_left; isplitl [H15]; rotate_left
    all_goals (iexists _; isplitr; rotate_left; first | iexact H0 | iexact H1 | iexact H2 | iexact H3 | iexact H4 | iexact H5 | iexact H6 | iexact H7 | iexact H8 | iexact H9 | iexact H10 | iexact H11 | iexact H12 | iexact H13 | iexact H14 | iexact H15 | iexact H16)
    all_goals ipureintro
    all_goals first
      | with_reducible assumption
      | refine (read_last _ _ (by exact zz) _ _ _).trans ?_
      | refine (read_band ‹_› _ _ _).trans ?_
    all_goals repeat' first
      | with_reducible rfl
      | exact readAt_all ‹_› (by exact zz) _ _
      | exact readAt_part ‹_› _ _
      | refine (cov_last _ (by exact zz) (by exact zz) _ _ _ _).trans ?_
      | refine (cov_part _ (by exact zz) _ _ _ _).trans ?_
      | refine congrArg (VecWindow.put _ _ _) ?_
      | refine congrArg k3_pay1 ?_
      | refine congr5 k3_pay7 ?_ ?_ ?_ ?_ ?_
      | refine congr6 k3_pay8 ?_ ?_ ?_ ?_ ?_ ?_
      | refine congr6 k3_pay9 ?_ ?_ ?_ ?_ ?_ ?_

end

end Cert.KernelIdeal.Hop
-- ==== Proof.Reg3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.Hop0B
public import proofs.«01_k».proof.Proof.Hop0A
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : Dev nD → Valuation τ sig (Elt F))

/-! The call of the output: a first phase stores 512 rows per block and their sums, a second one normalises them and emits the output. -/

section conditions

theorem c3 (t : Fin grid3.N) : (grid3.coords t 0).val = t.val / 8 ∧ (grid3.coords t 1).val = t.val % 8 := by
  have ht : t.val < 16 := Nat.lt_of_lt_of_eq t.isLt N_3
  have e0 : (grid3.coords t 0).val = t.val / 8 % 2 := Pipeline.Grid.coords_val t 0 (by decide) rfl
  have e1 : (grid3.coords t 1).val = t.val / 1 % 8 := Pipeline.Grid.coords_val t 1 (by decide) rfl
  omega

theorem hp3_0 (t : Fin grid3.N) : p3_0 (grid3.coords t) ↔ t.val % 8 = 0 := by
  have ht : t.val < 16 := Nat.lt_of_lt_of_eq t.isLt N_3
  simp only [p3_0, (c3 t).2]
  word_cmp

theorem hA3 (t : Fin grid3.N) : k3_cond1 (grid3.coords t) = 1#1 ↔ t.val < 8 := by
  have ht : t.val < 16 := Nat.lt_of_lt_of_eq t.isLt N_3
  simp only [k3_cond1, (c3 t).1]
  word_cmp

theorem hB3 (t : Fin grid3.N) : k3_cond3 (grid3.coords t) = 1#1 ↔ 8 ≤ t.val := by
  have ht : t.val < 16 := Nat.lt_of_lt_of_eq t.isLt N_3
  simp only [k3_cond3, (c3 t).1]
  word_cmp

theorem off3_1 : ∀ i : grid3.Coords, k3_off1 i = ![512 * (i 1).val, 0] := by decide
theorem off3_2 : ∀ i : grid3.Coords, k3_off2 i = ![512 * (i 1).val, 0] := by decide
theorem off3_3 : ∀ i : grid3.Coords, k3_off3 i = ![(i 1).val, 0] := by decide

theorem flush3_10 : ∀ t : Fin cfg3.N, t.val < 8 → (cfg3.win 10).flush t = false := by decide

end conditions

/-- The block window `w` stages at point `t`. -/
def ib3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- The point at a natural number. -/
def tt3 (n : ℕ) : Fin cfg3.N := ⟨n % 16, Nat.lt_of_lt_of_eq (Nat.mod_lt n (by decide)) N_3.symm⟩

theorem tt3_val (t : Fin cfg3.N) : tt3 t.val = t :=
  Fin.ext (Nat.mod_eq_of_lt (Nat.lt_of_lt_of_eq t.isLt N_3))

/-- Where block `j` of the rows lies in scratch. -/
def bo3 (j : ℕ) : Fin 2 → ℕ := ![512 * (j % 8), 0]

theorem bo3_inb (j : ℕ) : ∀ a, bo3 j a + S512x128.size a ≤ S4096x128.size a := by
  intro a; have := Nat.mod_lt j (show 0 < 8 by decide)
  fin_cases a
  · show 512 * (j % 8) + 512 ≤ 4096; omega
  · show 0 + 128 ≤ 128; omega

/-- The row of batch `j`. -/
def ro3 (j : ℕ) : Fin 2 → ℕ := ![j % 8, 0]

theorem ro3_inb (j : ℕ) : ∀ a, ro3 j a + S1x1024.size a ≤ S8x1024.size a := by
  intro a; have := Nat.mod_lt j (show 0 < 8 by decide)
  fin_cases a
  · show j % 8 + 1 ≤ 8; omega
  · show 0 + 1024 ≤ 1024; omega

/-- Block `j` of the rows before normalisation. -/
def z3 (c : Dev nD) (t : Fin cfg3.N) : Vec F S512x128 .f32 := k3_pay7 (ib3 V c 0 t) (ib3 V c 1 t) (ib3 V c 2 t) (ib3 V c 3 t) (ib3 V c 4 t)

/-- One block's step of the running sums. -/
def step3 (c : Dev nD) (t : Fin cfg3.N) (p : Vec F S1x128 .f32 × Vec F S1x128 .f32) : Vec F S1x128 .f32 × Vec F S1x128 .f32 :=
  (k3_pay8 (ib3 V c 0 t) (ib3 V c 1 t) (ib3 V c 2 t) (ib3 V c 3 t) (ib3 V c 4 t) p.1, k3_pay1 (k3_pay9 (ib3 V c 0 t) (ib3 V c 1 t) (ib3 V c 2 t) (ib3 V c 3 t) (ib3 V c 4 t) p.2))

/-- The running sums after the first `n` blocks. -/
def acc3 (c : Dev nD) : ℕ → Vec F S1x128 .f32 × Vec F S1x128 .f32
  | 0 => (k3_pay4, k3_pay5)
  | n + 1 => step3 V c (tt3 n) (acc3 c n)

/-- The factor and the offset of the normalisation. -/
def fa3 (c : Dev nD) : Vec F S1x128 .f32 := k3_pay12 (acc3 V c 8).1 (acc3 V c 8).2
def fb3 (c : Dev nD) : Vec F S1x128 .f32 := k3_pay13 (acc3 V c 8).1 (acc3 V c 8).2

/-- The per-batch rows of the output. -/
def rows3 (c : Dev nD) (t : Fin cfg3.N) : Vec F S8x1024 .f32 :=
  k3_pay2 (k3_pay14 (ib3 V c 7 t) (ib3 V c 8 t) (ib3 V c 9 t)
    (View.ld (ib3 V c 5 t) (Rect.unit (s := S1024x1024) ![128, 0] S896x1024.size inb_S1024x1024_S896x1024_128_0)) (ib3 V c 6 t))

/-- What the second phase leaves in the output block at point `t`. -/
def out3 (c : Dev nD) (t : Fin cfg3.N) : Vec F S512x1024 .f32 :=
  k3_pay3 (z3 V c (tt3 (t.val % 8))) (fa3 V c) (fb3 V c)
    (View.ld (ib3 V c 5 t) (Rect.unit (s := S1024x1024) ![0, 0] S128x1024.size inb_S1024x1024_S128x1024_0_0))
    (View.ld (rows3 V c (tt3 8)) (Rect.unit (s := S8x1024) (ro3 t.val) S1x1024.size (ro3_inb t.val)))

/-- What the scratch holds before point `n`. -/
def inv3 (c : Dev nD) (n : ℕ) (z : Vec F S4096x128 .f32) (s q a b : Vec F S1x128 .f32) (rv : Vec F S8x1024 .f32) : Prop :=
  (∀ j, j < n → j < 8 → View.ld z (Rect.unit (s := S4096x128) (bo3 j) S512x128.size (bo3_inb j)) = z3 V c (tt3 j))
    ∧ (n ≠ 0 → s = (acc3 V c (min n 8)).1 ∧ q = (acc3 V c (min n 8)).2)
    ∧ (8 < n → a = fa3 V c ∧ b = fb3 V c ∧ rv = rows3 V c (tt3 8))

theorem inv3_zero (c : Dev nD) (z : Vec F S4096x128 .f32) (s q a b : Vec F S1x128 .f32) (rv : Vec F S8x1024 .f32) : inv3 V c 0 z s q a b rv :=
  ⟨fun j hj => absurd hj (Nat.not_lt_zero j), fun h => absurd rfl h, fun h => absurd h (by decide)⟩

/-- What holds between points. -/
def Phi3 (c : Dev nD) (n : ℕ) : sProp (Mo F) :=
  iprop((∃ z s q a b rv, ⌜inv3 V c n z s q a b rv⌝ ∗ owns (c : Thread nD τ) (Memref.whole cc3_scratch0) fullShare z ∗ owns (c : Thread nD τ) (Memref.whole cc3_scratch1) fullShare s ∗ owns (c : Thread nD τ) (Memref.whole cc3_scratch2) fullShare q ∗ owns (c : Thread nD τ) (Memref.whole cc3_scratch3) fullShare a ∗ owns (c : Thread nD τ) (Memref.whole cc3_scratch4) fullShare b ∗ owns (c : Thread nD τ) (Memref.whole cc3_scratch5) fullShare rv)
    ∗ Pipeline.scopedRestBut (Ix := Unit) (Name := ℕ) (U := UR sig nD τ) (Lvl := ℕ) (Val := Elt F) spec3 c [cc3_scratch0, cc3_scratch1, cc3_scratch2, cc3_scratch3, cc3_scratch4, cc3_scratch5]
    ∗ (∃ r, prngReg c r))

def dat3 (c : Dev nD) : Dat τ (Elt F) Unit ℕ (UR sig nD τ) ℕ cfg3 c where
  A w := V c (Proc.devRef .tc (Pipeline.arrRef spec3 w))
  after w t := match w with
    | ⟨0, _⟩ => ib3 V c 0 t
    | ⟨1, _⟩ => ib3 V c 1 t
    | ⟨2, _⟩ => ib3 V c 2 t
    | ⟨3, _⟩ => ib3 V c 3 t
    | ⟨4, _⟩ => ib3 V c 4 t
    | ⟨5, _⟩ => ib3 V c 5 t
    | ⟨6, _⟩ => ib3 V c 6 t
    | ⟨7, _⟩ => ib3 V c 7 t
    | ⟨8, _⟩ => ib3 V c 8 t
    | ⟨9, _⟩ => ib3 V c 9 t
    | ⟨10, _⟩ => out3 V c t
  Φ t := Phi3 V c t.val
  q _ := fullShare
  owed _ := 0

theorem dat3_A (c : Dev nD) (w : Fin cfg3.W) : (dat3 V c).A w = V c (Proc.devRef .tc (Pipeline.arrRef spec3 w)) := by dsimp only [dat3]

theorem bef3 (c : Dev nD) (w : Fin cfg3.W) (hw : w.val < 10) (t : Fin cfg3.N) (d) : (dat3 V c).before w t d = (dat3 V c).after w t := by
  have key : ∀ (w : Fin cfg3.W) (hw : (cfg3.win w).isOut = false) (hl : ∀ i, cfg3.idle w i = false)
      (hc : ∀ t t' : Fin cfg3.N, (cfg3.win w).index t = (cfg3.win w).index t' → (cfg3.win w).clip (cfg3.grid.coords t) = (cfg3.win w).clip (cfg3.grid.coords t'))
      (hk : ∀ t, (cfg3.win w).cut (cfg3.grid.coords t) ((dat3 V c).after w t) = (dat3 V c).blockOf w t) (d)
      (hf : (dat3 V c).fetched w t d = (dat3 V c).after w t), (dat3 V c).before w t d = (dat3 V c).after w t :=
    fun w hw hl hc hk d hf => ((dat3 V c).before_in_eq_fetched w hw hl hc hk t d).trans hf
  match w, hw with
  | ⟨0, _⟩, _ => exact key 0 rfl (fun _ => rfl) (fun _ _ _ => rfl) (fun _ => rfl) _ rfl
  | ⟨1, _⟩, _ => exact key 1 rfl (fun _ => rfl) (fun _ _ _ => rfl) (fun _ => rfl) _ rfl
  | ⟨2, _⟩, _ => exact key 2 rfl (fun _ => rfl) (fun _ _ _ => rfl) (fun _ => rfl) _ rfl
  | ⟨3, _⟩, _ => exact key 3 rfl (fun _ => rfl) (fun _ _ _ => rfl) (fun _ => rfl) _ rfl
  | ⟨4, _⟩, _ => exact key 4 rfl (fun _ => rfl) (fun _ _ _ => rfl) (fun _ => rfl) _ rfl
  | ⟨5, _⟩, _ => exact key 5 rfl (fun _ => rfl) (fun _ _ _ => rfl) (fun _ => rfl) _ rfl
  | ⟨6, _⟩, _ => exact key 6 rfl (fun _ => rfl) (fun _ _ _ => rfl) (fun _ => rfl) _ rfl
  | ⟨7, _⟩, _ => exact key 7 rfl (fun _ => rfl) (fun _ _ _ => rfl) (fun _ => rfl) _ rfl
  | ⟨8, _⟩, _ => exact key 8 rfl (fun _ => rfl) (fun _ _ _ => rfl) (fun _ => rfl) _ rfl
  | ⟨9, _⟩, _ => exact key 9 rfl (fun _ => rfl) (fun _ _ _ => rfl) (fun _ => rfl) _ rfl

theorem leaves3_in (c : Dev nD) (w : Fin cfg3.W) (hw : w.val < 10) (t : Fin cfg3.N) :
    (dat3 V c).leavesExact w t = owns (c : Thread nD τ) ((cfg3.win w).stage (cfg3.slots t w)) fullShare ((dat3 V c).after w t) := by
  have hl : cfg3.idle w (cfg3.grid.coords t) = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
    | ⟨9, _⟩, _ => rfl
  unfold Dat.leavesExact; rw [hl]

/-- The body's operands at point `t`: the inputs at their blocks, the output block at `o`, the scratch at the rest. -/
def stage3 (c : Dev nD) (t : Fin cfg3.N) (o : Vec F S512x1024 .f32) (z : Vec F S4096x128 .f32) (s : Vec F S1x128 .f32) (q : Vec F S1x128 .f32) (a : Vec F S1x128 .f32) (b : Vec F S1x128 .f32) (rv : Vec F S8x1024 .f32) : sProp (Mo F) :=
  own3 c (st3_0 t) (st3_1 t) (st3_2 t) (st3_3 t) (st3_4 t) (st3_5 t) (st3_6 t) (st3_7 t) (st3_8 t) (st3_9 t) (st3_10 t) (Memref.whole cc3_scratch0) (Memref.whole cc3_scratch1) (Memref.whole cc3_scratch2) (Memref.whole cc3_scratch3) (Memref.whole cc3_scratch4) (Memref.whole cc3_scratch5)
    (ib3 V c 0 t) (ib3 V c 1 t) (ib3 V c 2 t) (ib3 V c 3 t) (ib3 V c 4 t) (ib3 V c 5 t) (ib3 V c 6 t) (ib3 V c 7 t) (ib3 V c 8 t) (ib3 V c 9 t) o z s q a b rv

/-- The body at point `t`: what it leaves keeps the invariant, and the output block is what is claimed where it is not idle. -/
theorem point3 (c : Dev nD) (t : Fin cfg3.N) (z : Vec F S4096x128 .f32) (s q a b : Vec F S1x128 .f32) (rv : Vec F S8x1024 .f32) (d)
    (hi : inv3 V c t.val z s q a b rv) : ∃ o' z' s' q' a' b' rv',
    (∀ K : PUnit → sProp (Mo F), iprop(stage3 V c t ((dat3 V c).before 10 t d) z s q a b rv ∗ (stage3 V c t o' z' s' q' a' b' rv' -∗ K ⟨⟩))
      ⊢ wp frame (wpE (defs₀ (F := F)) Variants.none c none) Set.univ (bodyAt3 t) K)
    ∧ inv3 V c (t.val + 1) z' s' q' a' b' rv'
    ∧ (owns (c : Thread nD τ) (st3_10 t) fullShare o' ⊢ ((dat3 V c).leavesExact 10 t : sProp (Mo F))) := by
  have ht : t.val < 16 := Nat.lt_of_lt_of_eq t.isLt N_3
  obtain ⟨hz, hs, ha⟩ := hi
  by_cases h8 : t.val < 8
  · have hA := (hA3 t).mpr h8
    have hB : ¬ k3_cond3 (grid3.coords t) = 1#1 := fun h => absurd ((hB3 t).mp h) (by omega)
    have hg : (p3_0 (grid3.coords t) ∧ (acc3 V c t.val).1 = k3_pay4 ∧ (acc3 V c t.val).2 = k3_pay5)
        ∨ (¬ p3_0 (grid3.coords t) ∧ (acc3 V c t.val).1 = s ∧ (acc3 V c t.val).2 = q) := by
      by_cases h0 : t.val = 0
      · left; rw [h0]; exact ⟨(hp3_0 t).mpr (by omega), rfl, rfl⟩
      · right; have h := hs h0; rw [Nat.min_eq_left (by omega)] at h
        exact ⟨fun h => h0 (by have := (hp3_0 t).mp h; omega), h.1.symm, h.2.symm⟩
    refine ⟨(dat3 V c).before 10 t d, _, _, _, a, b, rv, fun K => hop0_bodyA c (grid3.coords t) _ _ _ _ _ _ _ _ _ _ _ _ _ _ _ _ _ _ _ _ _ _ _ _ _ _ _ _ _ _ _ _ _ _
      _ _ _ _ _ _ _ _ _ _ _ _ _ _ _ _ _ hA hB _ _ hg Set.univ K, ⟨?_, ?_, ?_⟩, ?_⟩
    · have hb := bands_put z bo3 S512x128.size bo3_inb (fun j => z3 V c (tt3 j)) t.val 8 0 (fun j j' hj hj' hne => by
          show 512 * (j % 8) + 512 ≤ 512 * (j' % 8) ∨ 512 * (j' % 8) + 512 ≤ 512 * (j % 8); omega) h8 hz
          (o := k3_off1 (grid3.coords t)) (by rw [off3_1, (c3 t).2]; rfl)
      simp only [tt3_val] at hb
      exact hb
    · intro _; rw [Nat.min_eq_left (by omega), acc3, tt3_val]; exact ⟨rfl, rfl⟩
    · intro h; omega
    · have hl : cfg3.idle 10 (cfg3.grid.coords t) = true := by
        show (!(k3_cond3 (grid3.coords t) == 1#1)) = true
        rw [beq_eq_false_iff_ne.mpr hB]; rfl
      rw [(dat3 V c).leavesExact_idle 10 t hl (flush3_10 t h8)]
      iintro H; iexists d; iexact H
  · have hB := (hB3 t).mpr (by omega)
    have hA : ¬ k3_cond1 (grid3.coords t) = 1#1 := fun h => h8 ((hA3 t).mp h)
    have h := hs (by omega); rw [Nat.min_eq_right (by omega)] at h
    obtain ⟨rfl, rfl⟩ := h
    have hg : (p3_0 (grid3.coords t) ∧ fa3 V c = k3_pay12 (acc3 V c 8).1 (acc3 V c 8).2 ∧ fb3 V c = k3_pay13 (acc3 V c 8).1 (acc3 V c 8).2 ∧ rows3 V c (tt3 8) = rows3 V c t)
        ∨ (¬ p3_0 (grid3.coords t) ∧ fa3 V c = a ∧ fb3 V c = b ∧ rows3 V c (tt3 8) = rv) := by
      by_cases h0 : t.val = 8
      · left; refine ⟨(hp3_0 t).mpr (by omega), rfl, rfl, ?_⟩; rw [← h0, tt3_val]
      · right; have h := ha (by omega)
        exact ⟨fun h => h0 (by have := (hp3_0 t).mp h; omega), h.1.symm, h.2.1.symm, h.2.2.symm⟩
    refine ⟨_, z, _, _, fa3 V c, fb3 V c, rows3 V c (tt3 8), fun K => hop0_bodyB c (grid3.coords t) _ _ _ _ _ _ _ _ _ _ _ _ _ _ _ _ _ _ _ _ _ _ _ _ _ _ _ _ _ _ _ _ _ _
      _ _ _ _ _ _ _ _ _ _ _ _ _ _ _ _ _ hA hB _ _ _ hg Set.univ K, ⟨?_, ?_, ?_⟩, ?_⟩
    · intro j hj hj8; exact hz j (by omega) hj8
    · intro _; rw [Nat.min_eq_right (by omega)]; exact ⟨rfl, rfl⟩
    · intro _; exact ⟨rfl, rfl, rfl⟩
    · have hl : cfg3.idle 10 (cfg3.grid.coords t) = false := by
        show (!(k3_cond3 (grid3.coords t) == 1#1)) = false
        rw [hB]; rfl
      have ez : View.ld z (Rect.unit (s := S4096x128) (k3_off2 (grid3.coords t)) S512x128.size (k3_off2_inb (grid3.coords t) hB)) = z3 V c (tt3 (t.val % 8)) :=
        (ld_off z (off := k3_off2 (grid3.coords t)) (by rw [off3_2, (c3 t).2]; show _ = ![512 * (t.val % 8 % 8), 0]; rw [Nat.mod_mod]) (k3_off2_inb (grid3.coords t) hB) (bo3_inb (t.val % 8))).trans (hz (t.val % 8) (by omega) (by omega))
      have er : View.ld (rows3 V c (tt3 8)) (Rect.unit (s := S8x1024) (k3_off3 (grid3.coords t)) S1x1024.size (k3_off3_inb (grid3.coords t) hB))
          = View.ld (rows3 V c (tt3 8)) (Rect.unit (s := S8x1024) (ro3 t.val) S1x1024.size (ro3_inb t.val)) :=
        ld_off _ (by rw [off3_3, (c3 t).2]; rfl) _ _
      unfold Dat.leavesExact; rw [hl, ez, er]; exact .rfl

theorem sound3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d))
      ∗ (∃ d, owns (c : Thread nD τ) (st3_3 t) fullShare ((dat3 V c).before 3 t d))
      ∗ (∃ d, owns (c : Thread nD τ) (st3_4 t) fullShare ((dat3 V c).before 4 t d))
      ∗ (∃ d, owns (c : Thread nD τ) (st3_5 t) fullShare ((dat3 V c).before 5 t d))
      ∗ (∃ d, owns (c : Thread nD τ) (st3_6 t) fullShare ((dat3 V c).before 6 t d))
      ∗ (∃ d, owns (c : Thread nD τ) (st3_7 t) fullShare ((dat3 V c).before 7 t d))
      ∗ (∃ d, owns (c : Thread nD τ) (st3_8 t) fullShare ((dat3 V c).before 8 t d))
      ∗ (∃ d, owns (c : Thread nD τ) (st3_9 t) fullShare ((dat3 V c).before 9 t d))
      ∗ (∃ d, owns (c : Thread nD τ) (st3_10 t) fullShare ((dat3 V c).before 10 t d)))
    ⊢ wp frame (wpE (defs₀ (F := F)) Variants.none c none) Set.univ (bodyAt3 t) (fun _ =>
      iprop((dat3 V c).Φ t.succ ∗ (dat3 V c).owesAt () t.succ
      ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t ∗ (dat3 V c).leavesExact 8 t ∗ (dat3 V c).leavesExact 9 t ∗ (dat3 V c).leavesExact 10 t)) := by
  simp only [bef3 V c 0 (by decide), bef3 V c 1 (by decide), bef3 V c 2 (by decide), bef3 V c 3 (by decide), bef3 V c 4 (by decide), bef3 V c 5 (by decide), bef3 V c 6 (by decide), bef3 V c 7 (by decide), bef3 V c 8 (by decide), bef3 V c 9 (by decide),
    leaves3_in V c 0 (by decide), leaves3_in V c 1 (by decide), leaves3_in V c 2 (by decide), leaves3_in V c 3 (by decide), leaves3_in V c 4 (by decide), leaves3_in V c 5 (by decide), leaves3_in V c 6 (by decide), leaves3_in V c 7 (by decide), leaves3_in V c 8 (by decide), leaves3_in V c 9 (by decide)]
  rw [show (dat3 V c).owesAt () t.succ = (dat3 V c).owesAt () t.castSucc from rfl,
    show (dat3 V c).Φ t.succ = Phi3 V c (t.val + 1) from rfl, show (dat3 V c).Φ t.castSucc = Phi3 V c t.val from rfl]
  unfold Phi3
  iintro ⟨⟨⟨%z, %s, %q, %a, %b, %rv, %hi, HS0, HS1, HS2, HS3, HS4, HS5⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨o', z', s', q', a', b', rv', hb, hi', hl⟩ := point3 V c t z s q a b rv d10 hi
  iapply (hb _)
  unfold stage3 own3
  isplitr [Hr Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    iexact HS5
  iintro ⟨H0, H1, H2, H3, H4, H5, H6, H7, H8, H9, H10, HS0, HS1, HS2, HS3, HS4, HS5⟩
  isplitl [HS0 HS1 HS2 HS3 HS4 HS5 Hr Hg]
  · isplitl [HS0 HS1 HS2 HS3 HS4 HS5]
    · iexists z', s', q', a', b', rv'
      isplitr; · ipureintro; exact hi'
      isplitl [HS0]; · iexact HS0
      isplitl [HS1]; · iexact HS1
      isplitl [HS2]; · iexact HS2
      isplitl [HS3]; · iexact HS3
      isplitl [HS4]; · iexact HS4
      iexact HS5
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply hl $$ H10

theorem row3 (t : Fin cfg3.N) : defs₀ (F := F) .tc cfg3.body (cfg3.bodyArgs t (cfg3.slots t)) = bodyAt3 t := by
  unfold defs₀; rw [Defs.onTc_tc]

theorem body3 (c : Dev nD) : BodyObligation (dat3 V c) (defs₀ (F := F)) Variants.none () Set.univ := fun t => by
  rw [bigSep_W3, bigSep_W3, row3]
  exact triple_restated (sound3 V c t) rfl .rfl fun _ => .rfl

theorem hin3 (c : Dev nD) : iprop(Pipeline.scopedRest (Ix := Unit) (Name := ℕ) (U := UR sig nD τ) (Lvl := ℕ) (Val := Elt F) spec3 c ∗ (∃ r, prngReg c r)) ⊢ ((dat3 V c).Φ 0 : sProp (Mo F)) := by
  rw [show (dat3 V c).Φ 0 = Phi3 V c 0 from rfl, scopedRest3_split]
  unfold Phi3
  simp only [owns_whole]
  iintro ⟨⟨⟨⟨%f0, HS0⟩, ⟨%f1, HS1⟩, ⟨%f2, HS2⟩, ⟨%f3, HS3⟩, ⟨%f4, HS4⟩, ⟨%f5, HS5⟩⟩, Hr⟩, Hg⟩
  isplitl [HS0 HS1 HS2 HS3 HS4 HS5]
  · iexists f0, f1, f2, f3, f4, f5
    isplitr; · ipureintro; exact inv3_zero V c f0 f1 f2 f3 f4 f5
    isplitl [HS0]; · iexact HS0
    isplitl [HS1]; · iexact HS1
    isplitl [HS2]; · iexact HS2
    isplitl [HS3]; · iexact HS3
    isplitl [HS4]; · iexact HS4
    iexact HS5
  isplitl [Hr]; · iexact Hr
  iexact Hg

theorem hout3 (c : Dev nD) : ((dat3 V c).Φ (Fin.last cfg3.N) : sProp (Mo F)) ⊢ iprop(Pipeline.scopedRest (Ix := Unit) (Name := ℕ) (U := UR sig nD τ) (Lvl := ℕ) (Val := Elt F) spec3 c ∗ (∃ r, prngReg c r)) := by
  rw [show (dat3 V c).Φ (Fin.last cfg3.N) = Phi3 V c cfg3.N from rfl, scopedRest3_split]
  unfold Phi3
  simp only [owns_whole]
  iintro ⟨⟨%f0, %f1, %f2, %f3, %f4, %f5, -, HS0, HS1, HS2, HS3, HS4, HS5⟩, Hr, Hg⟩
  isplitl [HS0 HS1 HS2 HS3 HS4 HS5 Hr]
  · isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    iexact Hr
  iexact Hg

end Cert.KernelIdeal.Hop
-- ==== Proof.Seg3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.RunOf
public import proofs.«01_k».proof.Proof.Reg3
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (V : Dev nD → Valuation τ sig (Elt F))

/-! The record of call 3 in the run of `main`, and what it leaves in the buffers. -/

section

variable (pd : PD F) (V : Dev nD → Valuation τ sig (Elt F)) (h : ∀ c, pd 3 c = dat3 V c)

/-- The record of call 3. -/
def seg_3 : RegionSeg (pcfgs (F := F)) adm pd () defs₀ Variants.none Lt (fun _ _ => 0) 3 :=
  RegionSeg.ofHeldIn (pcfgs (F := F)) adm pd () defs₀ Variants.none Lt (fun _ _ => 0) 3 (fun _ => 0) (Pipeline.ucRefs τ sig)
    (fun c => iprop(∃ r, prngReg c r)) (fun c => iprop(∃ r, prngReg c r)) launch3.toP rfl
    (fun c => by rw [h c]; exact (body3 V c).loose) (fun c _ => by rw [h c]; rfl) (fun c => by rw [h c]; rfl) (fun c w => by rw [h c]; unfold Dat.share; split <;> rfl)
    (fun c => by rw [h c]; exact hin3 V c) (fun c => by rw [h c]; exact hout3 V c) (fun _ => 0) (cutLt 3) (fun _ => iprop(emp)) V
    (fun c w => by rw [h c]; exact dat3_A V c w)

theorem sub_3 : Pipeline.arrRefs (τ := τ) (pcfgs (F := F) 3).spec ⊆ Pipeline.ucRefs τ sig :=
  Pipeline.arrRefs_sub_ucRefs spec3 (by decide)

theorem pre_3 (c : Dev nD) : iprop(StableHlo.held (c : Thread nD τ) (Pipeline.ucRefs τ sig) (V c) ∗ Er c) ⊢ (seg_3 pd V h).pre c := by
  unfold seg_3
  exact RegionSeg.ofHeldIn_pre (S := Pipeline.ucRefs τ sig) (X := fun c => iprop(∃ r, prngReg c r)) (R := fun _ => iprop(emp)) (D := fun _ => 0) (W := V) sub_3 c

theorem post_3 (c : Dev nD) : (seg_3 pd V h).post c ⊢ iprop(StableHlo.held (c : Thread nD τ) (Pipeline.ucRefs τ sig) (Pipeline.afterRegion (dat3 V c) (V c)) ∗ Er c) := by
  rw [← h c]
  unfold seg_3
  exact RegionSeg.ofHeldIn_post sub_3 c

end

theorem keep_3 (V : Dev nD → Valuation τ sig (Elt F)) (c : Dev nD) (r : Ref sig .tc) (h : ∀ w, Pipeline.arrRef spec3 w = r → (cfg3.win w).isOut = false) :
    Pipeline.afterRegion (dat3 V c) (V c) (Proc.devRef .tc r) = V c (Proc.devRef .tc r) :=
  Pipeline.afterRegion_keeps (dat3 V c) (V c) winFacts3.arr_inj (fun w => dat3_A V c w) r h

theorem out_3 (V : Dev nD → Valuation τ sig (Elt F)) (c : Dev nD) : Pipeline.afterRegion (dat3 V c) (V c) (Proc.devRef .tc main_v16) = (dat3 V c).arrAt 10 cfg3.N :=
  Pipeline.afterRegion_arr (dat3 V c) (V c) winFacts3.arr_inj 10

end Cert.KernelIdeal.Hop
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import proofs.«01_k».proof.Proof.Bands
public import proofs.«01_k».proof.Proof.Seg0
public import proofs.«01_k».proof.Proof.Seg1
public import proofs.«01_k».proof.Proof.Seg2
public import proofs.«01_k».proof.Proof.Seg3
public import Idealize.ShloMosaic.Lib.Pipeline.RegionArraysS

@[expose] public section

set_option maxRecDepth 16384
set_option maxHeartbeats 4000000

noncomputable section

namespace Cert.KernelIdeal.Hop

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (V : Dev nD → Valuation τ sig (Elt F))

/-! The run of `main`: the four calls one after the other. -/

variable (m : (ℓ : Loc nD τ sig) → Buf (Elt F) ℓ)

/-- What the unscoped buffers hold after each call, then at the end. -/
def W2 (c : Dev nD) : Valuation τ sig (Elt F) := Pipeline.afterRegion (dat0 (V1 m) c) (V1 m c)
def W3 (c : Dev nD) : Valuation τ sig (Elt F) := Pipeline.afterRegion (dat1 (W2 m) c) (W2 m c)
def W4 (c : Dev nD) : Valuation τ sig (Elt F) := Pipeline.afterRegion (dat2 (W3 m) c) (W3 m c)
def W5 (c : Dev nD) : Valuation τ sig (Elt F) := Pipeline.afterRegion (dat3 (W4 m) c) (W4 m c)
def W6 (c : Dev nD) : Valuation τ sig (Elt F) := StableHlo.after hostOps4 (W5 m c)

/-- The proof data of the calls. -/
def pdats : PD F := fun p c =>
  match p with
  | ⟨0, _⟩ => dat0 (V1 m) c
  | ⟨1, _⟩ => dat1 (W2 m) c
  | ⟨2, _⟩ => dat2 (W3 m) c
  | ⟨3, _⟩ => dat3 (W4 m) c

theorem pd_0 (c : Dev nD) : pdats m 0 c = dat0 (V1 m) c := rfl
theorem pd_1 (c : Dev nD) : pdats m 1 c = dat1 (W2 m) c := rfl
theorem pd_2 (c : Dev nD) : pdats m 2 c = dat2 (W3 m) c := rfl
theorem pd_3 (c : Dev nD) : pdats m 3 c = dat3 (W4 m) c := rfl

/-- Every execution ends, every unscoped buffer holding the last contents, every counter at zero. -/
theorem run (ρ : Dev nD → PrngReg) : θ_run defs (onTc (τ := τ) (main (F := F))) ⟨m, fun _ => 0, ρ⟩ (fun r =>
    (∀ (c : Dev nD) (b : Ref sig .tc), b.isScoped = false → r.2.mem ((c.tc : Thread nD τ).loc b) = W6 m c (Proc.devRef .tc b)) ∧ r.2.sem = fun _ => 0) :=
  run_of m (pdats m) (seg_0 (pdats m) (V1 m) (pd_0 m)) (seg_1 (pdats m) (W2 m) (pd_1 m)) (seg_2 (pdats m) (W3 m) (pd_2 m)) (seg_3 (pdats m) (W4 m) (pd_3 m))
    ρ (W2 m) (W3 m) (W4 m) (W5 m) (pre_0 (pdats m) (V1 m) (pd_0 m)) (post_0 (pdats m) (V1 m) (pd_0 m)) (pre_1 (pdats m) (W2 m) (pd_1 m)) (post_1 (pdats m) (W2 m) (pd_1 m))
    (pre_2 (pdats m) (W3 m) (pd_2 m)) (post_2 (pdats m) (W3 m) (pd_2 m)) (pre_3 (pdats m) (W4 m) (pd_3 m)) (post_3 (pdats m) (W4 m) (pd_3 m))

theorem only0 : ∀ w, ¬ (cfg0.win w).isOut = false → Pipeline.arrRef spec0 w = main_v13 := by decide
theorem only1 : ∀ w, ¬ (cfg1.win w).isOut = false → Pipeline.arrRef spec1 w = main_v14 := by decide
theorem only2 : ∀ w, ¬ (cfg2.win w).isOut = false → Pipeline.arrRef spec2 w = main_v15 := by decide
theorem only3 : ∀ w, ¬ (cfg3.win w).isOut = false → Pipeline.arrRef spec3 w = main_v16 := by decide

/-- The references that no item of `main` writes. -/
abbrev kept (r : Ref sig .tc) : Prop := r ∉ main_v17 :: main_v13 :: main_v14 :: main_v15 :: main_v16 :: hostOps0_W

theorem keepW (c : Dev nD) (r : Ref sig .tc) (h : kept r) : W6 m c (Proc.devRef .tc r) = m ((c : Thread nD τ).loc r) := by
  simp only [kept, List.mem_cons, not_or] at h
  refine (StableHlo.after_of_writes_sub hostOps4 _ hostOps4_writes (by simpa using h.1)).trans <| (keep_3 (W4 m) c r ?_).trans <| (keep_2 (W3 m) c r ?_).trans <|
    (keep_1 (W2 m) c r ?_).trans <| (keep_0 (V1 m) c r ?_).trans (V1_of m c r (by simpa using h.2.2.2.2.2))
  · exact fun w e => Decidable.by_contra fun hw => h.2.2.2.2.1 (e ▸ only3 w hw)
  · exact fun w e => Decidable.by_contra fun hw => h.2.2.2.1 (e ▸ only2 w hw)
  · exact fun w e => Decidable.by_contra fun hw => h.2.2.1 (e ▸ only1 w hw)
  · exact fun w e => Decidable.by_contra fun hw => h.2.1 (e ▸ only0 w hw)

/-- What the result holds at the end. -/
abbrev res (c : Dev nD) : Buf (Elt F) ((c.tc : Thread nD τ).loc main_v17) := W6 m c (Proc.devRef .tc main_v17)

/-- The run read at the arguments and the result. -/
theorem run_args (ρ : Dev nD → PrngReg) : θ_run defs (onTc (τ := τ) (main (F := F))) ⟨m, fun _ => 0, ρ⟩ (fun r => (∀ c : Dev nD,
      r.2.mem ((c.tc : Thread nD τ).loc main_v17) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) := by
  refine (θ_run defs _ _).monotone (fun r h => ⟨fun c => ⟨h.1 c main_v17 rfl, ?_⟩, h.2⟩) (run m ρ)
  have k : ∀ b : Ref sig .tc, b.isScoped = false → kept b → r.2.mem ((c.tc : Thread nD τ).loc b) = m ((c.tc : Thread nD τ).loc b) :=
    fun b hb hk => (h.1 c b hb).trans (keepW m c b hk)
  exact ⟨k main_arg0 rfl (by decide), k main_arg1 rfl (by decide), k main_arg2 rfl (by decide), k main_arg3 rfl (by decide), k main_arg4 rfl (by decide), k main_arg5 rfl (by decide), k main_arg6 rfl (by decide), k main_arg7 rfl (by decide), k main_arg8 rfl (by decide), k main_arg9 rfl (by decide), k main_arg10 rfl (by decide), k main_arg11 rfl (by decide), k main_arg12 rfl (by decide), k main_arg13 rfl (by decide), k main_arg14 rfl (by decide), k main_arg15 rfl (by decide), k main_arg16 rfl (by decide), k main_arg17 rfl (by decide), k main_arg18 rfl (by decide), k main_arg19 rfl (by decide), k main_arg20 rfl (by decide), k main_arg21 rfl (by decide), k main_arg22 rfl (by decide), k main_arg23 rfl (by decide), k main_arg24 rfl (by decide)⟩

end Cert.KernelIdeal.Hop
-- ==== Proof.ValMath.lean ====
module

public import Idealize.ShloMosaic.Lib.Pointwise
public import Idealize.ShloMosaic.Lib.Tactic
public import Mathlib.Algebra.Order.BigOperators.Ring.Finset
public import Mathlib.Tactic.FieldSimp
public import Mathlib.Tactic.Ring
public import Mathlib.Tactic.Linarith
public import Mathlib.Tactic.Positivity

@[expose] public section

noncomputable section

namespace Cert.Val

open Idealize.ShloMosaic

/-! The mathematics both programs compute, over the reals, and how extended reals that are reals compute. -/

/-- The constant added to a variance. -/
def eps : ℝ := 10995116 * (2 : ℝ) ^ (-40 : ℤ)

theorem eps_pos : 0 < eps := by unfold eps; positivity

/-- The array of rank two holds these reals. -/
def Is {a b : ℕ} (x : (⟨2, ![a, b]⟩ : Shape).Idx → EReal) (X : Fin a → Fin b → ℝ) : Prop :=
  ∀ i j, x (ix2 i j) = ((X i j : ℝ) : EReal)

theorem Is.to {a b : ℕ} {x : (⟨2, ![a, b]⟩ : Shape).Idx → EReal} {X Y : Fin a → Fin b → ℝ} (h : Is x X) (e : ∀ i j, X i j = Y i j) : Is x Y :=
  fun i j => (h i j).trans (congrArg _ (e i j))

/-- The array whose entries are these extended reals, and the same at rank three. -/
def IsE {a b : ℕ} (x : (⟨2, ![a, b]⟩ : Shape).Idx → EReal) (X : Fin a → Fin b → EReal) : Prop := ∀ i j, x (ix2 i j) = X i j
def IsE3 {a b c : ℕ} (x : (⟨3, ![a, b, c]⟩ : Shape).Idx → EReal) (X : Fin a → Fin b → Fin c → EReal) : Prop := ∀ t i j, x (ix3 t i j) = X t i j

/-- The same at rank one and at rank three. -/
def Is1 {a : ℕ} (x : (⟨1, ![a]⟩ : Shape).Idx → EReal) (X : Fin a → ℝ) : Prop := ∀ i, x (ix1 i) = ((X i : ℝ) : EReal)
def Is3 {a b c : ℕ} (x : (⟨3, ![a, b, c]⟩ : Shape).Idx → EReal) (X : Fin a → Fin b → Fin c → ℝ) : Prop := ∀ t i j, x (ix3 t i j) = ((X t i j : ℝ) : EReal)

/-- Whole rows of an array of reals, placed by `ρ`. -/
theorem Is.at {a b n : ℕ} {x : (⟨2, ![a, b]⟩ : Shape).Idx → EReal} {X : Fin n → Fin b → ℝ} {ρ : Fin n → Fin a} (h : ∀ i j, x (ix2 (ρ i) j) = ((X i j : ℝ) : EReal))
    {f : (⟨2, ![n, b]⟩ : Shape).Idx → (⟨2, ![a, b]⟩ : Shape).Idx} (hf : ∀ i j, f (ix2 i j) = ix2 (ρ i) j) : Is (fun y => x (f y)) X :=
  fun i j => (congrArg x (hf i j)).trans (h i j)

theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s h ih => rw [Finset.sum_insert h, Finset.sum_insert h, EReal.coe_add, ih]

theorem coe_max (a b : ℝ) : max (a : EReal) (b : EReal) = ((max a b : ℝ) : EReal) :=
  (EReal.coe_strictMono.monotone.map_max).symm

theorem div_real (x : ℝ) {y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  rw [Ideal.rsqrt_coe, if_neg (not_lt.2 h.le), if_neg h.ne']

theorem sqrt_real {x : ℝ} (h : 0 ≤ x) : Ideal.sqrt (x : EReal) = ((Real.sqrt x : ℝ) : EReal) := by
  show (if x < 0 then (⊥ : EReal) else _) = _
  rw [if_neg (not_lt.2 h)]

theorem lit_eps : Ideal.ofBits FTy.f32 925353388#32 = ((eps : ℝ) : EReal) := by
  unfold eps; simp [Ideal.ofBits, Ideal.ieee, -EReal.coe_mul]
theorem lit_0 : Ideal.ofBits FTy.f32 0#32 = ((0 : ℝ) : EReal) := by
  simp [Ideal.ofBits, Ideal.ieee, -EReal.coe_mul]
theorem lit_0b : Ideal.ofBits FTy.bf16 0#16 = ((0 : ℝ) : EReal) := by
  simp [Ideal.ofBits, Ideal.ieee, -EReal.coe_mul]
theorem lit_1 : Ideal.ofBits FTy.f32 1065353216#32 = ((1 : ℝ) : EReal) := by
  simp [Ideal.ofBits, Ideal.ieee, -EReal.coe_mul]; norm_num
theorem lit_2 : Ideal.ofBits FTy.f32 1073741824#32 = ((2 : ℝ) : EReal) := by
  simp [Ideal.ofBits, Ideal.ieee, -EReal.coe_mul]; norm_num
theorem lit_512 : Ideal.ofBits FTy.f32 1140850688#32 = ((512 : ℝ) : EReal) := by
  simp [Ideal.ofBits, Ideal.ieee, -EReal.coe_mul]; norm_num
theorem lit_2048 : Ideal.ofBits FTy.f32 1157627904#32 = ((2048 : ℝ) : EReal) := by
  simp [Ideal.ofBits, Ideal.ieee, -EReal.coe_mul]; norm_num
theorem lit_4096 : Ideal.ofBits FTy.f32 1166016512#32 = ((4096 : ℝ) : EReal) := by
  simp [Ideal.ofBits, Ideal.ieee, -EReal.coe_mul]; norm_num
theorem lit_16384 : Ideal.ofBits FTy.f32 1182793728#32 = ((16384 : ℝ) : EReal) := by
  simp [Ideal.ofBits, Ideal.ieee, -EReal.coe_mul]; norm_num
theorem lit_32768 : Ideal.ofBits FTy.f32 1191182336#32 = ((32768 : ℝ) : EReal) := by
  simp [Ideal.ofBits, Ideal.ieee, -EReal.coe_mul]; norm_num

section real

variable {n a b : ℕ}

/-- Eight batches of `n` rows. -/
abbrev R3 (n a : ℕ) := Fin 8 → Fin n → Fin a → ℝ

def lin (X : R3 n a) (W : Fin a → Fin b → ℝ) (c : Fin b → ℝ) : R3 n b := fun t i j => ∑ k, X t i k * W k j + c j
def tot (Z : R3 n a) (j : Fin a) : ℝ := ∑ t, ∑ i, Z t i j
def totsq (Z : R3 n a) (j : Fin a) : ℝ := ∑ t, ∑ i, Z t i j * Z t i j
def var (N : ℝ) (Z : R3 n a) (j : Fin a) : ℝ := (∑ t, ∑ i, (Z t i j - tot Z j / N) * (Z t i j - tot Z j / N)) / N
/-- Batch normalisation over all rows. -/
def bn (N : ℝ) (Z : R3 n a) : R3 n a := fun t i j => (Z t i j - tot Z j / N) / Real.sqrt (var N Z j + eps)
def relu (Z : R3 n a) : R3 n a := fun t i j => max (Z t i j) 0
/-- Each column scaled and shifted. -/
def aff (Z : R3 n a) (A C : Fin a → ℝ) : R3 n a := fun t i j => Z t i j * A j + C j
/-- The argument of the reciprocal root of the one-pass normalisation. -/
def rad (N : ℝ) (s q : Fin a → ℝ) (j : Fin a) : ℝ := q j / N - s j / N * (s j / N) + eps
def fac (N : ℝ) (s q : Fin a → ℝ) (j : Fin a) : ℝ := (Real.sqrt (rad N s q j))⁻¹
def off (N : ℝ) (s q : Fin a → ℝ) (j : Fin a) : ℝ := (0 - s j / N) * fac N s q j

theorem var_nonneg {N : ℝ} (hN : 0 < N) (Z : R3 n a) (j : Fin a) : 0 ≤ var N Z j :=
  div_nonneg (Finset.sum_nonneg fun t _ => Finset.sum_nonneg fun i _ => mul_self_nonneg _) hN.le

theorem var_eq {N : ℝ} (hn : N = 8 * n) (hN : 0 < N) (Z : R3 n a) (j : Fin a) :
    totsq Z j / N - tot Z j / N * (tot Z j / N) = var N Z j := by
  have h (m : ℝ) : ∑ t : Fin 8, ∑ i : Fin n, (Z t i j - m) * (Z t i j - m) = totsq Z j - 2 * m * tot Z j + N * (m * m) := by
    have e : ∀ t i, (Z t i j - m) * (Z t i j - m) = Z t i j * Z t i j - 2 * m * Z t i j + m * m := fun t i => by ring
    simp only [e, Finset.sum_add_distrib, Finset.sum_sub_distrib, ← Finset.mul_sum, Finset.sum_const, Finset.card_univ, Fintype.card_fin, nsmul_eq_mul]
    unfold tot totsq; rw [hn]; push_cast; ring
  unfold var; rw [h]; field_simp; ring

theorem rad_eq {N : ℝ} (hn : N = 8 * n) (hN : 0 < N) (Z : R3 n a) (j : Fin a) : rad N (tot Z) (totsq Z) j = var N Z j + eps := by
  unfold rad; rw [var_eq hn hN]

theorem rad_pos {N : ℝ} (hn : N = 8 * n) (hN : 0 < N) (Z : R3 n a) (j : Fin a) : 0 < rad N (tot Z) (totsq Z) j := by
  rw [rad_eq hn hN]; have := var_nonneg hN Z j; have := eps_pos; linarith

theorem bn_eq {N : ℝ} (hn : N = 8 * n) (hN : 0 < N) (Z : R3 n a) (t i j) :
    Z t i j * fac N (tot Z) (totsq Z) j + off N (tot Z) (totsq Z) j = bn N Z t i j := by
  unfold off fac bn; rw [rad_eq hn hN, div_eq_mul_inv (Z t i j - _)]; ring

/-- What the one-pass form of the last layer reads: the sums of the rows, the Gram matrix, the sums by batch. -/
def gram (H : R3 n a) (k l : Fin a) : ℝ := ∑ t, ∑ i, H t i k * H t i l
def bsum (H : R3 n a) (t : Fin 8) (k : Fin a) : ℝ := ∑ i, H t i k
def es (N : ℝ) (s : Fin a → ℝ) (W : Fin a → Fin b → ℝ) (c : Fin b → ℝ) (j : Fin b) : ℝ := ∑ k, s k * W k j + N * c j
def eq (N : ℝ) (s : Fin a → ℝ) (G : Fin a → Fin a → ℝ) (W : Fin a → Fin b → ℝ) (c : Fin b → ℝ) (j : Fin b) : ℝ :=
  ∑ k, W k j * (∑ l, G k l * W l j) + 2 * c j * (∑ k, s k * W k j) + N * c j * c j
def emit (N M : ℝ) (s : Fin a → ℝ) (G : Fin a → Fin a → ℝ) (B : Fin 8 → Fin a → ℝ) (W : Fin a → Fin b → ℝ) (c : Fin b → ℝ) (t : Fin 8) (j : Fin b) : ℝ :=
  ((∑ k, B t k * W k j) / M + c j - es N s W c j / N) * fac N (es N s W c) (eq N s G W c) j

theorem es_eq {N : ℝ} (hn : N = 8 * n) (H : R3 n a) (W : Fin a → Fin b → ℝ) (c : Fin b → ℝ) : es N (tot H) W c = tot (lin H W c) := by
  funext j
  unfold es tot lin
  simp only [Finset.sum_add_distrib, Finset.sum_const, Finset.card_univ, Fintype.card_fin, nsmul_eq_mul, hn]
  congr 1
  · simp only [Finset.sum_mul]
    rw [Finset.sum_comm]; refine Finset.sum_congr rfl fun t _ => ?_
    rw [Finset.sum_comm]
  · push_cast; ring

theorem eq_eq {N : ℝ} (hn : N = 8 * n) (H : R3 n a) (W : Fin a → Fin b → ℝ) (c : Fin b → ℝ) : eq N (tot H) (gram H) W c = totsq (lin H W c) := by
  funext j
  have h1 : ∑ k, W k j * (∑ l, gram H k l * W l j) = ∑ t, ∑ i, (∑ k, H t i k * W k j) * (∑ l, H t i l * W l j) := by
    unfold gram
    simp only [Finset.sum_mul, Finset.mul_sum]
    have e : ∀ k, ∑ l, ∑ t : Fin 8, ∑ i : Fin n, W k j * (H t i k * H t i l * W l j) = ∑ t : Fin 8, ∑ i : Fin n, ∑ l, W k j * (H t i k * H t i l * W l j) := fun k => by
      rw [Finset.sum_comm]; exact Finset.sum_congr rfl fun t _ => Finset.sum_comm
    simp only [e]
    rw [Finset.sum_comm]; refine Finset.sum_congr rfl fun t _ => ?_
    rw [Finset.sum_comm]; refine Finset.sum_congr rfl fun i _ => ?_
    rw [Finset.sum_comm]
    refine Finset.sum_congr rfl fun l _ => Finset.sum_congr rfl fun k _ => by ring
  have h2 : ∑ k, tot H k * W k j = ∑ t, ∑ i, ∑ k, H t i k * W k j := by
    unfold tot
    simp only [Finset.sum_mul]
    rw [Finset.sum_comm]; refine Finset.sum_congr rfl fun t _ => ?_
    rw [Finset.sum_comm]
  unfold eq; rw [h1, h2]
  unfold totsq lin
  have e : ∀ t i, (∑ k, H t i k * W k j + c j) * (∑ k, H t i k * W k j + c j)
      = (∑ k, H t i k * W k j) * (∑ k, H t i k * W k j) + 2 * c j * (∑ k, H t i k * W k j) + c j * c j := fun t i => by ring
  simp only [e, Finset.sum_add_distrib, ← Finset.mul_sum, Finset.sum_const, Finset.card_univ, Fintype.card_fin, nsmul_eq_mul, hn]
  push_cast; ring

theorem emit_eq {N M : ℝ} (hn : N = 8 * n) (hm : M = n) (hN : 0 < N) (H : R3 n a) (W : Fin a → Fin b → ℝ) (c : Fin b → ℝ) (t : Fin 8) (j : Fin b) :
    emit N M (tot H) (gram H) (bsum H) W c t j = (∑ i, bn N (lin H W c) t i j) / M := by
  have hM : M ≠ 0 := by rintro rfl; rw [← hm] at hn; linarith
  have e : ∀ i, bn N (lin H W c) t i j = (lin H W c t i j - tot (lin H W c) j / N) * (Real.sqrt (var N (lin H W c) j + eps))⁻¹ := fun i => by
    unfold bn; rw [div_eq_mul_inv (lin H W c t i j - _)]
  have h : ∑ i, lin H W c t i j = ∑ k, bsum H t k * W k j + M * c j := by
    unfold lin bsum
    simp only [Finset.sum_add_distrib, Finset.sum_const, Finset.card_univ, Fintype.card_fin, nsmul_eq_mul, hm, Finset.sum_mul]
    rw [Finset.sum_comm]
  unfold emit fac
  rw [es_eq hn, eq_eq hn, rad_eq hn hN]
  simp only [e, ← Finset.sum_mul, Finset.sum_sub_distrib, h, Finset.sum_const, Finset.card_univ, Fintype.card_fin, nsmul_eq_mul, ← hm]
  field_simp

theorem rad_emit_pos {N : ℝ} (hn : N = 8 * n) (hN : 0 < N) (H : R3 n a) (W : Fin a → Fin b → ℝ) (c : Fin b → ℝ) (j : Fin b) :
    0 < rad N (es N (tot H) W c) (eq N (tot H) (gram H) W c) j := by
  rw [es_eq hn, eq_eq hn]; exact rad_pos hn hN _ j

/-- The word a block compares the batch numbers with, and what the comparison reads as. -/
theorem hot_word (n : ℕ) (h : n < 8) :
    Scalar.select (Scalar.andi (Scalar.cmpi CmpIPredicate.ne
      (Scalar.subi (Scalar.extui (Scalar.cmpi CmpIPredicate.sgt (BitVec.ofNat 32 n) 0#32) : BitVec 32) (Scalar.extui (Scalar.cmpi CmpIPredicate.slt (BitVec.ofNat 32 n) 0#32)))
      (Scalar.subi (Scalar.extui (Scalar.cmpi CmpIPredicate.sgt 1#32 0#32)) (Scalar.extui (Scalar.cmpi CmpIPredicate.slt 1#32 0#32))))
      (Scalar.cmpi CmpIPredicate.ne (Scalar.remsi (BitVec.ofNat 32 n) 1#32) 0#32))
      (Scalar.subi (Scalar.divsi (BitVec.ofNat 32 n) 1#32) 1#32) (Scalar.divsi (BitVec.ofNat 32 n) 1#32) = BitVec.ofNat 32 n := by
  interval_cases n <;> decide

theorem hot_real (r : Fin 8) (n : ℕ) (h : n < 8) :
    FloatOps.sitofp (F := Ideal) FTy.f32 (BitVec.setWidth 32 (IntOp.cmpi CmpIPredicate.eq (BitVec.ofNat 32 r.val) (BitVec.ofNat 32 n))) = ((if r.val = n then 1 else 0 : ℝ) : EReal) := by
  have e : BitVec.setWidth 32 (IntOp.cmpi CmpIPredicate.eq (BitVec.ofNat 32 r.val) (BitVec.ofNat 32 n)) = if r.val = n then 1#32 else 0#32 := by
    revert r; interval_cases n <;> decide
  rw [e]
  split
  · show (((1#32).toInt : ℝ) : EReal) = _; norm_num
  · show (((0#32).toInt : ℝ) : EReal) = _; norm_num

/-- A natural number as one of the eight batches. -/
def at8 (t : ℕ) : Fin 8 := ⟨t % 8, Nat.mod_lt t (by decide)⟩

theorem sum8 (f : Fin 8 → ℝ) : ∑ t ∈ Finset.range 8, f (at8 t) = ∑ t, f t := by
  rw [Finset.sum_range]
  exact Finset.sum_congr rfl fun t _ => congrArg f (Fin.ext (Nat.mod_eq_of_lt t.isLt))

theorem at8_val {t : ℕ} (h : t < 8) : (at8 t).val = t := Nat.mod_eq_of_lt h

theorem hot8 (r : Fin 8) (f : Fin 8 → ℝ) : ∑ t ∈ Finset.range 8, (if r.val = t then 1 else 0) * f (at8 t) = f r := by
  have e : ∀ t ∈ Finset.range 8, (if r.val = t then 1 else 0) * f (at8 t) = (fun u : Fin 8 => (if r = u then 1 else 0) * f u) (at8 t) := fun t ht => by
    have h : (r.val = t) = (r = at8 t) := by rw [Fin.ext_iff, at8_val (Finset.mem_range.1 ht)]
    simp only [h]
  refine (Finset.sum_congr rfl e).trans ((sum8 fun u : Fin 8 => (if r = u then 1 else 0) * f u).trans ?_); simp

theorem relu_aff {N : ℝ} (hn : N = 8 * n) (hN : 0 < N) (Z : R3 n a) : aff Z (fac N (tot Z) (totsq Z)) (off N (tot Z) (totsq Z)) = bn N Z := by
  funext t i j; exact bn_eq hn hN Z t i j

/-- The three rows of a batch side by side. -/
def cat3 (G1 : Fin 8 → Fin 128 → ℝ) (G2 : Fin 8 → Fin 256 → ℝ) (G3 : Fin 8 → Fin 512 → ℝ) (r : Fin 8) (x : Fin 896) : ℝ :=
  if h : x.val < 128 then G1 r ⟨x.val, h⟩ else if h' : x.val - 128 < 256 then G2 r ⟨x.val - 128, h'⟩ else G3 r ⟨x.val - 128 - 256, by omega⟩
/-- The upper and the lower rows of the last weights. -/
def up (W : Fin 1024 → Fin 1024 → EReal) (k : Fin 128) : Fin 1024 → EReal := W ⟨k.val, by omega⟩
def low (W : Fin 1024 → Fin 1024 → EReal) (k : Fin 896) : Fin 1024 → EReal := W ⟨128 + k.val, by omega⟩
/-- The last layer, the rows of each batch added once. Its weights may be infinite. -/
def last (Z : R3 512 128) (G1 : Fin 8 → Fin 128 → ℝ) (G2 : Fin 8 → Fin 256 → ℝ) (G3 : Fin 8 → Fin 512 → ℝ) (W : Fin 1024 → Fin 1024 → EReal) (B : Fin 1024 → EReal) : Fin 8 → Fin 512 → Fin 1024 → EReal :=
  fun t i j => ∑ k, ((Z t i k : ℝ) : EReal) * up W k j + (∑ k, ((cat3 G1 G2 G3 t k : ℝ) : EReal) * low W k j + B j)

/-- The arguments: reals, and the last weights and bias, which may be infinite. -/
structure Rs where
  x3 : R3 4096 512
  x2 : R3 4096 512
  x1 : R3 2048 512
  x0 : R3 512 512
  wp : Fin 512 → Fin 64 → ℝ
  bp : Fin 64 → ℝ
  w30 : Fin 64 → Fin 128 → ℝ
  b30 : Fin 128 → ℝ
  w31 : Fin 128 → Fin 256 → ℝ
  b31 : Fin 256 → ℝ
  w32 : Fin 256 → Fin 512 → ℝ
  b32 : Fin 512 → ℝ
  w20 : Fin 64 → Fin 128 → ℝ
  b20 : Fin 128 → ℝ
  w21 : Fin 128 → Fin 256 → ℝ
  b21 : Fin 256 → ℝ
  w10 : Fin 64 → Fin 128 → ℝ
  b10 : Fin 128 → ℝ
  w00 : Fin 64 → Fin 128 → ℝ
  b00 : Fin 128 → ℝ
  wf : Fin 1024 → Fin 1024 → EReal
  bf : Fin 1024 → EReal

namespace Rs
variable (R : Rs)
/-- The layers before normalisation: `p` the projection with the first layer, then one name a layer. -/
def p3 : R3 4096 128 := lin (lin R.x3 R.wp R.bp) R.w30 R.b30
def q3 : R3 4096 256 := lin (relu (bn 32768 R.p3)) R.w31 R.b31
def s3 : R3 4096 512 := lin (relu (bn 32768 R.q3)) R.w32 R.b32
def p2 : R3 4096 128 := lin (lin R.x2 R.wp R.bp) R.w20 R.b20
def q2 : R3 4096 256 := lin (relu (bn 32768 R.p2)) R.w21 R.b21
def p1 : R3 2048 128 := lin (lin R.x1 R.wp R.bp) R.w10 R.b10
def p0 : R3 512 128 := lin (lin R.x0 R.wp R.bp) R.w00 R.b00
/-- The means over each batch. -/
def g3 (t : Fin 8) (j : Fin 512) : ℝ := (∑ i, bn 32768 R.s3 t i j) / 4096
def g2 (t : Fin 8) (j : Fin 256) : ℝ := (∑ i, bn 32768 R.q2 t i j) / 4096
def g1 (t : Fin 8) (j : Fin 128) : ℝ := (∑ i, bn 16384 R.p1 t i j) / 2048
/-- The result. -/
def out : Fin 8 → Fin 512 → Fin 1024 → EReal := last (bn 4096 R.p0) R.g1 R.g2 R.g3 R.wf R.bf
end Rs

end real

end Cert.Val
-- ==== Proof.Val0.lean ====
module

public import proofs.«01_k».proof.Proof.ValMath
public import proofs.«01_k».proof.Proof.Gen.KernelIdeal.Skeleton
public import Idealize.ShloMosaic.Lib.WordCmp
public import proofs.«01_k».proof.Proof.Hop3

@[expose] public section

set_option maxRecDepth 16384
set_option maxHeartbeats 1000000

noncomputable section

namespace Cert.KernelIdeal.Val

open Cert.KernelIdeal.Gen Cert.Val
open Idealize.ShloMosaic Idealize.ShloMosaic.Tactic

/-! The payloads of the first call on arrays of reals. -/

open Cert.KernelIdeal.Hop (bs0)

section phase1
variable {x : Vec Ideal S4096x512 .f32} {w : Vec Ideal S512x64 .f32} {b : Vec Ideal S1x64 .f32} {w0 : Vec Ideal S64x128 .f32} {b0 : Vec Ideal S1x128 .f32}
  {s q : Vec Ideal S1x128 .f32} {X : R3 4096 512} {W : Fin 512 → Fin 64 → ℝ} {B : Fin 64 → ℝ} {W0 : Fin 64 → Fin 128 → ℝ} {B0 S Q : Fin 128 → ℝ} {t : Fin 8}
  (hx : Is x (X t)) (hw : Is w W) (hb : Is b fun _ => B) (hw0 : Is w0 W0) (hb0 : Is b0 fun _ => B0) (hs : Is s fun _ => S) (hq : Is q fun _ => Q)
include hx hw hb hw0 hb0

theorem k0_7 : Is (k0_pay7 (F := Ideal) x w b w0 b0) (lin (lin X W B) W0 B0 t) := by
  intro i j
  pointwise [k0_pay7]
  simp only [lin, hx _ _, hw _ _, hb _ _, hw0 _ _, hb0 _ _, ← EReal.coe_mul, ← EReal.coe_add, ← EReal.coe_sub, coe_sum, coe_max]

theorem k0_8 : Is (k0_pay8 (F := Ideal) x w b w0 b0) (lin (lin X W B) W0 B0 t) := by
  intro i j
  pointwise [k0_pay8]
  exact k0_7 hx hw hb hw0 hb0 i j

include hs in
theorem k0_9 : Is (k0_pay9 (F := Ideal) x w b w0 b0 s) (fun _ j => S j + ∑ i, lin (lin X W B) W0 B0 t i j) := by
  intro i j
  have h := k0_7 hx hw hb hw0 hb0
  pointwise [k0_pay9]
  simp only [hs _ _, h _ _, ← EReal.coe_mul, ← EReal.coe_add, ← EReal.coe_sub, coe_sum, coe_max]

include hq in
theorem k0_10 : Is (k0_pay1 (k0_pay10 (F := Ideal) x w b w0 b0 q)) (fun _ j => Q j + ∑ i, lin (lin X W B) W0 B0 t i j * lin (lin X W B) W0 B0 t i j) := by
  intro i j
  have h := k0_7 hx hw hb hw0 hb0
  pointwise [k0_pay1, k0_pay10]
  simp only [hq _ _, h _ _, ← EReal.coe_mul, ← EReal.coe_add, ← EReal.coe_sub, coe_sum, coe_max]

omit hx hw hb hw0 hb0

include hs hq in
theorem k0_13 (hp : ∀ j, 0 < rad 32768 S Q j) : Is (k0_pay13 (F := Ideal) s q) (fun _ => fac 32768 S Q) := by
  intro i j
  have hp := hp j
  unfold rad at hp
  pointwise [k0_pay13, k0_pay12, k0_pay11]
  simp only [hs _ _, hq _ _, ← EReal.coe_zero, lit_1, lit_2, lit_4096, lit_32768, lit_eps, div_real _ (show (32768 : ℝ) ≠ 0 by norm_num), ← EReal.coe_mul, ← EReal.coe_add, ← EReal.coe_sub, coe_sum, coe_max, rsqrt_real hp, fac, rad]

include hs hq in
theorem k0_14 (hp : ∀ j, 0 < rad 32768 S Q j) : Is (k0_pay14 (F := Ideal) s q) (fun _ => off 32768 S Q) := by
  intro i j
  have hp := hp j
  unfold rad at hp
  pointwise [k0_pay14, k0_pay12, k0_pay11]
  simp only [hs _ _, hq _ _, ← EReal.coe_zero, lit_1, lit_2, lit_4096, lit_32768, lit_eps, div_real _ (show (32768 : ℝ) ≠ 0 by norm_num), ← EReal.coe_mul, ← EReal.coe_add, ← EReal.coe_sub, coe_sum, coe_max, rsqrt_real hp, off, fac, rad]

theorem k0_5 : Is (k0_pay5 (F := Ideal)) fun _ _ => 0 := by
  intro i j; pointwise [k0_pay5]; simp only [← EReal.coe_zero, lit_1, lit_2, lit_4096, lit_32768, lit_eps]
theorem k0_6 : Is (k0_pay6 (F := Ideal)) fun _ _ => 0 := by
  intro i j; pointwise [k0_pay6]; simp only [← EReal.coe_zero, lit_1, lit_2, lit_4096, lit_32768, lit_eps]

end phase1

section phase2
variable {z : Vec Ideal S4096x128 .bf16} {a c : Vec Ideal S1x128 .f32} {w : Vec Ideal S128x256 .f32} {b s q : Vec Ideal S1x256 .f32}
  {Z : R3 4096 128} {A C : Fin 128 → ℝ} {W : Fin 128 → Fin 256 → ℝ} {B S Q : Fin 256 → ℝ} {t : Fin 8}
  (hz : Is z (Z t)) (ha : Is a fun _ => A) (hc : Is c fun _ => C) (hw : Is w W) (hb : Is b fun _ => B) (hs : Is s fun _ => S) (hq : Is q fun _ => Q)
include hz ha hc hw hb

theorem k0_17 : Is (k0_pay17 (F := Ideal) z a c w b) (lin (relu (aff Z A C)) W B t) := by
  intro i j
  pointwise [k0_pay17]
  simp only [lin, relu, aff, hz _ _, ha _ _, hc _ _, hw _ _, hb _ _, ← EReal.coe_zero, lit_1, lit_2, lit_4096, lit_32768, lit_eps, ← EReal.coe_mul, ← EReal.coe_add, ← EReal.coe_sub, coe_sum, coe_max]

theorem k0_18 : Is (k0_pay18 (F := Ideal) z a c w b) (lin (relu (aff Z A C)) W B t) := by
  intro i j
  pointwise [k0_pay18]
  exact k0_17 hz ha hc hw hb i j

include hs in
theorem k0_19 : Is (k0_pay19 (F := Ideal) z a c w b s) (fun _ j => S j + ∑ i, lin (relu (aff Z A C)) W B t i j) := by
  intro i j
  have h := k0_17 hz ha hc hw hb
  pointwise [k0_pay19]
  simp only [hs _ _, h _ _, ← EReal.coe_mul, ← EReal.coe_add, ← EReal.coe_sub, coe_sum, coe_max]

include hq in
theorem k0_20 : Is (k0_pay2 (F := Ideal) q (k0_pay20 z a c w b)) (fun _ j => Q j + ∑ i, lin (relu (aff Z A C)) W B t i j * lin (relu (aff Z A C)) W B t i j) := by
  intro i j
  have h := k0_17 hz ha hc hw hb
  pointwise [k0_pay2, k0_pay20]
  simp only [hq _ _, h _ _, ← EReal.coe_mul, ← EReal.coe_add, ← EReal.coe_sub, coe_sum, coe_max]

omit hz ha hc hw hb

include hs hq in
theorem k0_28 (hp : ∀ j, 0 < rad 32768 S Q j) : Is (k0_pay28 (F := Ideal) s q) (fun _ => fac 32768 S Q) := by
  intro i j
  have hp := hp j
  unfold rad at hp
  pointwise [k0_pay28, k0_pay27, k0_pay26]
  simp only [hs _ _, hq _ _, ← EReal.coe_zero, lit_1, lit_2, lit_4096, lit_32768, lit_eps, div_real _ (show (32768 : ℝ) ≠ 0 by norm_num), ← EReal.coe_mul, ← EReal.coe_add, ← EReal.coe_sub, coe_sum, coe_max, rsqrt_real hp, fac, rad]

include hs hq in
theorem k0_29 (hp : ∀ j, 0 < rad 32768 S Q j) : Is (k0_pay29 (F := Ideal) s q) (fun _ => off 32768 S Q) := by
  intro i j
  have hp := hp j
  unfold rad at hp
  pointwise [k0_pay29, k0_pay27, k0_pay26]
  simp only [hs _ _, hq _ _, ← EReal.coe_zero, lit_1, lit_2, lit_4096, lit_32768, lit_eps, div_real _ (show (32768 : ℝ) ≠ 0 by norm_num), ← EReal.coe_mul, ← EReal.coe_add, ← EReal.coe_sub, coe_sum, coe_max, rsqrt_real hp, off, fac, rad]

theorem k0_15 : Is (k0_pay15 (F := Ideal)) fun _ _ => 0 := by
  intro i j; pointwise [k0_pay15]; simp only [← EReal.coe_zero, lit_1, lit_2, lit_4096, lit_32768, lit_eps]
theorem k0_16 : Is (k0_pay16 (F := Ideal)) fun _ _ => 0 := by
  intro i j; pointwise [k0_pay16]; simp only [← EReal.coe_zero, lit_1, lit_2, lit_4096, lit_32768, lit_eps]

end phase2

section phase3
variable {z : Vec Ideal S4096x256 .bf16} {a c s : Vec Ideal S1x256 .f32} {g : Vec Ideal S256x256 .f32} {u : Vec Ideal S8x256 .f32} {w : Vec Ideal S256x512 .f32} {b : Vec Ideal S1x512 .f32}
  {Z : R3 4096 256} {A C S : Fin 256 → ℝ} {G : Fin 256 → Fin 256 → ℝ} {U : Fin 8 → Fin 256 → ℝ} {W : Fin 256 → Fin 512 → ℝ} {B : Fin 512 → ℝ} {t : Fin 8}
  (hz : Is z (Z t)) (ha : Is a fun _ => A) (hc : Is c fun _ => C) (hs : Is s fun _ => S) (hg : Is g G) (hu : Is u U) (hw : Is w W) (hb : Is b fun _ => B)

section
include hz ha hc
theorem k0_33 : Is (k0_pay33 (F := Ideal) z a c) (relu (aff Z A C) t) := by
  intro i j
  pointwise [k0_pay33]
  simp only [relu, aff, hz _ _, ha _ _, hc _ _, ← EReal.coe_zero, lit_1, lit_2, lit_4096, lit_32768, lit_eps, ← EReal.coe_mul, ← EReal.coe_add, ← EReal.coe_sub, coe_sum, coe_max]

include hg in
theorem k0_34 : Is (k0_pay34 (F := Ideal) z a c g) (fun k l => G k l + ∑ i, relu (aff Z A C) t i k * relu (aff Z A C) t i l) := by
  intro i j
  have h := k0_33 hz ha hc
  pointwise [k0_pay34]
  simp only [hg _ _, h _ _, ← EReal.coe_mul, ← EReal.coe_add, ← EReal.coe_sub, coe_sum, coe_max]

theorem k0_35 : Is (k0_pay35 (F := Ideal) z a c) (fun _ j => ∑ i, relu (aff Z A C) t i j) := by
  intro i j
  have h := k0_33 hz ha hc
  pointwise [k0_pay35]
  simp only [h _ _, ← EReal.coe_mul, ← EReal.coe_add, ← EReal.coe_sub, coe_sum, coe_max]

include hs in
theorem k0_36 : Is (k0_pay36 (F := Ideal) z a c s) (fun _ j => S j + ∑ i, relu (aff Z A C) t i j) := by
  intro i j
  have h := k0_35 hz ha hc
  pointwise [k0_pay36]
  simp only [hs _ _, h _ _, ← EReal.coe_mul, ← EReal.coe_add, ← EReal.coe_sub, coe_sum, coe_max]
end

theorem k0_30 : Is (k0_pay30 (F := Ideal)) fun _ _ => 0 := by
  intro i j; pointwise [k0_pay30]; simp only [← EReal.coe_zero, lit_1, lit_2, lit_4096, lit_32768, lit_eps]
theorem k0_31 : Is (k0_pay31 (F := Ideal)) fun _ _ => 0 := by
  intro i j; pointwise [k0_pay31]; simp only [← EReal.coe_zero, lit_1, lit_2, lit_4096, lit_32768, lit_eps]
theorem k0_32 : Is (k0_pay32 (F := Ideal)) fun _ _ => 0 := by
  intro i j; pointwise [k0_pay32]; simp only [← EReal.coe_zero, lit_1, lit_2, lit_4096, lit_32768, lit_eps]

include hs hu in
theorem k0_bs (i : grid0.Coords) (h1 : (i 1).val < 8) : Is (bs0 (F := Ideal) i s u) (fun r j => U r j + (if r.val = (i 1).val then 1 else 0) * S j) := by
  intro r j
  pointwise [bs0, k0_pay3]
  rw [hot_word _ h1, hot_real _ _ h1]
  simp only [hs _ _, hu _ _, ← EReal.coe_mul, ← EReal.coe_add]

include hs hu hg hw hb in
theorem k0_4 (hp : ∀ j, 0 < rad 32768 (es 32768 S W B) (eq 32768 S G W B) j) :
    Is (k0_pay4 (F := Ideal) (k0_pay24 w b s u) (k0_pay25 w b s g)) (emit 32768 4096 S G U W B) := by
  intro i j
  have hp := hp j
  unfold rad es eq at hp
  pointwise [k0_pay4, k0_pay24, k0_pay25, k0_pay23, k0_pay22, k0_pay21]
  simp only [hs _ _, hu _ _, hg _ _, hw _ _, hb _ _, ← EReal.coe_zero, lit_1, lit_2, lit_4096, lit_32768, lit_eps, div_real _ (show (32768 : ℝ) ≠ 0 by norm_num), div_real _ (show (4096 : ℝ) ≠ 0 by norm_num), ← EReal.coe_mul, ← EReal.coe_add, ← EReal.coe_sub, coe_sum, coe_max]
  rw [rsqrt_real hp]
  simp only [← EReal.coe_mul, ← EReal.coe_add, ← EReal.coe_sub, coe_sum, coe_max, emit, fac, rad, es, eq]
end phase3

end Cert.KernelIdeal.Val
-- ==== Proof.ValR0.lean ====
module

public import proofs.«01_k».proof.Proof.ValMath
public import proofs.«01_k».proof.Proof.Gen.KernelIdeal.Skeleton
public import Idealize.ShloMosaic.Lib.WordCmp
public import proofs.«01_k».proof.Proof.Val0
public import proofs.«01_k».proof.Proof.Reg0

@[expose] public section

set_option maxRecDepth 16384
set_option maxHeartbeats 1000000

noncomputable section

namespace Cert.KernelIdeal.Val

open Cert.KernelIdeal.Gen Cert.Val
open Idealize.ShloMosaic Idealize.ShloMosaic.Tactic

/-! What the first call leaves in its output, where its operands are reals. -/

open Cert.KernelIdeal.Hop

section
variable {V : Dev nD → Valuation τ sig (Elt Ideal)} {c : Dev nD}
  {X : R3 4096 512} {W : Fin 512 → Fin 64 → ℝ} {B : Fin 64 → ℝ} {W0 : Fin 64 → Fin 128 → ℝ} {B0 : Fin 128 → ℝ} {W1 : Fin 128 → Fin 256 → ℝ} {B1 : Fin 256 → ℝ} {W2 : Fin 256 → Fin 512 → ℝ} {B2 : Fin 512 → ℝ}

/-- The call's operands, block by block, hold these reals. -/
structure In0 (V : Dev nD → Valuation τ sig (Elt Ideal)) (c : Dev nD) (X : R3 4096 512) (W : Fin 512 → Fin 64 → ℝ) (B : Fin 64 → ℝ) (W0 : Fin 64 → Fin 128 → ℝ) (B0 : Fin 128 → ℝ)
    (W1 : Fin 128 → Fin 256 → ℝ) (B1 : Fin 256 → ℝ) (W2 : Fin 256 → Fin 512 → ℝ) (B2 : Fin 512 → ℝ) : Prop where
  x : ∀ n, n < 8 → Is (a := 4096) (b := 512) (ib0 V c 0 (tt0 n)) (X (at8 n))
  w : ∀ t, Is (a := 512) (b := 64) (ib0 V c 1 t) W
  b : ∀ t, Is (a := 1) (b := 64) (ib0 V c 2 t) fun _ => B
  w0 : ∀ t, Is (a := 64) (b := 128) (ib0 V c 3 t) W0
  b0 : ∀ t, Is (a := 1) (b := 128) (ib0 V c 4 t) fun _ => B0
  w1 : ∀ t, Is (a := 128) (b := 256) (ib0 V c 5 t) W1
  b1 : ∀ t, Is (a := 1) (b := 256) (ib0 V c 6 t) fun _ => B1
  w2 : ∀ t, Is (a := 256) (b := 512) (ib0 V c 7 t) W2
  b2 : ∀ t, Is (a := 1) (b := 512) (ib0 V c 8 t) fun _ => B2

theorem n0 : (32768 : ℝ) = 8 * (4096 : ℕ) := by norm_num
theorem p0 : (0 : ℝ) < 32768 := by norm_num

variable (h : In0 V c X W B W0 B0 W1 B1 W2 B2)
include h

theorem acc0_at (n : ℕ) (hn : n ≤ 8) :
    Is (a := 1) (b := 128) (acc0 V c n).1 (fun _ j => ∑ t ∈ Finset.range n, ∑ i, lin (lin X W B) W0 B0 (at8 t) i j)
    ∧ Is (a := 1) (b := 128) (acc0 V c n).2 (fun _ j => ∑ t ∈ Finset.range n, ∑ i, lin (lin X W B) W0 B0 (at8 t) i j * lin (lin X W B) W0 B0 (at8 t) i j) := by
  induction n with
  | zero => exact ⟨k0_5.to fun _ _ => by simp, k0_6.to fun _ _ => by simp⟩
  | succ n ih =>
    obtain ⟨h1, h2⟩ := ih (by omega)
    have hx := h.x n (by omega)
    refine ⟨(k0_9 hx (h.w _) (h.b _) (h.w0 _) (h.b0 _) h1).to fun _ _ => ?_, (k0_10 hx (h.w _) (h.b _) (h.w0 _) (h.b0 _) h2).to fun _ _ => ?_⟩
    · rw [Finset.sum_range_succ]
    · rw [Finset.sum_range_succ]

theorem acc0_8 : Is (a := 1) (b := 128) (acc0 V c 8).1 (fun _ => tot (lin (lin X W B) W0 B0)) ∧ Is (a := 1) (b := 128) (acc0 V c 8).2 (fun _ => totsq (lin (lin X W B) W0 B0)) := by
  obtain ⟨h1, h2⟩ := acc0_at h 8 le_rfl
  exact ⟨h1.to fun _ j => sum8 fun t => ∑ i, lin (lin X W B) W0 B0 t i j, h2.to fun _ j => sum8 fun t => ∑ i, lin (lin X W B) W0 B0 t i j * lin (lin X W B) W0 B0 t i j⟩

theorem fa0_is : Is (a := 1) (b := 128) (fa0 V c) (fun _ => fac 32768 (tot (lin (lin X W B) W0 B0)) (totsq (lin (lin X W B) W0 B0))) :=
  k0_13 (acc0_8 h).1 (acc0_8 h).2 fun j => rad_pos n0 p0 _ j
theorem fb0_is : Is (a := 1) (b := 128) (fb0 V c) (fun _ => off 32768 (tot (lin (lin X W B) W0 B0)) (totsq (lin (lin X W B) W0 B0))) :=
  k0_14 (acc0_8 h).1 (acc0_8 h).2 fun j => rad_pos n0 p0 _ j
theorem z0_is (n : ℕ) (hn : n < 8) : Is (a := 4096) (b := 128) (z0 V c (tt0 n)) (lin (lin X W B) W0 B0 (at8 n)) :=
  k0_8 (h.x n hn) (h.w _) (h.b _) (h.w0 _) (h.b0 _)
theorem z0_is' (n : ℕ) (hn : n < 8) : Is (a := 4096) (b := 128) (z0 V c (tt0 (n % 8))) (lin (lin X W B) W0 B0 (at8 n)) := by
  rw [Nat.mod_eq_of_lt hn]; exact z0_is h n hn

/-- The second layer's rows before normalisation. -/
abbrev Y0 (X : R3 4096 512) (W : Fin 512 → Fin 64 → ℝ) (B : Fin 64 → ℝ) (W0 : Fin 64 → Fin 128 → ℝ) (B0 : Fin 128 → ℝ) (W1 : Fin 128 → Fin 256 → ℝ) (B1 : Fin 256 → ℝ) : R3 4096 256 :=
  lin (relu (bn 32768 (lin (lin X W B) W0 B0))) W1 B1

theorem accB0_at (n : ℕ) (hn : n ≤ 8) :
    Is (a := 1) (b := 256) (accB0 V c n).1 (fun _ j => ∑ t ∈ Finset.range n, ∑ i, Y0 X W B W0 B0 W1 B1 (at8 t) i j)
    ∧ Is (a := 1) (b := 256) (accB0 V c n).2 (fun _ j => ∑ t ∈ Finset.range n, ∑ i, Y0 X W B W0 B0 W1 B1 (at8 t) i j * Y0 X W B W0 B0 W1 B1 (at8 t) i j) := by
  induction n with
  | zero => exact ⟨k0_15.to fun _ _ => by simp, k0_16.to fun _ _ => by simp⟩
  | succ n ih =>
    obtain ⟨h1, h2⟩ := ih (by omega)
    have hz := z0_is' h n (by omega)
    refine ⟨(k0_19 hz (fa0_is h) (fb0_is h) (h.w1 _) (h.b1 _) h1).to fun _ _ => ?_, (k0_20 hz (fa0_is h) (fb0_is h) (h.w1 _) (h.b1 _) h2).to fun _ _ => ?_⟩
    · rw [Finset.sum_range_succ, relu_aff n0 p0]
    · rw [Finset.sum_range_succ, relu_aff n0 p0]

theorem accB0_8 : Is (a := 1) (b := 256) (accB0 V c 8).1 (fun _ => tot (Y0 X W B W0 B0 W1 B1)) ∧ Is (a := 1) (b := 256) (accB0 V c 8).2 (fun _ => totsq (Y0 X W B W0 B0 W1 B1)) := by
  obtain ⟨h1, h2⟩ := accB0_at h 8 le_rfl
  exact ⟨h1.to fun _ j => sum8 fun t => ∑ i, Y0 X W B W0 B0 W1 B1 t i j, h2.to fun _ j => sum8 fun t => ∑ i, Y0 X W B W0 B0 W1 B1 t i j * Y0 X W B W0 B0 W1 B1 t i j⟩

theorem fd0_is : Is (a := 1) (b := 256) (fd0 V c) (fun _ => fac 32768 (tot (Y0 X W B W0 B0 W1 B1)) (totsq (Y0 X W B W0 B0 W1 B1))) :=
  k0_28 (accB0_8 h).1 (accB0_8 h).2 fun j => rad_pos n0 p0 _ j
theorem fe0_is : Is (a := 1) (b := 256) (fe0 V c) (fun _ => off 32768 (tot (Y0 X W B W0 B0 W1 B1)) (totsq (Y0 X W B W0 B0 W1 B1))) :=
  k0_29 (accB0_8 h).1 (accB0_8 h).2 fun j => rad_pos n0 p0 _ j
theorem yb0_is (n : ℕ) (hn : n < 8) : Is (a := 4096) (b := 256) (yb0 V c (n % 8)) (Y0 X W B W0 B0 W1 B1 (at8 n)) := by
  rw [Nat.mod_eq_of_lt hn]
  refine (k0_18 (z0_is' h n hn) (fa0_is h) (fb0_is h) (h.w1 _) (h.b1 _)).to fun _ _ => ?_
  rw [relu_aff n0 p0]

/-- The rows of the last layer's input. -/
abbrev H0 (X : R3 4096 512) (W : Fin 512 → Fin 64 → ℝ) (B : Fin 64 → ℝ) (W0 : Fin 64 → Fin 128 → ℝ) (B0 : Fin 128 → ℝ) (W1 : Fin 128 → Fin 256 → ℝ) (B1 : Fin 256 → ℝ) : R3 4096 256 :=
  relu (bn 32768 (Y0 X W B W0 B0 W1 B1))

theorem accC0_at (n : ℕ) (hn : n ≤ 8) :
    Is (a := 1) (b := 256) (accC0 V c n).1 (fun _ j => ∑ t ∈ Finset.range n, ∑ i, H0 X W B W0 B0 W1 B1 (at8 t) i j)
    ∧ Is (a := 256) (b := 256) (accC0 V c n).2.1 (fun k l => ∑ t ∈ Finset.range n, ∑ i, H0 X W B W0 B0 W1 B1 (at8 t) i k * H0 X W B W0 B0 W1 B1 (at8 t) i l)
    ∧ Is (a := 8) (b := 256) (accC0 V c n).2.2 (fun r j => ∑ t ∈ Finset.range n, (if r.val = t then 1 else 0) * ∑ i, H0 X W B W0 B0 W1 B1 (at8 t) i j) := by
  induction n with
  | zero => exact ⟨k0_30.to fun _ _ => by simp, k0_31.to fun _ _ => by simp, k0_32.to fun _ _ => by simp⟩
  | succ n ih =>
    obtain ⟨h1, h2, h3⟩ := ih (by omega)
    have hz := yb0_is h n (by omega)
    have hc : (grid0.coords (tt0 (n + 16)) 1).val = n := by
      rw [(c0 _).2]; show (n + 16) % 24 % 8 = n; omega
    refine ⟨(k0_36 hz (fd0_is h) (fe0_is h) h1).to fun _ _ => ?_, (k0_34 hz (fd0_is h) (fe0_is h) h2).to fun _ _ => ?_,
      (k0_bs (k0_35 hz (fd0_is h) (fe0_is h)) h3 (grid0.coords (tt0 (n + 16))) (by omega)).to fun _ _ => ?_⟩
    · rw [Finset.sum_range_succ, relu_aff n0 p0]
    · rw [Finset.sum_range_succ, relu_aff n0 p0]
    · rw [Finset.sum_range_succ, relu_aff n0 p0, hc]

theorem accC0_8 : Is (a := 1) (b := 256) (accC0 V c 8).1 (fun _ => tot (H0 X W B W0 B0 W1 B1)) ∧ Is (a := 256) (b := 256) (accC0 V c 8).2.1 (gram (H0 X W B W0 B0 W1 B1))
    ∧ Is (a := 8) (b := 256) (accC0 V c 8).2.2 (bsum (H0 X W B W0 B0 W1 B1)) := by
  obtain ⟨h1, h2, h3⟩ := accC0_at h 8 le_rfl
  exact ⟨h1.to fun _ j => sum8 fun t => ∑ i, H0 X W B W0 B0 W1 B1 t i j, h2.to fun k l => sum8 fun t => ∑ i, H0 X W B W0 B0 W1 B1 t i k * H0 X W B W0 B0 W1 B1 t i l,
    h3.to fun r j => hot8 r fun t => ∑ i, H0 X W B W0 B0 W1 B1 t i j⟩

/-- The output block: the mean over each batch of the normalised last layer. -/
theorem out0_is (t : Fin cfg0.N) : Is (a := 8) (b := 512) (out0 V c t) (fun r j => (∑ i, bn 32768 (lin (H0 X W B W0 B0 W1 B1) W2 B2) r i j) / 4096) := by
  obtain ⟨h1, h2, h3⟩ := accC0_8 h
  exact (k0_4 h1 h2 h3 (h.w2 t) (h.b2 t) fun j => rad_emit_pos n0 p0 _ _ _ j).to fun r j => emit_eq n0 (by norm_num) p0 _ _ _ r j
end

end Cert.KernelIdeal.Val
-- ==== Proof.ValR1.lean ====
module

public import proofs.«01_k».proof.Proof.ValMath
public import proofs.«01_k».proof.Proof.Gen.KernelIdeal.Skeleton
public import Idealize.ShloMosaic.Lib.WordCmp
public import proofs.«01_k».proof.Proof.Val0
public import proofs.«01_k».proof.Proof.Reg1

@[expose] public section

set_option maxRecDepth 16384
set_option maxHeartbeats 1000000

noncomputable section

namespace Cert.KernelIdeal.Val

open Cert.KernelIdeal.Gen Cert.Val
open Idealize.ShloMosaic Idealize.ShloMosaic.Tactic

/-! The payloads of the second call on arrays of reals. Its first phase is the first call's. -/

open Cert.KernelIdeal.Hop

section phase1
variable (x : Vec Ideal S4096x512 .f32) (w : Vec Ideal S512x64 .f32) (b : Vec Ideal S1x64 .f32) (w0 : Vec Ideal S64x128 .f32) (b0 s q : Vec Ideal S1x128 .f32)

theorem k1_7_eq : k1_pay7 x w b w0 b0 = k0_pay8 x w b w0 b0 := rfl
theorem k1_8_eq : k1_pay8 x w b w0 b0 s = k0_pay9 x w b w0 b0 s := rfl
theorem k1_9_eq : k1_pay1 (k1_pay9 x w b w0 b0 s) = k0_pay1 (k0_pay10 x w b w0 b0 s) := rfl
theorem k1_17_eq : k1_pay17 s q = k0_pay13 s q := rfl
theorem k1_18_eq : k1_pay18 s q = k0_pay14 s q := rfl
theorem k1_4_eq : k1_pay4 (F := Ideal) = k0_pay5 := rfl
theorem k1_5_eq : k1_pay5 (F := Ideal) = k0_pay6 := rfl
end phase1

section phase2
variable {z : Vec Ideal S4096x128 .bf16} {a c s : Vec Ideal S1x128 .f32} {g : Vec Ideal S128x128 .f32} {u : Vec Ideal S8x128 .f32} {w : Vec Ideal S128x256 .f32} {b : Vec Ideal S1x256 .f32}
  {Z : R3 4096 128} {A C S : Fin 128 → ℝ} {G : Fin 128 → Fin 128 → ℝ} {U : Fin 8 → Fin 128 → ℝ} {W : Fin 128 → Fin 256 → ℝ} {B : Fin 256 → ℝ} {t : Fin 8}
  (hz : Is z (Z t)) (ha : Is a fun _ => A) (hc : Is c fun _ => C) (hs : Is s fun _ => S) (hg : Is g G) (hu : Is u U) (hw : Is w W) (hb : Is b fun _ => B)

section
include hz ha hc
theorem k1_22 : Is (k1_pay22 (F := Ideal) z a c) (relu (aff Z A C) t) := by
  intro i j
  pointwise [k1_pay22]
  simp only [relu, aff, hz _ _, ha _ _, hc _ _, ← EReal.coe_zero, lit_1, lit_2, lit_4096, lit_32768, lit_eps, ← EReal.coe_mul, ← EReal.coe_add, ← EReal.coe_sub, coe_sum, coe_max]

include hg in
theorem k1_23 : Is (k1_pay23 (F := Ideal) z a c g) (fun k l => G k l + ∑ i, relu (aff Z A C) t i k * relu (aff Z A C) t i l) := by
  intro i j
  have h := k1_22 hz ha hc
  pointwise [k1_pay23]
  simp only [hg _ _, h _ _, ← EReal.coe_mul, ← EReal.coe_add, ← EReal.coe_sub, coe_sum, coe_max]

theorem k1_24 : Is (k1_pay24 (F := Ideal) z a c) (fun _ j => ∑ i, relu (aff Z A C) t i j) := by
  intro i j
  have h := k1_22 hz ha hc
  pointwise [k1_pay24]
  simp only [h _ _, ← EReal.coe_mul, ← EReal.coe_add, ← EReal.coe_sub, coe_sum, coe_max]

include hs in
theorem k1_25 : Is (k1_pay25 (F := Ideal) z a c s) (fun _ j => S j + ∑ i, relu (aff Z A C) t i j) := by
  intro i j
  have h := k1_24 hz ha hc
  pointwise [k1_pay25]
  simp only [hs _ _, h _ _, ← EReal.coe_mul, ← EReal.coe_add, ← EReal.coe_sub, coe_sum, coe_max]
end

theorem k1_20 : Is (k1_pay20 (F := Ideal)) fun _ _ => 0 := by
  intro i j; pointwise [k1_pay20]; simp only [← EReal.coe_zero, lit_1, lit_2, lit_4096, lit_32768, lit_eps]
theorem k1_21 : Is (k1_pay21 (F := Ideal)) fun _ _ => 0 := by
  intro i j; pointwise [k1_pay21]; simp only [← EReal.coe_zero, lit_1, lit_2, lit_4096, lit_32768, lit_eps]
theorem k1_19_eq : k1_pay19 (F := Ideal) = k0_pay5 := rfl

include hs hu in
theorem k1_bs (i : grid1.Coords) (h1 : (i 1).val < 8) : Is (bs1 (F := Ideal) i s u) (fun r j => U r j + (if r.val = (i 1).val then 1 else 0) * S j) := by
  intro r j
  pointwise [bs1, k1_pay2]
  rw [hot_word _ h1, hot_real _ _ h1]
  simp only [hs _ _, hu _ _, ← EReal.coe_mul, ← EReal.coe_add, ← EReal.coe_sub, coe_sum, coe_max]

include hs hu hg hw hb in
theorem k1_3 (hp : ∀ j, 0 < rad 32768 (es 32768 S W B) (eq 32768 S G W B) j) :
    Is (k1_pay3 (F := Ideal) (k1_pay13 w b s u) (k1_pay14 w b s g)) (emit 32768 4096 S G U W B) := by
  intro i j
  have hp := hp j
  unfold rad es eq at hp
  pointwise [k1_pay3, k1_pay13, k1_pay14, k1_pay12, k1_pay11, k1_pay10]
  simp only [hs _ _, hu _ _, hg _ _, hw _ _, hb _ _, ← EReal.coe_zero, lit_1, lit_2, lit_4096, lit_32768, lit_eps, div_real _ (show (32768 : ℝ) ≠ 0 by norm_num), div_real _ (show (4096 : ℝ) ≠ 0 by norm_num), ← EReal.coe_mul, ← EReal.coe_add, ← EReal.coe_sub, coe_sum, coe_max]
  rw [rsqrt_real hp]
  simp only [← EReal.coe_mul, ← EReal.coe_add, ← EReal.coe_sub, coe_sum, coe_max, emit, fac, rad, es, eq]
end phase2

section
variable {V : Dev nD → Valuation τ sig (Elt Ideal)} {c : Dev nD}
  {X : R3 4096 512} {W : Fin 512 → Fin 64 → ℝ} {B : Fin 64 → ℝ} {W0 : Fin 64 → Fin 128 → ℝ} {B0 : Fin 128 → ℝ} {W1 : Fin 128 → Fin 256 → ℝ} {B1 : Fin 256 → ℝ}

/-- The call's operands, block by block, hold these reals. -/
structure In1 (V : Dev nD → Valuation τ sig (Elt Ideal)) (c : Dev nD) (X : R3 4096 512) (W : Fin 512 → Fin 64 → ℝ) (B : Fin 64 → ℝ) (W0 : Fin 64 → Fin 128 → ℝ) (B0 : Fin 128 → ℝ)
    (W1 : Fin 128 → Fin 256 → ℝ) (B1 : Fin 256 → ℝ) : Prop where
  x : ∀ n, n < 8 → Is (a := 4096) (b := 512) (ib1 V c 0 (tt1 n)) (X (at8 n))
  w : ∀ t, Is (a := 512) (b := 64) (ib1 V c 1 t) W
  b : ∀ t, Is (a := 1) (b := 64) (ib1 V c 2 t) fun _ => B
  w0 : ∀ t, Is (a := 64) (b := 128) (ib1 V c 3 t) W0
  b0 : ∀ t, Is (a := 1) (b := 128) (ib1 V c 4 t) fun _ => B0
  w1 : ∀ t, Is (a := 128) (b := 256) (ib1 V c 5 t) W1
  b1 : ∀ t, Is (a := 1) (b := 256) (ib1 V c 6 t) fun _ => B1

theorem n1 : (32768 : ℝ) = 8 * (4096 : ℕ) := by norm_num
theorem p1 : (0 : ℝ) < 32768 := by norm_num

variable (h : In1 V c X W B W0 B0 W1 B1)
include h

theorem acc1_at (n : ℕ) (hn : n ≤ 8) :
    Is (a := 1) (b := 128) (acc1 V c n).1 (fun _ j => ∑ t ∈ Finset.range n, ∑ i, lin (lin X W B) W0 B0 (at8 t) i j)
    ∧ Is (a := 1) (b := 128) (acc1 V c n).2 (fun _ j => ∑ t ∈ Finset.range n, ∑ i, lin (lin X W B) W0 B0 (at8 t) i j * lin (lin X W B) W0 B0 (at8 t) i j) := by
  induction n with
  | zero => exact ⟨k0_5.to fun _ _ => by simp, k0_6.to fun _ _ => by simp⟩
  | succ n ih =>
    obtain ⟨h1, h2⟩ := ih (by omega)
    have hx := h.x n (by omega)
    refine ⟨(k0_9 hx (h.w _) (h.b _) (h.w0 _) (h.b0 _) h1).to fun _ _ => ?_, (k0_10 hx (h.w _) (h.b _) (h.w0 _) (h.b0 _) h2).to fun _ _ => ?_⟩
    · rw [Finset.sum_range_succ]
    · rw [Finset.sum_range_succ]

theorem acc1_8 : Is (a := 1) (b := 128) (acc1 V c 8).1 (fun _ => tot (lin (lin X W B) W0 B0)) ∧ Is (a := 1) (b := 128) (acc1 V c 8).2 (fun _ => totsq (lin (lin X W B) W0 B0)) := by
  obtain ⟨h1, h2⟩ := acc1_at h 8 le_rfl
  exact ⟨h1.to fun _ j => sum8 fun t => ∑ i, lin (lin X W B) W0 B0 t i j, h2.to fun _ j => sum8 fun t => ∑ i, lin (lin X W B) W0 B0 t i j * lin (lin X W B) W0 B0 t i j⟩

theorem fa1_is : Is (a := 1) (b := 128) (fa1 V c) (fun _ => fac 32768 (tot (lin (lin X W B) W0 B0)) (totsq (lin (lin X W B) W0 B0))) :=
  k0_13 (acc1_8 h).1 (acc1_8 h).2 fun j => rad_pos n1 p1 _ j
theorem fb1_is : Is (a := 1) (b := 128) (fb1 V c) (fun _ => off 32768 (tot (lin (lin X W B) W0 B0)) (totsq (lin (lin X W B) W0 B0))) :=
  k0_14 (acc1_8 h).1 (acc1_8 h).2 fun j => rad_pos n1 p1 _ j
theorem z1_is (n : ℕ) (hn : n < 8) : Is (a := 4096) (b := 128) (z1 V c (tt1 (n % 8))) (lin (lin X W B) W0 B0 (at8 n)) := by
  rw [Nat.mod_eq_of_lt hn]; exact k0_8 (h.x n hn) (h.w _) (h.b _) (h.w0 _) (h.b0 _)

/-- The rows of the last layer's input. -/
abbrev H1 (X : R3 4096 512) (W : Fin 512 → Fin 64 → ℝ) (B : Fin 64 → ℝ) (W0 : Fin 64 → Fin 128 → ℝ) (B0 : Fin 128 → ℝ) : R3 4096 128 :=
  relu (bn 32768 (lin (lin X W B) W0 B0))

theorem accB1_at (n : ℕ) (hn : n ≤ 8) :
    Is (a := 1) (b := 128) (accB1 V c n).1 (fun _ j => ∑ t ∈ Finset.range n, ∑ i, H1 X W B W0 B0 (at8 t) i j)
    ∧ Is (a := 128) (b := 128) (accB1 V c n).2.1 (fun k l => ∑ t ∈ Finset.range n, ∑ i, H1 X W B W0 B0 (at8 t) i k * H1 X W B W0 B0 (at8 t) i l)
    ∧ Is (a := 8) (b := 128) (accB1 V c n).2.2 (fun r j => ∑ t ∈ Finset.range n, (if r.val = t then 1 else 0) * ∑ i, H1 X W B W0 B0 (at8 t) i j) := by
  induction n with
  | zero => exact ⟨k0_5.to fun _ _ => by simp, k1_20.to fun _ _ => by simp, k1_21.to fun _ _ => by simp⟩
  | succ n ih =>
    obtain ⟨h1, h2, h3⟩ := ih (by omega)
    have hz := z1_is h n (by omega)
    have hc : (grid1.coords (tt1 (n + 8)) 1).val = n := by
      rw [(c1 _).2]; show (n + 8) % 16 % 8 = n; omega
    refine ⟨(k1_25 hz (fa1_is h) (fb1_is h) h1).to fun _ _ => ?_, (k1_23 hz (fa1_is h) (fb1_is h) h2).to fun _ _ => ?_,
      (k1_bs (k1_24 hz (fa1_is h) (fb1_is h)) h3 (grid1.coords (tt1 (n + 8))) (by omega)).to fun _ _ => ?_⟩
    · rw [Finset.sum_range_succ, relu_aff n1 p1]
    · rw [Finset.sum_range_succ, relu_aff n1 p1]
    · rw [Finset.sum_range_succ, relu_aff n1 p1, hc]

theorem accB1_8 : Is (a := 1) (b := 128) (accB1 V c 8).1 (fun _ => tot (H1 X W B W0 B0)) ∧ Is (a := 128) (b := 128) (accB1 V c 8).2.1 (gram (H1 X W B W0 B0))
    ∧ Is (a := 8) (b := 128) (accB1 V c 8).2.2 (bsum (H1 X W B W0 B0)) := by
  obtain ⟨h1, h2, h3⟩ := accB1_at h 8 le_rfl
  exact ⟨h1.to fun _ j => sum8 fun t => ∑ i, H1 X W B W0 B0 t i j, h2.to fun k l => sum8 fun t => ∑ i, H1 X W B W0 B0 t i k * H1 X W B W0 B0 t i l,
    h3.to fun r j => hot8 r fun t => ∑ i, H1 X W B W0 B0 t i j⟩

/-- The output block: the mean over each batch of the normalised last layer. -/
theorem out1_is (t : Fin cfg1.N) : Is (a := 8) (b := 256) (out1 V c t) (fun r j => (∑ i, bn 32768 (lin (H1 X W B W0 B0) W1 B1) r i j) / 4096) := by
  obtain ⟨h1, h2, h3⟩ := accB1_8 h
  exact (k1_3 h1 h2 h3 (h.w1 t) (h.b1 t) fun j => rad_emit_pos n1 p1 _ _ _ j).to fun r j => emit_eq n1 (by norm_num) p1 _ _ _ r j
end

end Cert.KernelIdeal.Val
-- ==== Proof.ValR2.lean ====
module

public import proofs.«01_k».proof.Proof.ValMath
public import proofs.«01_k».proof.Proof.Gen.KernelIdeal.Skeleton
public import Idealize.ShloMosaic.Lib.WordCmp
public import proofs.«01_k».proof.Proof.Reg2

@[expose] public section

set_option maxRecDepth 16384
set_option maxHeartbeats 1000000

noncomputable section

namespace Cert.KernelIdeal.Val

open Cert.KernelIdeal.Gen Cert.Val
open Idealize.ShloMosaic Idealize.ShloMosaic.Tactic

/-! The third call on arrays of reals. -/

open Cert.KernelIdeal.Hop

section payloads
variable {x : Vec Ideal S2048x512 .f32} {w : Vec Ideal S512x64 .f32} {b s : Vec Ideal S1x64 .f32} {g : Vec Ideal S64x64 .f32} {u : Vec Ideal S8x64 .f32} {w0 : Vec Ideal S64x128 .f32} {b0 : Vec Ideal S1x128 .f32}
  {X : R3 2048 512} {W : Fin 512 → Fin 64 → ℝ} {B S : Fin 64 → ℝ} {G : Fin 64 → Fin 64 → ℝ} {U : Fin 8 → Fin 64 → ℝ} {W0 : Fin 64 → Fin 128 → ℝ} {B0 : Fin 128 → ℝ} {t : Fin 8}
  (hx : Is x (X t)) (hw : Is w W) (hb : Is b fun _ => B) (hs : Is s fun _ => S) (hg : Is g G) (hu : Is u U) (hw0 : Is w0 W0) (hb0 : Is b0 fun _ => B0)

section
include hx hw hb
theorem k2_11 : Is (k2_pay11 (F := Ideal) x w b) (lin X W B t) := by
  intro i j
  pointwise [k2_pay11]
  simp only [lin, hx _ _, hw _ _, hb _ _, ← EReal.coe_mul, ← EReal.coe_add, ← EReal.coe_sub, coe_sum, coe_max]

include hg in
theorem k2_12 : Is (k2_pay12 (F := Ideal) x w b g) (fun k l => G k l + ∑ i, lin X W B t i k * lin X W B t i l) := by
  intro i j
  have h := k2_11 hx hw hb
  pointwise [k2_pay12]
  simp only [hg _ _, h _ _, ← EReal.coe_mul, ← EReal.coe_add, ← EReal.coe_sub, coe_sum, coe_max]

theorem k2_13 : Is (k2_pay13 (F := Ideal) x w b) (fun _ j => ∑ i, lin X W B t i j) := by
  intro i j
  have h := k2_11 hx hw hb
  pointwise [k2_pay13]
  simp only [h _ _, ← EReal.coe_mul, ← EReal.coe_add, ← EReal.coe_sub, coe_sum, coe_max]

include hs in
theorem k2_14 : Is (k2_pay14 (F := Ideal) x w b s) (fun _ j => S j + ∑ i, lin X W B t i j) := by
  intro i j
  have h := k2_13 hx hw hb
  pointwise [k2_pay14]
  simp only [hs _ _, h _ _, ← EReal.coe_mul, ← EReal.coe_add, ← EReal.coe_sub, coe_sum, coe_max]
end

theorem k2_8 : Is (k2_pay8 (F := Ideal)) fun _ _ => 0 := by
  intro i j; pointwise [k2_pay8]; simp only [← EReal.coe_zero, lit_1, lit_2, lit_2048, lit_16384, lit_eps]
theorem k2_9 : Is (k2_pay9 (F := Ideal)) fun _ _ => 0 := by
  intro i j; pointwise [k2_pay9]; simp only [← EReal.coe_zero, lit_1, lit_2, lit_2048, lit_16384, lit_eps]
theorem k2_10 : Is (k2_pay10 (F := Ideal)) fun _ _ => 0 := by
  intro i j; pointwise [k2_pay10]; simp only [← EReal.coe_zero, lit_1, lit_2, lit_2048, lit_16384, lit_eps]

include hs hu in
theorem k2_bs (n : ℕ) (h1 : n < 8) : Is (bs2 (F := Ideal) (BitVec.ofNat 32 n) s u) (fun r j => U r j + (if r.val = n then 1 else 0) * S j) := by
  intro r j
  pointwise [bs2, k2_pay1]
  rw [hot_word _ h1, hot_real _ _ h1]
  simp only [hs _ _, hu _ _, ← EReal.coe_mul, ← EReal.coe_add, ← EReal.coe_sub, coe_sum, coe_max]

include hs hu hg hw0 hb0 in
theorem k2_2 (hp : ∀ j, 0 < rad 16384 (es 16384 S W0 B0) (eq 16384 S G W0 B0) j) :
    Is (k2_pay2 (F := Ideal) (k2_pay6 w0 b0 s u) (k2_pay7 w0 b0 s g)) (emit 16384 2048 S G U W0 B0) := by
  intro i j
  have hp := hp j
  unfold rad es eq at hp
  pointwise [k2_pay2, k2_pay6, k2_pay7, k2_pay5, k2_pay4, k2_pay3]
  simp only [hs _ _, hu _ _, hg _ _, hw0 _ _, hb0 _ _, ← EReal.coe_zero, lit_1, lit_2, lit_2048, lit_16384, lit_eps, div_real _ (show (16384 : ℝ) ≠ 0 by norm_num), div_real _ (show (2048 : ℝ) ≠ 0 by norm_num), ← EReal.coe_mul, ← EReal.coe_add, ← EReal.coe_sub, coe_sum, coe_max]
  rw [rsqrt_real hp]
  simp only [← EReal.coe_mul, ← EReal.coe_add, ← EReal.coe_sub, coe_sum, coe_max, emit, fac, rad, es, eq]
end payloads

section
variable {V : Dev nD → Valuation τ sig (Elt Ideal)} {c : Dev nD}
  {X : R3 2048 512} {W : Fin 512 → Fin 64 → ℝ} {B : Fin 64 → ℝ} {W0 : Fin 64 → Fin 128 → ℝ} {B0 : Fin 128 → ℝ}

/-- The call's operands, block by block, hold these reals. -/
structure In2 (V : Dev nD → Valuation τ sig (Elt Ideal)) (c : Dev nD) (X : R3 2048 512) (W : Fin 512 → Fin 64 → ℝ) (B : Fin 64 → ℝ) (W0 : Fin 64 → Fin 128 → ℝ) (B0 : Fin 128 → ℝ) : Prop where
  x : ∀ n, n < 8 → Is (a := 2048) (b := 512) (ib2 V c 0 (tt2 n)) (X (at8 n))
  w : ∀ t, Is (a := 512) (b := 64) (ib2 V c 1 t) W
  b : ∀ t, Is (a := 1) (b := 64) (ib2 V c 2 t) fun _ => B
  w0 : ∀ t, Is (a := 64) (b := 128) (ib2 V c 3 t) W0
  b0 : ∀ t, Is (a := 1) (b := 128) (ib2 V c 4 t) fun _ => B0

theorem n2 : (16384 : ℝ) = 8 * (2048 : ℕ) := by norm_num
theorem p2 : (0 : ℝ) < 16384 := by norm_num

variable (h : In2 V c X W B W0 B0)
include h

theorem acc2_at (n : ℕ) (hn : n ≤ 8) :
    Is (a := 1) (b := 64) (acc2 V c n).1 (fun _ j => ∑ t ∈ Finset.range n, ∑ i, lin X W B (at8 t) i j)
    ∧ Is (a := 64) (b := 64) (acc2 V c n).2.1 (fun k l => ∑ t ∈ Finset.range n, ∑ i, lin X W B (at8 t) i k * lin X W B (at8 t) i l)
    ∧ Is (a := 8) (b := 64) (acc2 V c n).2.2 (fun r j => ∑ t ∈ Finset.range n, (if r.val = t then 1 else 0) * ∑ i, lin X W B (at8 t) i j) := by
  induction n with
  | zero => exact ⟨k2_8.to fun _ _ => by simp, k2_9.to fun _ _ => by simp, k2_10.to fun _ _ => by simp⟩
  | succ n ih =>
    obtain ⟨h1, h2, h3⟩ := ih (by omega)
    have hx := h.x n (by omega)
    have hc : (grid2.coords (tt2 n) 0).val = n := by
      have e : (grid2.coords (tt2 n) 0).val = (tt2 n).val / 1 % 8 := Pipeline.Grid.coords_val (tt2 n) 0 (by decide) rfl
      rw [e]; show n % 8 / 1 % 8 = n; omega
    refine ⟨(k2_14 hx (h.w _) (h.b _) h1).to fun _ _ => ?_, (k2_12 hx (h.w _) (h.b _) h2).to fun _ _ => ?_, ?_⟩
    · rw [Finset.sum_range_succ]
    · rw [Finset.sum_range_succ]
    · have := k2_bs (k2_13 hx (h.w (tt2 n)) (h.b (tt2 n))) h3 n (by omega)
      show Is (a := 8) (b := 64) (bs2 (F := Ideal) (BitVec.ofNat 32 (grid2.coords (tt2 n) 0).val) _ _) _
      rw [hc]
      refine this.to fun _ _ => ?_
      rw [Finset.sum_range_succ]

theorem acc2_8 : Is (a := 1) (b := 64) (acc2 V c 8).1 (fun _ => tot (lin X W B)) ∧ Is (a := 64) (b := 64) (acc2 V c 8).2.1 (gram (lin X W B))
    ∧ Is (a := 8) (b := 64) (acc2 V c 8).2.2 (bsum (lin X W B)) := by
  obtain ⟨h1, h2, h3⟩ := acc2_at h 8 le_rfl
  exact ⟨h1.to fun _ j => sum8 fun t => ∑ i, lin X W B t i j, h2.to fun k l => sum8 fun t => ∑ i, lin X W B t i k * lin X W B t i l,
    h3.to fun r j => hot8 r fun t => ∑ i, lin X W B t i j⟩

/-- The output block: the mean over each batch of the normalised layer. -/
theorem out2_is : Is (a := 8) (b := 128) (out2 V c) (fun r j => (∑ i, bn 16384 (lin (lin X W B) W0 B0) r i j) / 2048) := by
  obtain ⟨h1, h2, h3⟩ := acc2_8 h
  exact (k2_2 h1 h2 h3 (h.w0 _) (h.b0 _) fun j => rad_emit_pos n2 p2 _ _ _ j).to fun r j => emit_eq n2 (by norm_num) p2 _ _ _ r j
end

end Cert.KernelIdeal.Val
-- ==== Proof.ValR3.lean ====
module

public import proofs.«01_k».proof.Proof.ValMath
public import proofs.«01_k».proof.Proof.Gen.KernelIdeal.Skeleton
public import Idealize.ShloMosaic.Lib.WordCmp
public import Idealize.ShloMosaic.Lib.Pipeline.ValueKit.Tiles
public import proofs.«01_k».proof.Proof.Reg3

@[expose] public section

set_option maxRecDepth 16384
set_option maxHeartbeats 1000000

noncomputable section

namespace Cert.KernelIdeal.Val

open Cert.KernelIdeal.Gen Cert.Val
open Idealize.ShloMosaic Idealize.ShloMosaic.Tactic

/-! The fourth call on arrays of reals. -/

open Cert.KernelIdeal.Hop

section phase1
variable {x : Vec Ideal S512x512 .f32} {w : Vec Ideal S512x64 .f32} {b : Vec Ideal S1x64 .f32} {w0 : Vec Ideal S64x128 .f32} {b0 : Vec Ideal S1x128 .f32}
  {s q : Vec Ideal S1x128 .f32} {X : R3 512 512} {W : Fin 512 → Fin 64 → ℝ} {B : Fin 64 → ℝ} {W0 : Fin 64 → Fin 128 → ℝ} {B0 S Q : Fin 128 → ℝ} {t : Fin 8}
  (hx : Is x (X t)) (hw : Is w W) (hb : Is b fun _ => B) (hw0 : Is w0 W0) (hb0 : Is b0 fun _ => B0) (hs : Is s fun _ => S) (hq : Is q fun _ => Q)
include hx hw hb hw0 hb0

theorem k3_6 : Is (k3_pay6 (F := Ideal) x w b w0 b0) (lin (lin X W B) W0 B0 t) := by
  intro i j
  pointwise [k3_pay6]
  simp only [lin, hx _ _, hw _ _, hb _ _, hw0 _ _, hb0 _ _, ← EReal.coe_mul, ← EReal.coe_add, ← EReal.coe_sub, coe_sum, coe_max]

theorem k3_7 : Is (k3_pay7 (F := Ideal) x w b w0 b0) (lin (lin X W B) W0 B0 t) := by
  intro i j
  pointwise [k3_pay7]
  exact k3_6 hx hw hb hw0 hb0 i j

include hs in
theorem k3_8 : Is (k3_pay8 (F := Ideal) x w b w0 b0 s) (fun _ j => S j + ∑ i, lin (lin X W B) W0 B0 t i j) := by
  intro i j
  have h := k3_6 hx hw hb hw0 hb0
  pointwise [k3_pay8]
  simp only [hs _ _, h _ _, ← EReal.coe_mul, ← EReal.coe_add, ← EReal.coe_sub, coe_sum, coe_max]

include hq in
theorem k3_9 : Is (k3_pay1 (k3_pay9 (F := Ideal) x w b w0 b0 q)) (fun _ j => Q j + ∑ i, lin (lin X W B) W0 B0 t i j * lin (lin X W B) W0 B0 t i j) := by
  intro i j
  have h := k3_6 hx hw hb hw0 hb0
  pointwise [k3_pay1, k3_pay9]
  simp only [hq _ _, h _ _, ← EReal.coe_mul, ← EReal.coe_add, ← EReal.coe_sub, coe_sum, coe_max]

omit hx hw hb hw0 hb0

include hs hq in
theorem k3_12 (hp : ∀ j, 0 < rad 4096 S Q j) : Is (k3_pay12 (F := Ideal) s q) (fun _ => fac 4096 S Q) := by
  intro i j
  have hp := hp j
  unfold rad at hp
  pointwise [k3_pay12, k3_pay11, k3_pay10]
  simp only [hs _ _, hq _ _, ← EReal.coe_zero, lit_1, lit_2, lit_4096, lit_32768, lit_eps, div_real _ (show (4096 : ℝ) ≠ 0 by norm_num), ← EReal.coe_mul, ← EReal.coe_add, ← EReal.coe_sub, coe_sum, coe_max, rsqrt_real hp, fac, rad]

include hs hq in
theorem k3_13 (hp : ∀ j, 0 < rad 4096 S Q j) : Is (k3_pay13 (F := Ideal) s q) (fun _ => off 4096 S Q) := by
  intro i j
  have hp := hp j
  unfold rad at hp
  pointwise [k3_pay13, k3_pay11, k3_pay10]
  simp only [hs _ _, hq _ _, ← EReal.coe_zero, lit_1, lit_2, lit_4096, lit_32768, lit_eps, div_real _ (show (4096 : ℝ) ≠ 0 by norm_num), ← EReal.coe_mul, ← EReal.coe_add, ← EReal.coe_sub, coe_sum, coe_max, rsqrt_real hp, off, fac, rad]

theorem k3_4 : Is (k3_pay4 (F := Ideal)) fun _ _ => 0 := by
  intro i j; pointwise [k3_pay4]; simp only [← EReal.coe_zero, lit_1, lit_2, lit_4096, lit_32768, lit_eps]
theorem k3_5 : Is (k3_pay5 (F := Ideal)) fun _ _ => 0 := by
  intro i j; pointwise [k3_pay5]; simp only [← EReal.coe_zero, lit_1, lit_2, lit_4096, lit_32768, lit_eps]

end phase1

section phase2
variable {z : Vec Ideal S512x128 .f32} {a c : Vec Ideal S1x128 .f32} {w : Vec Ideal S128x1024 .f32} {v : Vec Ideal S1x1024 .f32}
  {Z : R3 512 128} {A C : Fin 128 → ℝ} {W : Fin 128 → Fin 1024 → EReal} {v' : Fin 1024 → EReal} {t : Fin 8}
  (hz : Is z (Z t)) (ha : Is a fun _ => A) (hc : Is c fun _ => C) (hw : IsE w W) (hv : IsE v fun _ => v')
include hz ha hc hw hv

theorem k3_3 : IsE (k3_pay3 (F := Ideal) z a c w v) (fun i j => ∑ k, ((aff Z A C t i k : ℝ) : EReal) * W k j + v' j) := by
  intro i j
  pointwise [k3_pay3]
  simp only [aff, hz _ _, ha _ _, hc _ _, hw _ _, hv _ _, ← EReal.coe_mul, ← EReal.coe_add]
end phase2

section rows
variable {h1 : Vec Ideal S8x128 .f32} {h2 : Vec Ideal S8x256 .f32} {h3 : Vec Ideal S8x512 .f32} {wf : Vec Ideal S896x1024 .f32} {b : Vec Ideal S1x1024 .f32}
  {G1 : Fin 8 → Fin 128 → ℝ} {G2 : Fin 8 → Fin 256 → ℝ} {G3 : Fin 8 → Fin 512 → ℝ} {WF : Fin 896 → Fin 1024 → EReal} {B : Fin 1024 → EReal}
  (e1 : Is h1 G1) (e2 : Is h2 G2) (e3 : Is h3 G3) (hw : IsE wf WF) (hb : IsE b fun _ => B)
include e1 e2 e3 hw hb

theorem k3_14 : IsE (k3_pay2 (k3_pay14 (F := Ideal) h1 h2 h3 wf b)) (fun r j => ∑ k, ((cat3 G1 G2 G3 r k : ℝ) : EReal) * WF k j + B j) := by
  intro r j
  pointwise [k3_pay2, k3_pay14]
  have e : ∀ x : Fin 896, (if h : x.val < 128 then h1 (ix2 r ⟨x.val, h⟩)
      else if h' : x.val - 128 < 256 then h2 (ix2 r ⟨x.val - 128, h'⟩) else h3 (ix2 r ⟨x.val - 128 - 256, by omega⟩)) = ((cat3 G1 G2 G3 r x : ℝ) : EReal) := fun x => by
    unfold cat3; split
    · exact e1 _ _
    · split
      · exact e2 _ _
      · exact e3 _ _
  simp only [e, hw _ _, hb _ _]
end rows

section
variable {V : Dev nD → Valuation τ sig (Elt Ideal)} {c : Dev nD}
  {X : R3 512 512} {W : Fin 512 → Fin 64 → ℝ} {B : Fin 64 → ℝ} {W0 : Fin 64 → Fin 128 → ℝ} {B0 : Fin 128 → ℝ} {WF : Fin 1024 → Fin 1024 → EReal} {BF : Fin 1024 → EReal}
  {G1 : Fin 8 → Fin 128 → ℝ} {G2 : Fin 8 → Fin 256 → ℝ} {G3 : Fin 8 → Fin 512 → ℝ}

/-- The call's operands, block by block, hold these reals. -/
structure In3 (V : Dev nD → Valuation τ sig (Elt Ideal)) (c : Dev nD) (X : R3 512 512) (W : Fin 512 → Fin 64 → ℝ) (B : Fin 64 → ℝ) (W0 : Fin 64 → Fin 128 → ℝ) (B0 : Fin 128 → ℝ)
    (WF : Fin 1024 → Fin 1024 → EReal) (BF : Fin 1024 → EReal) (G1 : Fin 8 → Fin 128 → ℝ) (G2 : Fin 8 → Fin 256 → ℝ) (G3 : Fin 8 → Fin 512 → ℝ) : Prop where
  x : ∀ n, n < 8 → Is (a := 512) (b := 512) (ib3 V c 0 (tt3 n)) (X (at8 n))
  w : ∀ t, Is (a := 512) (b := 64) (ib3 V c 1 t) W
  b : ∀ t, Is (a := 1) (b := 64) (ib3 V c 2 t) fun _ => B
  w0 : ∀ t, Is (a := 64) (b := 128) (ib3 V c 3 t) W0
  b0 : ∀ t, Is (a := 1) (b := 128) (ib3 V c 4 t) fun _ => B0
  wf : ∀ t, IsE (a := 1024) (b := 1024) (ib3 V c 5 t) WF
  bf : ∀ t, IsE (a := 1) (b := 1024) (ib3 V c 6 t) fun _ => BF
  g1 : ∀ t, Is (a := 8) (b := 128) (ib3 V c 7 t) G1
  g2 : ∀ t, Is (a := 8) (b := 256) (ib3 V c 8 t) G2
  g3 : ∀ t, Is (a := 8) (b := 512) (ib3 V c 9 t) G3

theorem n3 : (4096 : ℝ) = 8 * (512 : ℕ) := by norm_num
theorem p3 : (0 : ℝ) < 4096 := by norm_num

/-- A load of whole rows of an array. -/
theorem ld_is {a b n : ℕ} (x : (⟨2, ![a, b]⟩ : Shape).Idx → EReal) {Y : Fin a → Fin b → EReal} (hx : IsE x Y) (o : ℕ) (p : Fin 2 → ℕ) (hp : p = ![o, 0]) (inb) (hn : ∀ i : Fin n, o + i.val < a) :
    IsE (a := n) (b := b) (View.ld (Val := fun _ => EReal) (e' := EltTy.f32) x (Rect.unit (s := ⟨2, ![a, b]⟩) p ![n, b] inb)) (fun i => Y ⟨o + i.val, hn i⟩) := fun i j => by
  subst hp
  refine (View.ld_unit_apply_of (Val := fun _ => EReal) (e := EltTy.f32) x _ _ inb (ix2 i j) (ix2 ⟨o + i.val, hn i⟩ j) fun k => ?_).trans (hx _ _)
  fin_cases k
  · rfl
  · exact (Nat.zero_add _).symm

variable (h : In3 V c X W B W0 B0 WF BF G1 G2 G3)
include h

theorem acc3_at (n : ℕ) (hn : n ≤ 8) :
    Is (a := 1) (b := 128) (acc3 V c n).1 (fun _ j => ∑ t ∈ Finset.range n, ∑ i, lin (lin X W B) W0 B0 (at8 t) i j)
    ∧ Is (a := 1) (b := 128) (acc3 V c n).2 (fun _ j => ∑ t ∈ Finset.range n, ∑ i, lin (lin X W B) W0 B0 (at8 t) i j * lin (lin X W B) W0 B0 (at8 t) i j) := by
  induction n with
  | zero => exact ⟨k3_4.to fun _ _ => by simp, k3_5.to fun _ _ => by simp⟩
  | succ n ih =>
    obtain ⟨h1, h2⟩ := ih (by omega)
    have hx := h.x n (by omega)
    refine ⟨(k3_8 hx (h.w _) (h.b _) (h.w0 _) (h.b0 _) h1).to fun _ _ => ?_, (k3_9 hx (h.w _) (h.b _) (h.w0 _) (h.b0 _) h2).to fun _ _ => ?_⟩
    · rw [Finset.sum_range_succ]
    · rw [Finset.sum_range_succ]

theorem acc3_8 : Is (a := 1) (b := 128) (acc3 V c 8).1 (fun _ => tot (lin (lin X W B) W0 B0)) ∧ Is (a := 1) (b := 128) (acc3 V c 8).2 (fun _ => totsq (lin (lin X W B) W0 B0)) := by
  obtain ⟨h1, h2⟩ := acc3_at h 8 le_rfl
  exact ⟨h1.to fun _ j => sum8 fun t => ∑ i, lin (lin X W B) W0 B0 t i j, h2.to fun _ j => sum8 fun t => ∑ i, lin (lin X W B) W0 B0 t i j * lin (lin X W B) W0 B0 t i j⟩

theorem fa3_is : Is (a := 1) (b := 128) (fa3 V c) (fun _ => fac 4096 (tot (lin (lin X W B) W0 B0)) (totsq (lin (lin X W B) W0 B0))) :=
  k3_12 (acc3_8 h).1 (acc3_8 h).2 fun j => rad_pos n3 p3 _ j
theorem fb3_is : Is (a := 1) (b := 128) (fb3 V c) (fun _ => off 4096 (tot (lin (lin X W B) W0 B0)) (totsq (lin (lin X W B) W0 B0))) :=
  k3_13 (acc3_8 h).1 (acc3_8 h).2 fun j => rad_pos n3 p3 _ j

theorem rows3_is (t : Fin cfg3.N) : IsE (a := 8) (b := 1024) (rows3 V c t) (fun r j => ∑ k, ((cat3 G1 G2 G3 r k : ℝ) : EReal) * low WF k j + BF j) :=
  k3_14 (h.g1 t) (h.g2 t) (h.g3 t) (ld_is (n := 896) _ (h.wf t) 128 _ rfl _ fun i => by omega) (h.bf t)

/-- The output block: the last layer on one batch. -/
theorem out3_is (t : Fin cfg3.N) : IsE (a := 512) (b := 1024) (out3 V c t) (last (bn 4096 (lin (lin X W B) W0 B0)) G1 G2 G3 WF BF (at8 t.val)) := by
  have ht := Nat.mod_lt t.val (show 0 < 8 by decide)
  have hz : Is (a := 512) (b := 128) (z3 V c (tt3 (t.val % 8))) (lin (lin X W B) W0 B0 (at8 t.val)) := by
    have e : at8 t.val = at8 (t.val % 8) := Fin.ext (Nat.mod_mod _ _).symm
    rw [e]; exact k3_7 (h.x _ ht) (h.w _) (h.b _) (h.w0 _) (h.b0 _)
  have hw : IsE (a := 128) (b := 1024) _ _ := ld_is (n := 128) _ (h.wf t) 0 ![0, 0] rfl inb_S1024x1024_S128x1024_0_0 fun i => by omega
  have hv : IsE (a := 1) (b := 1024) _ _ := ld_is (n := 1) _ (rows3_is h (tt3 8)) (t.val % 8) (ro3 t.val) rfl (ro3_inb t.val) fun i => by omega
  have e : ∀ i : Fin 1, (⟨t.val % 8 + i.val, by omega⟩ : Fin 8) = at8 t.val := fun i => Fin.ext (by show _ + _ = _ % _; omega)
  have u : ∀ i : Fin 128, (⟨0 + i.val, by omega⟩ : Fin 1024) = ⟨i.val, by omega⟩ := fun i => Fin.ext (Nat.zero_add _)
  simp only [e] at hv
  simp only [u] at hw
  intro i j
  refine (k3_3 hz (fa3_is h) (fb3_is h) hw hv i j).trans ?_
  rw [relu_aff n3 p3]; rfl
end

end Cert.KernelIdeal.Val
-- ==== Proof.ValK.lean ====
module

public import proofs.«01_k».proof.Proof.ValMath
public import proofs.«01_k».proof.Proof.Gen.KernelIdeal.Skeleton
public import Idealize.ShloMosaic.Lib.WordCmp
public import Idealize.ShloMosaic.Lib.Pipeline.ValueKit
public import Idealize.ShloMosaic.Lib.StableHlo.ReadAt
public import proofs.«01_k».proof.Proof.ValR0
public import proofs.«01_k».proof.Proof.ValR1
public import proofs.«01_k».proof.Proof.ValR2
public import proofs.«01_k».proof.Proof.ValR3
public import proofs.«01_k».proof.Proof.Run

@[expose] public section

set_option maxRecDepth 16384
set_option maxHeartbeats 1000000

noncomputable section

namespace Cert.KernelIdeal.Val

open Cert.KernelIdeal.Gen Cert.Val
open Idealize.ShloMosaic Idealize.ShloMosaic.Tactic

/-! The arguments as reals, through the host reshapes and the four calls. -/

open Cert.KernelIdeal.Hop

variable (m : (ℓ : Loc nD τ sig) → Buf (Elt Ideal) ℓ) (c : Dev nD) (R : Rs)

/-- The arguments in memory hold these reals. -/
structure Has : Prop where
  x3 : Is3 (a := 8) (b := 4096) (c := 512) (m ((c.tc : Thread nD τ).loc main_arg0)) R.x3
  x2 : Is3 (a := 8) (b := 4096) (c := 512) (m ((c.tc : Thread nD τ).loc main_arg1)) R.x2
  x1 : Is3 (a := 8) (b := 2048) (c := 512) (m ((c.tc : Thread nD τ).loc main_arg2)) R.x1
  x0 : Is3 (a := 8) (b := 512) (c := 512) (m ((c.tc : Thread nD τ).loc main_arg3)) R.x0
  wp : Is (a := 512) (b := 64) (m ((c.tc : Thread nD τ).loc main_arg7)) R.wp
  bp : Is1 (a := 64) (m ((c.tc : Thread nD τ).loc main_arg8)) R.bp
  w30 : Is (a := 64) (b := 128) (m ((c.tc : Thread nD τ).loc main_arg9)) R.w30
  b30 : Is1 (a := 128) (m ((c.tc : Thread nD τ).loc main_arg10)) R.b30
  w31 : Is (a := 128) (b := 256) (m ((c.tc : Thread nD τ).loc main_arg11)) R.w31
  b31 : Is1 (a := 256) (m ((c.tc : Thread nD τ).loc main_arg12)) R.b31
  w32 : Is (a := 256) (b := 512) (m ((c.tc : Thread nD τ).loc main_arg13)) R.w32
  b32 : Is1 (a := 512) (m ((c.tc : Thread nD τ).loc main_arg14)) R.b32
  w20 : Is (a := 64) (b := 128) (m ((c.tc : Thread nD τ).loc main_arg15)) R.w20
  b20 : Is1 (a := 128) (m ((c.tc : Thread nD τ).loc main_arg16)) R.b20
  w21 : Is (a := 128) (b := 256) (m ((c.tc : Thread nD τ).loc main_arg17)) R.w21
  b21 : Is1 (a := 256) (m ((c.tc : Thread nD τ).loc main_arg18)) R.b21
  w10 : Is (a := 64) (b := 128) (m ((c.tc : Thread nD τ).loc main_arg19)) R.w10
  b10 : Is1 (a := 128) (m ((c.tc : Thread nD τ).loc main_arg20)) R.b10
  w00 : Is (a := 64) (b := 128) (m ((c.tc : Thread nD τ).loc main_arg21)) R.w00
  b00 : Is1 (a := 128) (m ((c.tc : Thread nD τ).loc main_arg22)) R.b00
  wf : IsE (a := 1024) (b := 1024) (m ((c.tc : Thread nD τ).loc main_arg23)) R.wf
  bf : ∀ i : Fin 1024, (m ((c.tc : Thread nD τ).loc main_arg24) (ix1 i) : EReal) = R.bf i

variable {m c R} (h : Has m c R)
include h

/-! What the reshapes of the arguments leave. -/

theorem v0 (t : Fin 8) (i : Fin 4096) (j : Fin 512) : V1 m c (Proc.devRef .tc main_v0) (ix2 (⟨t.val * 4096 + i.val, by omega⟩ : Fin 32768) j) = ((R.x3 t i j : ℝ) : EReal) := by
  refine Eq.trans ?_ (h.x3 t i j)
  after_reads_at
theorem v1 (t : Fin 8) (i : Fin 4096) (j : Fin 512) : V1 m c (Proc.devRef .tc main_v1) (ix2 (⟨t.val * 4096 + i.val, by omega⟩ : Fin 32768) j) = ((R.x2 t i j : ℝ) : EReal) := by
  refine Eq.trans ?_ (h.x2 t i j)
  after_reads_at
theorem v2 (t : Fin 8) (i : Fin 2048) (j : Fin 512) : V1 m c (Proc.devRef .tc main_v2) (ix2 (⟨t.val * 2048 + i.val, by omega⟩ : Fin 16384) j) = ((R.x1 t i j : ℝ) : EReal) := by
  refine Eq.trans ?_ (h.x1 t i j)
  after_reads_at
theorem v3 (t : Fin 8) (i : Fin 512) (j : Fin 512) : V1 m c (Proc.devRef .tc main_v3) (ix2 (⟨t.val * 512 + i.val, by omega⟩ : Fin 4096) j) = ((R.x0 t i j : ℝ) : EReal) := by
  refine Eq.trans ?_ (h.x0 t i j)
  after_reads_at
theorem v4 : Is (a := 1) (b := 64) (V1 m c (Proc.devRef .tc main_v4)) fun _ => R.bp := fun i j => by
  refine Eq.trans ?_ (h.bp j)
  after_reads_at
theorem v5 : Is (a := 1) (b := 128) (V1 m c (Proc.devRef .tc main_v5)) fun _ => R.b30 := fun i j => by
  refine Eq.trans ?_ (h.b30 j)
  after_reads_at
theorem v6 : Is (a := 1) (b := 256) (V1 m c (Proc.devRef .tc main_v6)) fun _ => R.b31 := fun i j => by
  refine Eq.trans ?_ (h.b31 j)
  after_reads_at
theorem v7 : Is (a := 1) (b := 512) (V1 m c (Proc.devRef .tc main_v7)) fun _ => R.b32 := fun i j => by
  refine Eq.trans ?_ (h.b32 j)
  after_reads_at
theorem v8 : Is (a := 1) (b := 128) (V1 m c (Proc.devRef .tc main_v8)) fun _ => R.b20 := fun i j => by
  refine Eq.trans ?_ (h.b20 j)
  after_reads_at
theorem v9 : Is (a := 1) (b := 256) (V1 m c (Proc.devRef .tc main_v9)) fun _ => R.b21 := fun i j => by
  refine Eq.trans ?_ (h.b21 j)
  after_reads_at
theorem v10 : Is (a := 1) (b := 128) (V1 m c (Proc.devRef .tc main_v10)) fun _ => R.b10 := fun i j => by
  refine Eq.trans ?_ (h.b10 j)
  after_reads_at
theorem v11 : Is (a := 1) (b := 128) (V1 m c (Proc.devRef .tc main_v11)) fun _ => R.b00 := fun i j => by
  refine Eq.trans ?_ (h.b00 j)
  after_reads_at
theorem v12 : IsE (a := 1) (b := 1024) (V1 m c (Proc.devRef .tc main_v12)) fun _ => R.bf := fun i j => by
  refine Eq.trans ?_ (h.bf j)
  after_reads_at

omit h

/-! What each call finds where no earlier one wrote. -/

theorem W2_eq (r : Ref sig .tc) (hr : r ≠ main_v13) : W2 m c (Proc.devRef .tc r) = V1 m c (Proc.devRef .tc r) :=
  keep_0 (V1 m) c r fun w e => Decidable.by_contra fun hw => hr (e ▸ only0 w hw)
theorem W3_eq (r : Ref sig .tc) (hr : r ≠ main_v14) : W3 m c (Proc.devRef .tc r) = W2 m c (Proc.devRef .tc r) :=
  keep_1 (W2 m) c r fun w e => Decidable.by_contra fun hw => hr (e ▸ only1 w hw)
theorem W4_eq (r : Ref sig .tc) (hr : r ≠ main_v15) : W4 m c (Proc.devRef .tc r) = W3 m c (Proc.devRef .tc r) :=
  keep_2 (W3 m) c r fun w e => Decidable.by_contra fun hw => hr (e ▸ only2 w hw)

/-- What the four calls start from. -/
structure From (V : Dev nD → Valuation τ sig (Elt Ideal)) : Prop where
  eq : ∀ r : Ref sig .tc, r ∉ [main_v13, main_v14, main_v15] → V c (Proc.devRef .tc r) = V1 m c (Proc.devRef .tc r)

theorem from1 : From (m := m) (c := c) (V1 m) := ⟨fun _ _ => rfl⟩
theorem from2 : From (m := m) (c := c) (W2 m) := ⟨fun r hr => W2_eq r fun e => hr (by simp [e])⟩
theorem from3 : From (m := m) (c := c) (W3 m) := ⟨fun r hr => (W3_eq r fun e => hr (by simp [e])).trans (from2.eq r hr)⟩
theorem from4 : From (m := m) (c := c) (W4 m) := ⟨fun r hr => (W4_eq r fun e => hr (by simp [e])).trans (from3.eq r hr)⟩

theorem From.arg {V : Dev nD → Valuation τ sig (Elt Ideal)} (f : From (m := m) (c := c) V) (r : Ref sig .tc) (hr : r ∉ [main_v13, main_v14, main_v15]) (h0 : r ∉ hostOps0_W) :
    V c (Proc.devRef .tc r) = m ((c.tc : Thread nD τ).loc r) := (f.eq r hr).trans (V1_of m c r h0)

variable {V : Dev nD → Valuation τ sig (Elt Ideal)}

/-- A whole array, read where `f` places its indices. -/
theorem whole_isE {a b : ℕ} {x : (⟨2, ![a, b]⟩ : Shape).Idx → EReal} {X : Fin a → Fin b → EReal} (h : IsE x X)
    {f : (⟨2, ![a, b]⟩ : Shape).Idx → (⟨2, ![a, b]⟩ : Shape).Idx} (hf : ∀ i j, f (ix2 i j) = ix2 i j) : IsE (fun y => x (f y)) X :=
  fun i j => (congrArg x (hf i j)).trans (h i j)
theorem whole_is {a b : ℕ} {x : (⟨2, ![a, b]⟩ : Shape).Idx → EReal} {X : Fin a → Fin b → ℝ} (h : Is x X)
    {f : (⟨2, ![a, b]⟩ : Shape).Idx → (⟨2, ![a, b]⟩ : Shape).Idx} (hf : ∀ i j, f (ix2 i j) = ix2 i j) : Is (fun y => x (f y)) X :=
  whole_isE h hf

/-! Where the blocks of the windows lie. -/

theorem at0 : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)
theorem at0_x : ∀ t : Fin cfg0.N, t.val < 8 → win0_0.index t = ![t.val, 0] := (by decide +kernel : ∀ t : Fin grid0.N, _)
theorem at1 : ∀ t : Fin cfg1.N, win1_1.index t = ![0, 0] ∧ win1_2.index t = ![0, 0] ∧ win1_3.index t = ![0, 0] ∧ win1_4.index t = ![0, 0] ∧ win1_5.index t = ![0, 0] ∧ win1_6.index t = ![0, 0] :=
  (by decide +kernel : ∀ t : Fin grid1.N, _)
theorem at1_x : ∀ t : Fin cfg1.N, t.val < 8 → win1_0.index t = ![t.val, 0] := (by decide +kernel : ∀ t : Fin grid1.N, _)
theorem at2 : ∀ t : Fin cfg2.N, win2_1.index t = ![0, 0] ∧ win2_2.index t = ![0, 0] ∧ win2_3.index t = ![0, 0] ∧ win2_4.index t = ![0, 0] :=
  (by decide +kernel : ∀ t : Fin grid2.N, _)
theorem at2_x : ∀ t : Fin cfg2.N, t.val < 8 → win2_0.index t = ![t.val, 0] := (by decide +kernel : ∀ t : Fin grid2.N, _)
theorem at3 : ∀ t : Fin cfg3.N, win3_1.index t = ![0, 0] ∧ win3_2.index t = ![0, 0] ∧ win3_3.index t = ![0, 0] ∧ win3_4.index t = ![0, 0] ∧ win3_5.index t = ![0, 0] ∧ win3_6.index t = ![0, 0] ∧ win3_7.index t = ![0, 0] ∧ win3_8.index t = ![0, 0] ∧ win3_9.index t = ![0, 0] :=
  (by decide +kernel : ∀ t : Fin grid3.N, _)
theorem at3_x : ∀ t : Fin cfg3.N, t.val < 8 → win3_0.index t = ![t.val, 0] := (by decide +kernel : ∀ t : Fin grid3.N, _)

theorem in0 (h : Has m c R) (f : From (m := m) (c := c) V) : In0 V c R.x3 R.wp R.bp R.w30 R.b30 R.w31 R.b31 R.w32 R.b32 where
  x := fun n hn => by
    have ht : (tt0 n).val = n := Nat.mod_eq_of_lt (by omega : n < 24)
    have e := at0_x (tt0 n) (by omega)
    have r := fun i j => (congrFun (f.eq main_v0 (by decide)) _).trans (v0 h (at8 n) i j)
    refine Is.at r fun i j => ?_
    have h8 := at8_val hn
    blk_ext [e]
  w := fun t => whole_is (fun i j => (congrFun (f.arg main_arg7 (by decide) (by decide)) _).trans (h.wp i j)) fun i j => by have e := (at0 t).1; blk_ext [e]
  b := fun t => whole_is (fun i j => (congrFun (f.eq main_v4 (by decide)) _).trans (v4 h i j)) fun i j => by have e := (at0 t).2.1; blk_ext [e]
  w0 := fun t => whole_is (fun i j => (congrFun (f.arg main_arg9 (by decide) (by decide)) _).trans (h.w30 i j)) fun i j => by have e := (at0 t).2.2.1; blk_ext [e]
  b0 := fun t => whole_is (fun i j => (congrFun (f.eq main_v5 (by decide)) _).trans (v5 h i j)) fun i j => by have e := (at0 t).2.2.2.1; blk_ext [e]
  w1 := fun t => whole_is (fun i j => (congrFun (f.arg main_arg11 (by decide) (by decide)) _).trans (h.w31 i j)) fun i j => by have e := (at0 t).2.2.2.2.1; blk_ext [e]
  b1 := fun t => whole_is (fun i j => (congrFun (f.eq main_v6 (by decide)) _).trans (v6 h i j)) fun i j => by have e := (at0 t).2.2.2.2.2.1; blk_ext [e]
  w2 := fun t => whole_is (fun i j => (congrFun (f.arg main_arg13 (by decide) (by decide)) _).trans (h.w32 i j)) fun i j => by have e := (at0 t).2.2.2.2.2.2.1; blk_ext [e]
  b2 := fun t => whole_is (fun i j => (congrFun (f.eq main_v7 (by decide)) _).trans (v7 h i j)) fun i j => by have e := (at0 t).2.2.2.2.2.2.2; blk_ext [e]

theorem in1 (h : Has m c R) (f : From (m := m) (c := c) V) : In1 V c R.x2 R.wp R.bp R.w20 R.b20 R.w21 R.b21 where
  x := fun n hn => by
    have ht : (tt1 n).val = n := Nat.mod_eq_of_lt (by omega : n < 16)
    have e := at1_x (tt1 n) (by omega)
    have r := fun i j => (congrFun (f.eq main_v1 (by decide)) _).trans (v1 h (at8 n) i j)
    refine Is.at r fun i j => ?_
    have h8 := at8_val hn
    blk_ext [e]
  w := fun t => whole_is (fun i j => (congrFun (f.arg main_arg7 (by decide) (by decide)) _).trans (h.wp i j)) fun i j => by have e := (at1 t).1; blk_ext [e]
  b := fun t => whole_is (fun i j => (congrFun (f.eq main_v4 (by decide)) _).trans (v4 h i j)) fun i j => by have e := (at1 t).2.1; blk_ext [e]
  w0 := fun t => whole_is (fun i j => (congrFun (f.arg main_arg15 (by decide) (by decide)) _).trans (h.w20 i j)) fun i j => by have e := (at1 t).2.2.1; blk_ext [e]
  b0 := fun t => whole_is (fun i j => (congrFun (f.eq main_v8 (by decide)) _).trans (v8 h i j)) fun i j => by have e := (at1 t).2.2.2.1; blk_ext [e]
  w1 := fun t => whole_is (fun i j => (congrFun (f.arg main_arg17 (by decide) (by decide)) _).trans (h.w21 i j)) fun i j => by have e := (at1 t).2.2.2.2.1; blk_ext [e]
  b1 := fun t => whole_is (fun i j => (congrFun (f.eq main_v9 (by decide)) _).trans (v9 h i j)) fun i j => by have e := (at1 t).2.2.2.2.2; blk_ext [e]

theorem in2 (h : Has m c R) (f : From (m := m) (c := c) V) : In2 V c R.x1 R.wp R.bp R.w10 R.b10 where
  x := fun n hn => by
    have ht : (tt2 n).val = n := Nat.mod_eq_of_lt (by omega : n < 8)
    have e := at2_x (tt2 n) (by omega)
    have r := fun i j => (congrFun (f.eq main_v2 (by decide)) _).trans (v2 h (at8 n) i j)
    refine Is.at r fun i j => ?_
    have h8 := at8_val hn
    blk_ext [e]
  w := fun t => whole_is (fun i j => (congrFun (f.arg main_arg7 (by decide) (by decide)) _).trans (h.wp i j)) fun i j => by have e := (at2 t).1; blk_ext [e]
  b := fun t => whole_is (fun i j => (congrFun (f.eq main_v4 (by decide)) _).trans (v4 h i j)) fun i j => by have e := (at2 t).2.1; blk_ext [e]
  w0 := fun t => whole_is (fun i j => (congrFun (f.arg main_arg19 (by decide) (by decide)) _).trans (h.w10 i j)) fun i j => by have e := (at2 t).2.2.1; blk_ext [e]
  b0 := fun t => whole_is (fun i j => (congrFun (f.eq main_v10 (by decide)) _).trans (v10 h i j)) fun i j => by have e := (at2 t).2.2.2; blk_ext [e]

theorem in3 (h : Has m c R) (f : From (m := m) (c := c) V) {G1 : Fin 8 → Fin 128 → ℝ} (g1 : Is (a := 8) (b := 128) (V c (Proc.devRef .tc main_v15)) G1) {G2 : Fin 8 → Fin 256 → ℝ} (g2 : Is (a := 8) (b := 256) (V c (Proc.devRef .tc main_v14)) G2) {G3 : Fin 8 → Fin 512 → ℝ} (g3 : Is (a := 8) (b := 512) (V c (Proc.devRef .tc main_v13)) G3) : In3 V c R.x0 R.wp R.bp R.w00 R.b00 R.wf R.bf G1 G2 G3 where
  x := fun n hn => by
    have ht : (tt3 n).val = n := Nat.mod_eq_of_lt (by omega : n < 16)
    have e := at3_x (tt3 n) (by omega)
    have r := fun i j => (congrFun (f.eq main_v3 (by decide)) _).trans (v3 h (at8 n) i j)
    refine Is.at r fun i j => ?_
    have h8 := at8_val hn
    blk_ext [e]
  w := fun t => whole_is (fun i j => (congrFun (f.arg main_arg7 (by decide) (by decide)) _).trans (h.wp i j)) fun i j => by have e := (at3 t).1; blk_ext [e]
  b := fun t => whole_is (fun i j => (congrFun (f.eq main_v4 (by decide)) _).trans (v4 h i j)) fun i j => by have e := (at3 t).2.1; blk_ext [e]
  w0 := fun t => whole_is (fun i j => (congrFun (f.arg main_arg21 (by decide) (by decide)) _).trans (h.w00 i j)) fun i j => by have e := (at3 t).2.2.1; blk_ext [e]
  b0 := fun t => whole_is (fun i j => (congrFun (f.eq main_v11 (by decide)) _).trans (v11 h i j)) fun i j => by have e := (at3 t).2.2.2.1; blk_ext [e]
  wf := fun t => whole_isE (fun i j => (congrFun (f.arg main_arg23 (by decide) (by decide)) _).trans (h.wf i j)) fun i j => by have e := (at3 t).2.2.2.2.1; blk_ext [e]
  bf := fun t => whole_isE (fun i j => (congrFun (f.eq main_v12 (by decide)) _).trans (v12 h i j)) fun i j => by have e := (at3 t).2.2.2.2.2.1; blk_ext [e]
  g1 := fun t => whole_is g1 fun i j => by have e := (at3 t).2.2.2.2.2.2.1; blk_ext [e]
  g2 := fun t => whole_is g2 fun i j => by have e := (at3 t).2.2.2.2.2.2.2.1; blk_ext [e]
  g3 := fun t => whole_is g3 fun i j => by have e := (at3 t).2.2.2.2.2.2.2.2; blk_ext [e]

theorem ato0 : ∀ t : Fin cfg0.N, win0_9.index t = ![0, 0] := (by decide +kernel : ∀ t : Fin grid0.N, _)
theorem ato1 : ∀ t : Fin cfg1.N, win1_7.index t = ![0, 0] := (by decide +kernel : ∀ t : Fin grid1.N, _)
theorem ato2 : ∀ t : Fin cfg2.N, win2_5.index t = ![0, 0] := (by decide +kernel : ∀ t : Fin grid2.N, _)
theorem ato3 : ∀ t : Fin cfg3.N, (cfg3.win 10).flush t = true → 8 ≤ t.val ∧ win3_10.index t = ![t.val - 8, 0] := (by decide +kernel : ∀ t : Fin grid3.N, _)

/-- An array of reals from the block that holds it whole. -/
theorem Is.of_eq {a b : ℕ} {x y : (⟨2, ![a, b]⟩ : Shape).Idx → EReal} {X : Fin a → Fin b → ℝ} (e : x = y) (h : Is y X) : Is x X := e ▸ h

/-- The reals as an array. -/
def arr {a b : ℕ} (X : Fin a → Fin b → ℝ) : (⟨2, ![a, b]⟩ : Shape).Idx → EReal := fun y => ((X (y 0) (y 1) : ℝ) : EReal)
theorem arr_is {a b : ℕ} (X : Fin a → Fin b → ℝ) : Is (arr X) X := fun _ _ => rfl
theorem is_arr {a b : ℕ} {x : (⟨2, ![a, b]⟩ : Shape).Idx → EReal} {X : Fin a → Fin b → ℝ} (h : Is x X) (y) : x y = arr X y := by
  rw [eq_ix2 y]; exact h _ _

theorem r0 (h : Has m c R) : Is (a := 8) (b := 512) (W2 m c (Proc.devRef .tc main_v13)) R.g3 := by
  refine Is.of_eq ((out_0 (V1 m) c).trans ((dat0 (V1 m) c).arrAt_eq_of_covers 9 (arr R.g3) (by decide +kernel) fun t hf y => ?_)) (arr_is _)
  blk_simp
  refine (is_arr (out0_is (in0 h from1) t) y).trans (congrArg (arr R.g3) ?_)
  have e := ato0 t
  blk_ext [e]

theorem r1 (h : Has m c R) : Is (a := 8) (b := 256) (W3 m c (Proc.devRef .tc main_v14)) R.g2 := by
  refine Is.of_eq ((out_1 (W2 m) c).trans ((dat1 (W2 m) c).arrAt_eq_of_covers 7 (arr R.g2) (by decide +kernel) fun t hf y => ?_)) (arr_is _)
  blk_simp
  refine (is_arr (out1_is (in1 h from2) t) y).trans (congrArg (arr R.g2) ?_)
  have e := ato1 t
  blk_ext [e]

theorem r2 (h : Has m c R) : Is (a := 8) (b := 128) (W4 m c (Proc.devRef .tc main_v15)) R.g1 := by
  refine Is.of_eq ((out_2 (W3 m) c).trans ((dat2 (W3 m) c).arrAt_eq_of_covers 5 (arr R.g1) (by decide +kernel) fun t hf y => ?_)) (arr_is _)
  blk_simp
  refine (is_arr (out2_is (in2 h from3)) y).trans (congrArg (arr R.g1) ?_)
  have e := ato2 t
  blk_ext [e]

end Cert.KernelIdeal.Val
-- ==== Proof.ValOut.lean ====
module

public import proofs.«01_k».proof.Proof.ValMath
public import proofs.«01_k».proof.Proof.Gen.KernelIdeal.Skeleton
public import Idealize.ShloMosaic.Lib.WordCmp
public import proofs.«01_k».proof.Proof.ValK
public import Idealize.ShloMosaic.Lib.Pipeline.ValueKit
public import Idealize.ShloMosaic.Lib.StableHlo.ReadAt

@[expose] public section

set_option maxRecDepth 16384
set_option maxHeartbeats 1000000

noncomputable section

namespace Cert.KernelIdeal.Val

open Cert.KernelIdeal.Gen Cert.Val
open Idealize.ShloMosaic Idealize.ShloMosaic.Tactic

/-! The result of the four calls on real arguments. -/

open Cert.KernelIdeal.Hop

variable {m : (ℓ : Loc nD τ sig) → Buf (Elt Ideal) ℓ} {c : Dev nD} {R : Rs}

theorem in4 (h : Has m c R) : In3 (W4 m) c R.x0 R.wp R.bp R.w00 R.b00 R.wf R.bf R.g1 R.g2 R.g3 :=
  in3 h from4 (r2 h) (Is.of_eq (W4_eq main_v14 (by decide)) (r1 h))
    (Is.of_eq ((W4_eq main_v13 (by decide)).trans (W3_eq main_v13 (by decide))) (r0 h))

/-- The entries as an array. -/
def arrE {a b : ℕ} (X : Fin a → Fin b → EReal) : (⟨2, ![a, b]⟩ : Shape).Idx → EReal := fun y => X (y 0) (y 1)

/-- Row `r` of the result: its batch and its place there. -/
def rowOf (R : Rs) (r : Fin 4096) : Fin 1024 → EReal := R.out ⟨r.val / 512, by omega⟩ ⟨r.val % 512, by omega⟩

theorem r3 (h : Has m c R) : IsE (a := 4096) (b := 1024) (W5 m c (Proc.devRef .tc main_v16)) (rowOf R) := by
  refine fun i j => congrFun ((out_3 (W4 m) c).trans ((dat3 (W4 m) c).arrAt_eq_of_covers 10 (arrE (rowOf R)) (by decide +kernel) fun t hf y => ?_)) (ix2 i j)
  obtain ⟨h8, e⟩ := ato3 t hf
  have ht : t.val < 16 := Nat.lt_of_lt_of_eq t.isLt N_3
  blk_simp
  refine ((congrArg _ (eq_ix2 y)).trans (out3_is (in4 h) t (y 0) (y 1))).trans ?_
  have hy : (y 0).val < 512 := (y 0).isLt
  have e0 : (((win3_10.blk t).view.emb y 0 : Fin _) : ℕ) = (t.val - 8) * 512 + (y 0).val := by blk_simp [e]
  have e1 : (((win3_10.blk t).view.emb y 1 : Fin _) : ℕ) = (y 1).val := by blk_simp [e]
  show R.out (at8 t.val) (y 0) (y 1) = _
  unfold arrE rowOf
  have a0 : at8 t.val = ⟨((win3_10.blk t).view.emb y 0).val / 512, by omega⟩ := Fin.ext (by show t.val % 8 = _ / 512; rw [e0]; omega)
  have a1 : y 0 = (⟨((win3_10.blk t).view.emb y 0).val % 512, by omega⟩ : Fin 512) := Fin.ext (by show _ = _ % 512; rw [e0]; omega)
  rw [a0]
  exact congrArg₂ _ a1 (Fin.ext e1.symm)

/-- The result holds the last layer of the real arguments. -/
theorem res_is (h : Has m c R) : IsE3 (a := 8) (b := 512) (c := 1024) (res m c) R.out := by
  intro t i j
  have hr : rowOf R (⟨t.val * 512 + i.val, by omega⟩ : Fin 4096) j = R.out t i j := by
    have a0 : (⟨(t.val * 512 + i.val) / 512, by omega⟩ : Fin 8) = t := Fin.ext (by show (t.val * 512 + i.val) / 512 = t.val; omega)
    have a1 : (⟨(t.val * 512 + i.val) % 512, by omega⟩ : Fin 512) = i := Fin.ext (by show (t.val * 512 + i.val) % 512 = i.val; omega)
    show R.out (⟨(t.val * 512 + i.val) / 512, _⟩ : Fin 8) (⟨(t.val * 512 + i.val) % 512, _⟩ : Fin 512) j = _
    rw [a0, a1]
  refine Eq.trans ?_ ((r3 h (⟨t.val * 512 + i.val, by omega⟩ : Fin 4096) j).trans hr)
  show W6 m c (Proc.devRef .tc main_v17) (ix3 t i j) = _
  unfold W6
  after_reads_at
end Cert.KernelIdeal.Val
-- ==== Proof.ValFlat.lean ====
module

public import proofs.«01_k».proof.Proof.ValMath
public import Idealize.ShloMosaic.Lib.WordCmp
public import Idealize.ShloMosaic.Lib.IndicatorCount
public import Idealize.ShloMosaic.Lib.Routing.Ops

@[expose] public section

set_option maxRecDepth 16384
set_option maxHeartbeats 1000000

noncomputable section

namespace Cert.Val

open Idealize.ShloMosaic Idealize.ShloMosaic.Tactic

/-! The rows of eight batches in one list, and the reference's normalisation over them. -/

variable {n a N : ℕ}

/-- The batch of row `r`, and its place there. -/
def bq (h : N = 8 * n) (r : Fin N) : Fin 8 := ⟨r.val / n, Nat.div_lt_of_lt_mul (Nat.lt_of_lt_of_eq r.isLt (h.trans (Nat.mul_comm 8 n)))⟩
def br (h : N = 8 * n) (r : Fin N) : Fin n := ⟨r.val % n, Nat.mod_lt _ (Nat.pos_of_ne_zero fun e => by subst e; have := r.isLt; omega)⟩
def flat (h : N = 8 * n) (X : R3 n a) (r : Fin N) : Fin a → ℝ := X (bq h r) (br h r)

theorem sum_flat (h : N = 8 * n) (f : Fin 8 → Fin n → ℝ) : ∑ r : Fin N, f (bq h r) (br h r) = ∑ t, ∑ i, f t i := by
  subst h
  rw [← Fintype.sum_prod_type']
  exact Fintype.sum_equiv finProdFinEquiv.symm _ _ fun r => rfl

theorem flat_at (h : N = 8 * n) (X : R3 n a) (t : Fin 8) (i : Fin n) (e) : flat h X ⟨t.val * n + i.val, e⟩ = X t i := by
  have a0 : bq h ⟨t.val * n + i.val, e⟩ = t := Fin.ext (by
    show (t.val * n + i.val) / n = t.val
    rw [Nat.add_comm, Nat.add_mul_div_right _ _ (Nat.lt_of_le_of_lt (Nat.zero_le _) i.isLt), Nat.div_eq_of_lt i.isLt, Nat.zero_add])
  have a1 : br h ⟨t.val * n + i.val, e⟩ = i := Fin.ext (by
    show (t.val * n + i.val) % n = i.val
    rw [Nat.add_comm, Nat.add_mul_mod_self_right, Nat.mod_eq_of_lt i.isLt])
  unfold flat; rw [a0, a1]

theorem tot_flat (h : N = 8 * n) (X : R3 n a) (j : Fin a) : ∑ r : Fin N, flat h X r j = tot X j := sum_flat h fun t i => X t i j

theorem var_flat (h : N = 8 * n) (X : R3 n a) (M : ℝ) (j : Fin a) :
    (∑ r : Fin N, (flat h X r j - tot X j / M) * (flat h X r j - tot X j / M)) / M = var M X j :=
  congrArg (· / M) (sum_flat h fun t i => (X t i j - tot X j / M) * (X t i j - tot X j / M))

theorem lit_i0 : FloatOps.sitofp (F := Ideal) FTy.f32 0#32 = ((0 : ℝ) : EReal) := by
  show (((0#32 : BitVec 32).toInt : ℝ) : EReal) = _
  simp
theorem lit_i1 : FloatOps.sitofp (F := Ideal) FTy.f32 1#32 = ((1 : ℝ) : EReal) := by
  show (((1#32 : BitVec 32).toInt : ℝ) : EReal) = _
  simp

theorem flat_row (h : N = 8 * n) (X : R3 n a) (r : Fin N) (i : Fin n) (e) : flat h X ⟨r.val / n * n + i.val, e⟩ = X (bq h r) i := flat_at h X (bq h r) i e

/-- Normalisation by the two-pass variance, the number of rows positive. -/
theorem bn_flat (h : N = 8 * n) {M : ℝ} (hM : 0 < M) (X : R3 n a) (r : Fin N) (j : Fin a) (w : EReal) :
    Ideal.div ((flat h X r j - tot X j / M : ℝ) : EReal) (Ideal.sqrt ((if ((0 : ℝ) : EReal) < (M : EReal) then (((∑ r : Fin N, (flat h X r j - tot X j / M) * (flat h X r j - tot X j / M)) / M : ℝ) : EReal) else w) + (eps : EReal)))
      = ((flat h (bn M X) r j : ℝ) : EReal) := by
  have hv := var_nonneg hM X j
  have hp : 0 < var M X j + eps := by have := eps_pos; linarith
  rw [if_pos (by exact_mod_cast hM), var_flat, ← EReal.coe_add, sqrt_real hp.le, div_real _ (Real.sqrt_pos.2 hp).ne']; rfl

/-- The sum that reads one row where the numbers of the rows are in order. -/
theorem pick_real {n : ℕ} (hn : n ≤ 4096) (p : ℕ) (hp : p < n) (f : Fin n → ℝ) :
    ∑ s : Fin n, Scalar.select (IntOp.cmpi CmpIPredicate.eq (BitVec.ofNat 32 s.val) (BitVec.ofNat 32 p)) ((f s : ℝ) : EReal) ((0 : ℝ) : EReal) = ((f ⟨p, hp⟩ : ℝ) : EReal) := by
  have e : ∀ s : Fin n, Scalar.select (IntOp.cmpi CmpIPredicate.eq (BitVec.ofNat 32 s.val) (BitVec.ofNat 32 p)) ((f s : ℝ) : EReal) ((0 : ℝ) : EReal) = if s = ⟨p, hp⟩ then ((f s : ℝ) : EReal) else ((0 : ℝ) : EReal) := fun s => by
    have hs := s.isLt
    have hb : (BitVec.ofNat 32 s.val = BitVec.ofNat 32 p) ↔ s = ⟨p, hp⟩ := by
      rw [Fin.ext_iff]
      refine ⟨fun h => ?_, fun h => by rw [h]⟩
      have := congrArg BitVec.toNat h
      rw [BitVec.toNat_ofNat, BitVec.toNat_ofNat, Nat.mod_eq_of_lt (by omega), Nat.mod_eq_of_lt (by omega)] at this
      exact this
    by_cases h : s = ⟨p, hp⟩
    · rw [if_pos h, hb.2 h]; simp [IntOp.cmpi, Scalar.select]
    · rw [if_neg h]
      have hc : IntOp.cmpi CmpIPredicate.eq (BitVec.ofNat 32 s.val) (BitVec.ofNat 32 p) = 0#1 := by
        show BitVec.ofBool (BitVec.ofNat 32 s.val == BitVec.ofNat 32 p) = 0#1
        rw [beq_eq_false_iff_ne.2 (mt hb.1 h)]; rfl
      rw [hc]; rfl
  rw [Finset.sum_congr rfl fun s _ => e s, EReal.coe_zero]
  simp

theorem pick_flat (h : N = 8 * n) (hn : n ≤ 4096) (r : Fin N) (f : Fin n → ℝ) :
    ∑ s : Fin n, Scalar.select (IntOp.cmpi CmpIPredicate.eq (BitVec.ofNat 32 s.val) (BitVec.ofNat 32 (r.val % n))) ((f s : ℝ) : EReal) ((0 : ℝ) : EReal) = ((f (br h r) : ℝ) : EReal) :=
  pick_real hn _ (br h r).isLt f

/-- The running sums along rows of ones. -/
theorem cumsum_ones {B K : ℕ} (x : IVec ⟨2, ![B, K + 1]⟩ 32) (hx : ∀ i, x i = 1#32) (init : IVec ⟨0, ![]⟩ 32) (hinit : ∀ i, init i = 0#32)
    (h : (⟨2, ![B, K + 1]⟩ : Shape).ReduceWindows (![1, K + 1] : Fin 2 → ℕ) ![1, 1] ![0, K] ![0, 0] ⟨2, ![B, K + 1]⟩) (hu : 0 < (⟨0, ![]⟩ : Shape).numel) (b : Fin B) (j : Fin (K + 1)) :
    Host.reduceWindow IntOp.addi ![1, K + 1] ![1, 1] ![0, K] ![0, 0] x init h hu (ix2 b j) = BitVec.ofNat 32 (j.val + 1) := by
  have hj := j.isLt
  have hb := b.isLt
  unfold Host.reduceWindow
  refine (Routing.foldl_addi_ofNat _ _ (fun n => if K ≤ j.val + n.val then 1 else 0) (fun n _ => ?_) _ 0 (hinit _)).trans ?_
  · have hw0 : ((⟨2, ![1, K + 1]⟩ : Shape).rowMajor.symm n 0).val = 0 := by rw [Routing.symm2 (N := K + 1)]; rfl
    have hw : ((⟨2, ![1, K + 1]⟩ : Shape).rowMajor.symm n 1).val = n.val := by rw [Routing.symm2 (N := K + 1)]; rfl
    have hn : n.val < K + 1 := (n.cast (Routing.numel2 _)).isLt
    dsimp only
    split
    · next hin =>
      have h1 := hin 1
      change K ≤ j.val * 1 + ((⟨2, ![1, K + 1]⟩ : Shape).rowMajor.symm n 1).val ∧ j.val * 1 + ((⟨2, ![1, K + 1]⟩ : Shape).rowMajor.symm n 1).val - K < K + 1 at h1
      rw [hw] at h1
      rw [if_pos (by omega)]
      exact hx _
    · next hin =>
      rw [if_neg fun hle => hin fun a => by
        match a with
        | ⟨0, _⟩ =>
          show 0 ≤ b.val * 1 + ((⟨2, ![1, K + 1]⟩ : Shape).rowMajor.symm n 0).val ∧ b.val * 1 + ((⟨2, ![1, K + 1]⟩ : Shape).rowMajor.symm n 0).val - 0 < B
          rw [hw0]; omega
        | ⟨1, _⟩ =>
          show K ≤ j.val * 1 + ((⟨2, ![1, K + 1]⟩ : Shape).rowMajor.symm n 1).val ∧ j.val * 1 + ((⟨2, ![1, K + 1]⟩ : Shape).rowMajor.symm n 1).val - K < K + 1
          rw [hw]; omega]
      exact hinit _
  · rw [Nat.zero_add, Routing.map_finRange_val _ (fun w => if K ≤ j.val + w then 1 else 0)]
    refine congrArg (BitVec.ofNat 32) ((congrArg (fun M => ((List.range M).map fun w => if K ≤ j.val + w then 1 else 0).sum) (Routing.numel2 (K + 1))).trans ?_)
    refine (Routing.sum_window (fun _ => 1) K j.val (by omega)).trans ?_
    simp

theorem toInt_small (k : ℕ) (h : k < 2 ^ 31) : (BitVec.ofNat 32 k).toInt = k := by
  rw [BitVec.toInt_ofNat', Int.bmod_def]; omega

/-- The number of numbers `x + 1` that are at most `s`. -/
theorem seg_word (s : Fin 4096) :
    IntOp.minsi (Finset.fold IntOp.addi 0#32 (fun x : Fin 4096 => BitVec.setWidth 32 (IntOp.cmpi CmpIPredicate.sle (BitVec.ofNat 32 (x.val + 1)) (BitVec.ofNat 32 s.val))) Finset.univ) 4095#32 = BitVec.ofNat 32 s.val := by
  have hs := s.isLt
  rw [IndicatorCount.fold_addi_setWidth_eq_card]
  have hc : (Finset.univ.filter fun x : Fin 4096 => IntOp.cmpi CmpIPredicate.sle (BitVec.ofNat 32 (x.val + 1)) (BitVec.ofNat 32 s.val) = 1#1).card = s.val := by
    have e : (Finset.univ.filter fun x : Fin 4096 => IntOp.cmpi CmpIPredicate.sle (BitVec.ofNat 32 (x.val + 1)) (BitVec.ofNat 32 s.val) = 1#1) = Finset.Iio s := by
      ext x
      have hx := x.isLt
      rw [Finset.mem_filter, Finset.mem_Iio]
      have ht : IntOp.cmpi CmpIPredicate.sle (BitVec.ofNat 32 (x.val + 1)) (BitVec.ofNat 32 s.val) = 1#1 ↔ (BitVec.ofNat 32 (x.val + 1)).toInt ≤ (BitVec.ofNat 32 s.val).toInt := by
        show BitVec.ofBool (BitVec.sle _ _) = 1#1 ↔ _
        rw [← BitVec.sle_iff_toInt_le]
        cases BitVec.sle (BitVec.ofNat 32 (x.val + 1)) (BitVec.ofNat 32 s.val) <;> decide
      rw [ht, toInt_small _ (by omega), toInt_small _ (by omega), Fin.lt_def]
      simp only [Finset.mem_univ, true_and]; omega
    rw [e, Fin.card_Iio]
  rw [hc]
  unfold IntOp.minsi
  by_cases hl : s.val = 4095
  · rw [hl]; rfl
  · have h1 : (4095#32 : BitVec 32).toInt = 4095 := by decide
    rw [if_pos (BitVec.slt_iff_toInt_lt.2 (by rw [toInt_small _ (by omega), h1]; omega))]

end Cert.Val
-- ==== Proof.ValRef.lean ====
module

public import proofs.«01_k».proof.Proof.ValMath
public import Idealize.ShloMosaic.Lib.WordCmp
public import proofs.«01_k».proof.Proof.ValFlat
public import Idealize.ShloMosaic.Lib.StableHlo.ReadAt
public import proofs.«01_k».proof.Proof.Gen.ReferenceIdeal.Run

@[expose] public section

set_option maxRecDepth 16384
set_option maxHeartbeats 1000000

noncomputable section

namespace Cert.ReferenceIdeal.Val

open Cert.Val Cert.ReferenceIdeal
open Idealize.ShloMosaic Idealize.ShloMosaic.Tactic

/-! The reference's layers on real arguments, every count one. -/

variable (V0 : Valuation τ sig (Elt Ideal)) (R : Rs)

/-- The arguments hold these reals, and the counts are one. -/
structure Has : Prop where
  x3 : Is3 (a := 8) (b := 4096) (c := 512) (V0 (Proc.devRef .tc main_arg0)) R.x3
  x2 : Is3 (a := 8) (b := 4096) (c := 512) (V0 (Proc.devRef .tc main_arg1)) R.x2
  x1 : Is3 (a := 8) (b := 2048) (c := 512) (V0 (Proc.devRef .tc main_arg2)) R.x1
  x0 : Is3 (a := 8) (b := 512) (c := 512) (V0 (Proc.devRef .tc main_arg3)) R.x0
  wp : Is (a := 512) (b := 64) (V0 (Proc.devRef .tc main_arg7)) R.wp
  bp : Is1 (a := 64) (V0 (Proc.devRef .tc main_arg8)) R.bp
  w30 : Is (a := 64) (b := 128) (V0 (Proc.devRef .tc main_arg9)) R.w30
  b30 : Is1 (a := 128) (V0 (Proc.devRef .tc main_arg10)) R.b30
  w31 : Is (a := 128) (b := 256) (V0 (Proc.devRef .tc main_arg11)) R.w31
  b31 : Is1 (a := 256) (V0 (Proc.devRef .tc main_arg12)) R.b31
  w32 : Is (a := 256) (b := 512) (V0 (Proc.devRef .tc main_arg13)) R.w32
  b32 : Is1 (a := 512) (V0 (Proc.devRef .tc main_arg14)) R.b32
  w20 : Is (a := 64) (b := 128) (V0 (Proc.devRef .tc main_arg15)) R.w20
  b20 : Is1 (a := 128) (V0 (Proc.devRef .tc main_arg16)) R.b20
  w21 : Is (a := 128) (b := 256) (V0 (Proc.devRef .tc main_arg17)) R.w21
  b21 : Is1 (a := 256) (V0 (Proc.devRef .tc main_arg18)) R.b21
  w10 : Is (a := 64) (b := 128) (V0 (Proc.devRef .tc main_arg19)) R.w10
  b10 : Is1 (a := 128) (V0 (Proc.devRef .tc main_arg20)) R.b10
  w00 : Is (a := 64) (b := 128) (V0 (Proc.devRef .tc main_arg21)) R.w00
  b00 : Is1 (a := 128) (V0 (Proc.devRef .tc main_arg22)) R.b00
  wf : IsE (a := 1024) (b := 1024) (V0 (Proc.devRef .tc main_arg23)) R.wf
  bf : ∀ i : Fin 1024, (V0 (Proc.devRef .tc main_arg24) (ix1 i) : EReal) = R.bf i
  c3 : ∀ i : S8x4096.Idx, (V0 (Proc.devRef .tc main_arg4) : IVec S8x4096 32) i = 1#32
  c2 : ∀ i : S8x4096.Idx, (V0 (Proc.devRef .tc main_arg5) : IVec S8x4096 32) i = 1#32

theorem e3 : 32768 = 8 * 4096 := rfl
theorem e1 : 16384 = 8 * 2048 := rfl
theorem e0 : 4096 = 8 * 512 := rfl
theorem p32768 : (0 : ℝ) < 32768 := by norm_num
theorem p16384 : (0 : ℝ) < 16384 := by norm_num
theorem p4096 : (0 : ℝ) < 4096 := by norm_num

variable {V0 R}

/-! The number of rows that the variance divides by. -/

theorem n0 : Value.res_main_call0_v8 (F := Ideal) V0 ix0 = ((32768 : ℝ) : EReal) := by
  pointwise [Value.res_main_call0_v8]
  rw [lit_32768, lit_i0, ← EReal.coe_sub, sub_zero]
theorem n4 : Value.res_main_call4_v8 (F := Ideal) V0 ix0 = ((32768 : ℝ) : EReal) := by
  pointwise [Value.res_main_call4_v8]
  rw [lit_32768, lit_i0, ← EReal.coe_sub, sub_zero]
theorem n8 : Value.res_main_call8_v8 (F := Ideal) V0 ix0 = ((32768 : ℝ) : EReal) := by
  pointwise [Value.res_main_call8_v8]
  rw [lit_32768, lit_i0, ← EReal.coe_sub, sub_zero]
theorem n9 : Value.res_main_call9_v8 (F := Ideal) V0 ix0 = ((32768 : ℝ) : EReal) := by
  pointwise [Value.res_main_call9_v8]
  rw [lit_32768, lit_i0, ← EReal.coe_sub, sub_zero]
theorem n13 : Value.res_main_call13_v8 (F := Ideal) V0 ix0 = ((32768 : ℝ) : EReal) := by
  pointwise [Value.res_main_call13_v8]
  rw [lit_32768, lit_i0, ← EReal.coe_sub, sub_zero]
theorem n14 : Value.res_main_call14_v8 (F := Ideal) V0 ix0 = ((16384 : ℝ) : EReal) := by
  pointwise [Value.res_main_call14_v8]
  rw [lit_16384, lit_i0, ← EReal.coe_sub, sub_zero]
theorem n15 : Value.res_main_call15_v8 (F := Ideal) V0 ix0 = ((4096 : ℝ) : EReal) := by
  pointwise [Value.res_main_call15_v8]
  rw [lit_4096, lit_i0, ← EReal.coe_sub, sub_zero]

/-! The rows less their mean. -/

theorem m0 {X : R3 4096 128} (hz : Is (a := 32768) (b := 128) (Value.res_main_v8 V0) (flat e3 X)) :
    Is (a := 32768) (b := 128) (Value.res_main_call0_v5 V0) (fun r j => flat e3 X r j - tot X j / 32768) := by
  intro r j
  pointwise [Value.res_main_call0_v5]
  simp only [hz _ _, lit_32768, coe_sum, tot_flat, div_real _ p32768.ne', ← EReal.coe_sub]
theorem m4 {X : R3 4096 256} (hz : Is (a := 32768) (b := 256) (Value.res_main_v49 V0) (flat e3 X)) :
    Is (a := 32768) (b := 256) (Value.res_main_call4_v5 V0) (fun r j => flat e3 X r j - tot X j / 32768) := by
  intro r j
  pointwise [Value.res_main_call4_v5]
  simp only [hz _ _, lit_32768, coe_sum, tot_flat, div_real _ p32768.ne', ← EReal.coe_sub]
theorem m8 {X : R3 4096 512} (hz : Is (a := 32768) (b := 512) (Value.res_main_v90 V0) (flat e3 X)) :
    Is (a := 32768) (b := 512) (Value.res_main_call8_v5 V0) (fun r j => flat e3 X r j - tot X j / 32768) := by
  intro r j
  pointwise [Value.res_main_call8_v5]
  simp only [hz _ _, lit_32768, coe_sum, tot_flat, div_real _ p32768.ne', ← EReal.coe_sub]
theorem m9 {X : R3 4096 128} (hz : Is (a := 32768) (b := 128) (Value.res_main_v117 V0) (flat e3 X)) :
    Is (a := 32768) (b := 128) (Value.res_main_call9_v5 V0) (fun r j => flat e3 X r j - tot X j / 32768) := by
  intro r j
  pointwise [Value.res_main_call9_v5]
  simp only [hz _ _, lit_32768, coe_sum, tot_flat, div_real _ p32768.ne', ← EReal.coe_sub]
theorem m13 {X : R3 4096 256} (hz : Is (a := 32768) (b := 256) (Value.res_main_v158 V0) (flat e3 X)) :
    Is (a := 32768) (b := 256) (Value.res_main_call13_v5 V0) (fun r j => flat e3 X r j - tot X j / 32768) := by
  intro r j
  pointwise [Value.res_main_call13_v5]
  simp only [hz _ _, lit_32768, coe_sum, tot_flat, div_real _ p32768.ne', ← EReal.coe_sub]
theorem m14 {X : R3 2048 128} (hz : Is (a := 16384) (b := 128) (Value.res_main_v185 V0) (flat e1 X)) :
    Is (a := 16384) (b := 128) (Value.res_main_call14_v5 V0) (fun r j => flat e1 X r j - tot X j / 16384) := by
  intro r j
  pointwise [Value.res_main_call14_v5]
  simp only [hz _ _, lit_16384, coe_sum, tot_flat, div_real _ p16384.ne', ← EReal.coe_sub]
theorem m15 {X : R3 512 128} (hz : Is (a := 4096) (b := 128) (Value.res_main_v212 V0) (flat e0 X)) :
    Is (a := 4096) (b := 128) (Value.res_main_call15_v5 V0) (fun r j => flat e0 X r j - tot X j / 4096) := by
  intro r j
  pointwise [Value.res_main_call15_v5]
  simp only [hz _ _, lit_4096, coe_sum, tot_flat, div_real _ p4096.ne', ← EReal.coe_sub]

/-- The running sums of counts that are all one. -/
theorem cum (x : IVec S8x4096 32) (hx : ∀ i, x i = 1#32) (b : Fin 8) (j : Fin 4096) :
    Host.reduceWindow IntOp.addi ![1, 4096] ![1, 1] ![0, 4095] ![0, 0] x (broadcastInDim S_ ![] Gen.bcast_S_S_ (constantI S_ 32 0#32)) Gen.reduceWindows_S8x4096_S8x4096_w1s1p0_0_w4096s1p4095_0 Gen.h_S_ (ix2 b j)
      = BitVec.ofNat 32 (j.val + 1) := cumsum_ones (B := 8) (K := 4095) x hx _ (fun _ => rfl) _ _ b j

theorem max_one : IntOp.maxsi 1#32 1#32 = 1#32 := rfl

/-! The first layers. -/

variable (h : Has V0 R)
include h

theorem l8 : Is (a := 32768) (b := 128) (Value.res_main_v8 V0) (flat e3 R.p3) := by
  intro r j
  pointwise [Value.res_main_v8]
  simp only [h.x3 _ _ _, h.wp _ _, h.bp _, h.w30 _ _, h.b30 _, ← EReal.coe_mul, ← EReal.coe_add, ← EReal.coe_sub, coe_sum, coe_max]
  rfl

theorem l49 : Is (a := 32768) (b := 256) (Value.res_main_v49 V0) (flat e3 R.q3) := by
  intro r j
  have hz := l8 h
  have hm := m0 hz
  pointwise [Value.res_main_v49]
  simp only [← EReal.coe_zero, hz _ _, hm _ _, n0, lit_32768, lit_eps, coe_sum, ← EReal.coe_mul, tot_flat, div_real _ p32768.ne', ← EReal.coe_sub, bn_flat e3 p32768]
  simp only [flat_row e3, coe_max, cum _ h.c3, seg_word, pick_flat e3 le_rfl, h.c3, max_one, lit_i1, div_real _ one_ne_zero, div_one, h.w31 _ _, h.b31 _, ← EReal.coe_mul, ← EReal.coe_add, ← EReal.coe_sub, coe_sum, coe_max]
  rfl

theorem l90 : Is (a := 32768) (b := 512) (Value.res_main_v90 V0) (flat e3 R.s3) := by
  intro r j
  have hz := l49 h
  have hm := m4 hz
  pointwise [Value.res_main_v90]
  simp only [← EReal.coe_zero, hz _ _, hm _ _, n4, lit_32768, lit_eps, coe_sum, ← EReal.coe_mul, tot_flat, div_real _ p32768.ne', ← EReal.coe_sub, bn_flat e3 p32768]
  simp only [flat_row e3, coe_max, cum _ h.c2, seg_word, pick_flat e3 le_rfl, h.c2, max_one, lit_i1, div_real _ one_ne_zero, div_one, h.w32 _ _, h.b32 _, ← EReal.coe_mul, ← EReal.coe_add, ← EReal.coe_sub, coe_sum, coe_max]
  rfl

theorem l117 : Is (a := 32768) (b := 128) (Value.res_main_v117 V0) (flat e3 R.p2) := by
  intro r j
  pointwise [Value.res_main_v117]
  simp only [h.x2 _ _ _, h.wp _ _, h.bp _, h.w20 _ _, h.b20 _, ← EReal.coe_mul, ← EReal.coe_add, ← EReal.coe_sub, coe_sum, coe_max]
  rfl

theorem l158 : Is (a := 32768) (b := 256) (Value.res_main_v158 V0) (flat e3 R.q2) := by
  intro r j
  have hz := l117 h
  have hm := m9 hz
  pointwise [Value.res_main_v158]
  simp only [← EReal.coe_zero, hz _ _, hm _ _, n9, lit_32768, lit_eps, coe_sum, ← EReal.coe_mul, tot_flat, div_real _ p32768.ne', ← EReal.coe_sub, bn_flat e3 p32768]
  simp only [flat_row e3, coe_max, cum _ h.c2, seg_word, pick_flat e3 le_rfl, h.c2, max_one, lit_i1, div_real _ one_ne_zero, div_one, h.w21 _ _, h.b21 _, ← EReal.coe_mul, ← EReal.coe_add, ← EReal.coe_sub, coe_sum, coe_max]
  rfl

theorem l185 : Is (a := 16384) (b := 128) (Value.res_main_v185 V0) (flat e1 R.p1) := by
  intro r j
  pointwise [Value.res_main_v185]
  simp only [h.x1 _ _ _, h.wp _ _, h.bp _, h.w10 _ _, h.b10 _, ← EReal.coe_mul, ← EReal.coe_add, ← EReal.coe_sub, coe_sum, coe_max]
  rfl

theorem l212 : Is (a := 4096) (b := 128) (Value.res_main_v212 V0) (flat e0 R.p0) := by
  intro r j
  pointwise [Value.res_main_v212]
  simp only [h.x0 _ _ _, h.wp _ _, h.bp _, h.w00 _ _, h.b00 _, ← EReal.coe_mul, ← EReal.coe_add, ← EReal.coe_sub, coe_sum, coe_max]
  rfl

/-- The four parts side by side. -/
def feat (R : Rs) (t : Fin 8) (i : Fin 512) (j : Fin 1024) : ℝ :=
  if h : j.val < 128 then bn 4096 R.p0 t i ⟨j.val, h⟩
  else if h1 : j.val - 128 < 128 then R.g1 t ⟨j.val - 128, h1⟩
  else if h2 : j.val - 128 - 128 < 256 then R.g2 t ⟨j.val - 128 - 128, h2⟩ else R.g3 t ⟨j.val - 128 - 128 - 256, by omega⟩

theorem l230 : Is3 (a := 8) (b := 512) (c := 1024) (Value.res_main_v230 V0) (feat R) := by
  intro t i j
  have hz := l212 h
  have hm := m15 hz
  have hz1 := l185 h
  have hm1 := m14 hz1
  have hz2 := l158 h
  have hm2 := m13 hz2
  have hz3 := l90 h
  have hm3 := m8 hz3
  pointwise [Value.res_main_v230]
  simp only [← EReal.coe_zero, hz _ _, hm _ _, n15, hz1 _ _, hm1 _ _, n14, hz2 _ _, hm2 _ _, n13, hz3 _ _, hm3 _ _, n8, lit_32768, lit_16384, lit_4096, lit_2048, lit_eps, coe_sum, ← EReal.coe_mul, tot_flat,
    div_real _ p32768.ne', div_real _ p16384.ne', div_real _ p4096.ne', ← EReal.coe_sub, bn_flat e3 p32768, bn_flat e1 p16384, bn_flat e0 p4096]
  simp only [flat_at, coe_sum, div_real _ p4096.ne', div_real _ (show (2048 : ℝ) ≠ 0 by norm_num)]
  unfold feat
  split
  · rfl
  · split
    · rfl
    · split <;> rfl

omit h in
/-- The sum over the four parts, the first apart. -/
theorem feat_sum (R : Rs) (t : Fin 8) (i : Fin 512) (j : Fin 1024) : ∑ k, ((feat R t i k : ℝ) : EReal) * R.wf k j + R.bf j = R.out t i j := by
  have e := Fin.sum_univ_add (a := 128) (b := 896) fun k => ((feat R t i k : ℝ) : EReal) * R.wf k j
  have e1 : ∀ k : Fin 128, feat R t i (Fin.castAdd 896 k) = bn 4096 R.p0 t i k := fun k => by
    unfold feat; rw [dif_pos (show (Fin.castAdd 896 k).val < 128 from k.isLt)]; rfl
  have e2 : ∀ k : Fin 896, feat R t i (Fin.natAdd 128 k) = cat3 R.g1 R.g2 R.g3 t k := fun k => by
    have hk : (Fin.natAdd 128 k).val - 128 = k.val := Nat.add_sub_cancel_left _ _
    unfold feat cat3
    rw [dif_neg (show ¬ (Fin.natAdd 128 k).val < 128 by show ¬ 128 + k.val < 128; omega)]
    simp only [hk]
  simp only [e1, e2] at e
  refine (congrArg (· + R.bf j) e).trans ?_
  show _ + _ + _ = _ + (_ + _)
  rw [add_assoc]; rfl

/-- What the reference returns of its arguments. -/
def result (V0 : Valuation τ sig (Elt Ideal)) : (⟨S8x512x1024, .f32⟩ : BufTy).Contents (Elt Ideal) :=
  addf (F := Ideal) (Host.dotGeneral (φ₁ := .f32) (φ₂ := .f32) dot_S8x512x1024_S1024x1024_S8x512x1024_2_0_01_1_n_n none (Value.res_main_v230 V0) (V0 (Proc.devRef .tc main_arg23)))
    (broadcastInDim S8x512x1024 ![0, 1, 2] Gen.bcast_S1x1x1024_S8x512x1024_0_1_2 (broadcastInDim S1x1x1024 ![2] Gen.bcast_S1024_S1x1x1024_2 (V0 (Proc.devRef .tc main_arg24))))

/-- It holds the last layer of the real arguments. -/
theorem res_is : IsE3 (a := 8) (b := 512) (c := 1024) (result V0) R.out := by
  intro t i j
  have hz := l230 h
  rw [← feat_sum]
  pointwise [result]
  simp only [hz _ _ _, h.wf _ _, h.bf _]

end Cert.ReferenceIdeal.Val
-- ==== Proof.ValPre.lean ====
module

public import proofs.«01_k».proof.Defs
public import proofs.«01_k».proof.Proof.Gen.KernelIdeal
public import proofs.«01_k».proof.Proof.Gen.ReferenceIdeal
public import proofs.«01_k».proof.Proof.ValOut
public import proofs.«01_k».proof.Proof.ValRef

@[expose] public section

set_option maxRecDepth 16384
set_option maxHeartbeats 1000000

noncomputable section

/-! What the precondition says of the arguments, for both programs. -/

/-- The shape relations the precondition states. -/
instance Cert.Pre_numbers_and_ones.Gen.facts : Cert.Pre_numbers_and_ones.Facts where
  bcast_S_S8x4096x512 := by decide
  bcast_S_S8x2048x512 := by decide
  bcast_S_S8x512x512 := by decide
  bcast_S_S512x64 := by decide
  bcast_S_S64 := by decide
  bcast_S_S64x128 := by decide
  bcast_S_S128 := by decide
  bcast_S_S128x256 := by decide
  bcast_S_S256 := by decide
  bcast_S_S256x512 := by decide
  bcast_S_S512 := by decide
  bcast_S_S8x4096 := by decide

namespace Cert.Val

open Idealize.ShloMosaic Idealize.ShloMosaic.Tactic

/-- An extended real that leaves zero when taken from itself is a real. -/
theorem real_of_sub {x : EReal} (h : x - x = 0) : x = ((x.toReal : ℝ) : EReal) := by
  induction x using EReal.rec with
  | bot => exact absurd h (by decide)
  | coe r => rw [EReal.toReal_coe]
  | top => exact absurd h (by decide)

/-- An array of which the precondition's test holds everywhere holds reals. -/
theorem num {s : Shape} {x : FVec Ideal s .f32} {b : (⟨0, ![]⟩ : Shape).BroadcastsInDim s (![] : Fin 0 → Fin s.rank)}
    (h : cmpf .oeq (subf x x) (broadcastInDim s ![] b (constant (F := Ideal) ⟨0, ![]⟩ .f32 0x00000000#32)) = fun _ => 1#1) (i : s.Idx) :
    (x i : EReal) = (((x i : EReal).toReal : ℝ) : EReal) := by
  have e := congrFun h i
  refine real_of_sub ?_
  pointwise at e
  exact of_decide_eq_true ((by decide : ∀ b : Bool, BitVec.ofBool b = 1#1 → b = true) _ e)

/-- An array of which the precondition's test for ones holds everywhere holds ones. -/
theorem one {s : Shape} {x : IVec s 32} {b : (⟨0, ![]⟩ : Shape).BroadcastsInDim s (![] : Fin 0 → Fin s.rank)}
    (h : cmpi .eq x (broadcastInDim s ![] b (constantI ⟨0, ![]⟩ 32 1#32)) = fun _ => 1#1) (i : s.Idx) : x i = 1#32 := by
  have e := congrFun h i
  pointwise at e
  exact eq_of_beq ((by decide : ∀ b : Bool, BitVec.ofBool b = 1#1 → b = true) _ e)

/-- Of a conjunction that holds everywhere, both hold. -/
theorem both {s : Shape} {x y : IVec s 1} (h : andi x y = fun _ => 1#1) : (x = fun _ => 1#1) ∧ y = fun _ => 1#1 := by
  have k : ∀ a b : BitVec 1, a &&& b = 1#1 → a = 1#1 ∧ b = 1#1 := by decide
  exact ⟨funext fun i => (k _ _ (congrFun h i)).1, funext fun i => (k _ _ (congrFun h i)).2⟩

end Cert.Val

namespace Cert.KernelIdeal.Val

open Cert.Val Cert.KernelIdeal
open Idealize.ShloMosaic Idealize.ShloMosaic.StableHlo Idealize.SL.Sem

variable (m : (ℓ : Loc nD τ sig) → Buf (Elt Ideal) ℓ) (c : Dev nD)

/-- The arguments, all but the last two as reals. -/
def reals : Rs where
  x3 := fun t i j => (m ((c.tc : Thread nD τ).loc main_arg0) (ix3 t i j) : EReal).toReal
  x2 := fun t i j => (m ((c.tc : Thread nD τ).loc main_arg1) (ix3 t i j) : EReal).toReal
  x1 := fun t i j => (m ((c.tc : Thread nD τ).loc main_arg2) (ix3 t i j) : EReal).toReal
  x0 := fun t i j => (m ((c.tc : Thread nD τ).loc main_arg3) (ix3 t i j) : EReal).toReal
  wp := fun i j => (m ((c.tc : Thread nD τ).loc main_arg7) (ix2 i j) : EReal).toReal
  bp := fun i => (m ((c.tc : Thread nD τ).loc main_arg8) (ix1 i) : EReal).toReal
  w30 := fun i j => (m ((c.tc : Thread nD τ).loc main_arg9) (ix2 i j) : EReal).toReal
  b30 := fun i => (m ((c.tc : Thread nD τ).loc main_arg10) (ix1 i) : EReal).toReal
  w31 := fun i j => (m ((c.tc : Thread nD τ).loc main_arg11) (ix2 i j) : EReal).toReal
  b31 := fun i => (m ((c.tc : Thread nD τ).loc main_arg12) (ix1 i) : EReal).toReal
  w32 := fun i j => (m ((c.tc : Thread nD τ).loc main_arg13) (ix2 i j) : EReal).toReal
  b32 := fun i => (m ((c.tc : Thread nD τ).loc main_arg14) (ix1 i) : EReal).toReal
  w20 := fun i j => (m ((c.tc : Thread nD τ).loc main_arg15) (ix2 i j) : EReal).toReal
  b20 := fun i => (m ((c.tc : Thread nD τ).loc main_arg16) (ix1 i) : EReal).toReal
  w21 := fun i j => (m ((c.tc : Thread nD τ).loc main_arg17) (ix2 i j) : EReal).toReal
  b21 := fun i => (m ((c.tc : Thread nD τ).loc main_arg18) (ix1 i) : EReal).toReal
  w10 := fun i j => (m ((c.tc : Thread nD τ).loc main_arg19) (ix2 i j) : EReal).toReal
  b10 := fun i => (m ((c.tc : Thread nD τ).loc main_arg20) (ix1 i) : EReal).toReal
  w00 := fun i j => (m ((c.tc : Thread nD τ).loc main_arg21) (ix2 i j) : EReal).toReal
  b00 := fun i => (m ((c.tc : Thread nD τ).loc main_arg22) (ix1 i) : EReal).toReal
  wf := fun i j => (m ((c.tc : Thread nD τ).loc main_arg23) (ix2 i j) : EReal)
  bf := fun i => (m ((c.tc : Thread nD τ).loc main_arg24) (ix1 i) : EReal)

/-- The precondition gives the reals of the arguments and the counts. -/
theorem has (hp : Pre_KernelIdeal_numbers_and_ones m) : Has m c (reals m c)
    ∧ (∀ i : S8x4096.Idx, (m ((c.tc : Thread nD τ).loc main_arg4) : IVec S8x4096 32) i = 1#32)
    ∧ ∀ i : S8x4096.Idx, (m ((c.tc : Thread nD τ).loc main_arg5) : IVec S8x4096 32) i = 1#32 := by
  obtain ⟨p0, p1, p2, p3, p4, p5, p6, p7, p8, p9, p10, p11⟩ := hp c
  exact ⟨{
    x3 := fun t i j => num ((both p0).1) (ix3 t i j)
    x2 := fun t i j => num ((both p0).2) (ix3 t i j)
    x1 := fun t i j => num p1 (ix3 t i j)
    x0 := fun t i j => num p2 (ix3 t i j)
    wp := fun i j => num p3 (ix2 i j)
    bp := fun i => num p4 (ix1 i)
    w30 := fun i j => num ((both (both (both p5).1).1).1) (ix2 i j)
    b30 := fun i => num ((both (both (both p6).1).1).1) (ix1 i)
    w31 := fun i j => num ((both p7).1) (ix2 i j)
    b31 := fun i => num ((both p8).1) (ix1 i)
    w32 := fun i j => num p9 (ix2 i j)
    b32 := fun i => num p10 (ix1 i)
    w20 := fun i j => num ((both (both (both p5).1).1).2) (ix2 i j)
    b20 := fun i => num ((both (both (both p6).1).1).2) (ix1 i)
    w21 := fun i j => num ((both p7).2) (ix2 i j)
    b21 := fun i => num ((both p8).2) (ix1 i)
    w10 := fun i j => num ((both (both p5).1).2) (ix2 i j)
    b10 := fun i => num ((both (both p6).1).2) (ix1 i)
    w00 := fun i j => num ((both p5).2) (ix2 i j)
    b00 := fun i => num ((both p6).2) (ix1 i)
    wf := fun _ _ => rfl
    bf := fun _ => rfl
  }, one (both p11).1, one (both p11).2⟩

end Cert.KernelIdeal.Val

namespace Cert.Val

open Idealize.ShloMosaic Idealize.ShloMosaic.StableHlo Idealize.SL.Sem

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The two programs' arguments are equal. -/
abbrev sameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)

/-- The reference's arguments, equal to the kernel's, hold the same reals. -/
theorem has_ref (hp : Pre_KernelIdeal_numbers_and_ones m) (e : sameArgs m m' c) :
    Cert.ReferenceIdeal.Val.Has (launchContents m' c) (Cert.KernelIdeal.Val.reals m c) := by
  obtain ⟨e0, e1, e2, e3, e4, e5, e6, e7, e8, e9, e10, e11, e12, e13, e14, e15, e16, e17, e18, e19, e20, e21, e22, e23, e24⟩ := e
  obtain ⟨h, o3, o2⟩ := Cert.KernelIdeal.Val.has m c hp
  exact {
    x3 := fun t i j => (congrFun e0 _).trans (h.x3 t i j)
    x2 := fun t i j => (congrFun e1 _).trans (h.x2 t i j)
    x1 := fun t i j => (congrFun e2 _).trans (h.x1 t i j)
    x0 := fun t i j => (congrFun e3 _).trans (h.x0 t i j)
    wp := fun i j => (congrFun e7 _).trans (h.wp i j)
    bp := fun i => (congrFun e8 _).trans (h.bp i)
    w30 := fun i j => (congrFun e9 _).trans (h.w30 i j)
    b30 := fun i => (congrFun e10 _).trans (h.b30 i)
    w31 := fun i j => (congrFun e11 _).trans (h.w31 i j)
    b31 := fun i => (congrFun e12 _).trans (h.b31 i)
    w32 := fun i j => (congrFun e13 _).trans (h.w32 i j)
    b32 := fun i => (congrFun e14 _).trans (h.b32 i)
    w20 := fun i j => (congrFun e15 _).trans (h.w20 i j)
    b20 := fun i => (congrFun e16 _).trans (h.b20 i)
    w21 := fun i j => (congrFun e17 _).trans (h.w21 i j)
    b21 := fun i => (congrFun e18 _).trans (h.b21 i)
    w10 := fun i j => (congrFun e19 _).trans (h.w10 i j)
    b10 := fun i => (congrFun e20 _).trans (h.b10 i)
    w00 := fun i j => (congrFun e21 _).trans (h.w00 i j)
    b00 := fun i => (congrFun e22 _).trans (h.b00 i)
    wf := fun i j => (congrFun e23 _).trans (h.wf i j)
    bf := fun i => (congrFun e24 _).trans (h.bf i)
    c3 := fun i => (congrFun e4 i).trans (o3 i)
    c2 := fun i => (congrFun e5 i).trans (o2 i) }

/-- The two results are equal. -/
theorem res_eq (hp : Pre_KernelIdeal_numbers_and_ones m) (e : sameArgs m m' c) :
    Cert.ReferenceIdeal.Val.result (launchContents m' c) = Cert.KernelIdeal.Hop.res m c := by
  refine funext fun y => ?_
  obtain ⟨t, i, j, rfl⟩ : ∃ t i j, y = ix3 t i j := ⟨y 0, y 1, y 2, funext fun k => by fin_cases k <;> rfl⟩
  exact (Cert.ReferenceIdeal.Val.res_is (has_ref hp e) t i j).trans (Cert.KernelIdeal.Val.res_is (Cert.KernelIdeal.Val.has m c hp).1 t i j).symm

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Transport
public import proofs.«01_k».proof.Proof.Run
public import proofs.«01_k».proof.Proof.ValPre
public import Idealize.ShloMosaic.Adequacy
public import Idealize.ShloMosaic.Init

@[expose] public section

noncomputable section

namespace Cert.Proof

open Idealize.ShloMosaic Idealize.SL.Sem Cert.Kernel

/-- The frame of the kernel. -/
theorem frame_Kernel : quiescent_Kernel (hKernel := Cert.Kernel.Gen.facts) :=
  QKeq ▸ (fun m g _ => (θ_run _ _ _).monotone (fun r h => ⟨fun c => (h.1 c).2, h.2⟩) (Cert.KernelIdeal.Hop.run_args m g) : QK)

/-- The frame of the idealized kernel. -/
theorem frame_KernelIdeal : quiescent_KernelIdeal (hKernelIdeal := Cert.KernelIdeal.Gen.facts) :=
  fun m g _ => (θ_run _ _ _).monotone (fun r h => ⟨fun c => (h.1 c).2, h.2⟩) (Cert.KernelIdeal.Hop.run_args m g)

/-- The frame of the reference, which has no semaphore. -/
theorem frame_ReferenceIdeal : quiescent_ReferenceIdeal (hReferenceIdeal := Cert.ReferenceIdeal.Gen.facts) :=
  fun m g _ => (θ_run _ _ _).mono (fun r h => ⟨fun c => (h c).2, sem_eq_zero_of_no_sems (by decide) r.2⟩) (Cert.ReferenceIdeal.Value.run m g)

/-- The two idealized programs agree on arguments the precondition admits. -/
theorem algebraic : algebraic_KernelIdeal_ReferenceIdeal_pre_numbers_and_ones (hKernelIdeal := Cert.KernelIdeal.Gen.facts)
    (hReferenceIdeal := Cert.ReferenceIdeal.Gen.facts) (hPre_numbers_and_ones := Cert.Pre_numbers_and_ones.Gen.facts) :=
  fun m g m' g' hp e => ⟨fun c => Cert.KernelIdeal.Hop.res m c,
    (θ_run _ _ _).monotone (fun r h => h.1) (Cert.KernelIdeal.Hop.run_args m g),
    (θ_run _ _ _).mono (fun r h c => ⟨(h c).1.trans (Cert.Val.res_eq hp (e c)), (h c).2⟩) (Cert.ReferenceIdeal.Value.run m' g')⟩

theorem claim : Cert.Claim := ⟨Cert.Kernel.Gen.facts, Cert.KernelIdeal.Gen.facts, Cert.ReferenceIdeal.Gen.facts, Cert.Pre_numbers_and_ones.Gen.facts,
  frame_Kernel, frame_KernelIdeal, fun m g _ => frame_KernelIdeal m g trivial, frame_ReferenceIdeal, fun m g _ => frame_ReferenceIdeal m g trivial,
  trivial, algebraic⟩

end Cert.Proof

end
